-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalIdeal_finite [hPre_finite : Cert.Pre_finite.Facts] (m : (ℓ : Loc Cert.FinalIdeal.nD Cert.FinalIdeal.τ Cert.FinalIdeal.sig) → Buf (Elt Ideal) ℓ) : Prop :=
  ∀ c : Dev Cert.FinalIdeal.nD,
    (Cert.Pre_finite.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2))) = (fun _ => 1#1)

def Pre_FinalReferenceIdeal (m : (ℓ : Loc Cert.FinalReferenceIdeal.nD Cert.FinalReferenceIdeal.τ Cert.FinalReferenceIdeal.sig) → Buf (Elt Ideal) ℓ) : Prop :=
  True

def Pre_FinalReferenceIdeal_finite [hPre_finite : Cert.Pre_finite.Facts] (m : (ℓ : Loc Cert.FinalReferenceIdeal.nD Cert.FinalReferenceIdeal.τ Cert.FinalReferenceIdeal.sig) → Buf (Elt Ideal) ℓ) : Prop :=
  ∀ c : Dev Cert.FinalReferenceIdeal.nD,
    (Cert.Pre_finite.fn (F := Ideal) (m ((c.tc : Thread Cert.FinalReferenceIdeal.nD Cert.FinalReferenceIdeal.τ).loc Cert.FinalReferenceIdeal.main_arg0)) (m ((c.tc : Thread Cert.FinalReferenceIdeal.nD Cert.FinalReferenceIdeal.τ).loc Cert.FinalReferenceIdeal.main_arg1)) (m ((c.tc : Thread Cert.FinalReferenceIdeal.nD Cert.FinalReferenceIdeal.τ).loc Cert.FinalReferenceIdeal.main_arg2))) = (fun _ => 1#1)

def Pre_Reduce [hPre_listed : Cert.Pre_listed.Facts] (m : (ℓ : Loc Cert.Reduce.nD Cert.Reduce.τ Cert.Reduce.sig) → Buf (Elt Bits) ℓ) : Prop :=
  ∀ c : Dev Cert.Reduce.nD,
    (Cert.Pre_listed.fn (F := Bits) (m ((c.tc : Thread Cert.Reduce.nD Cert.Reduce.τ).loc Cert.Reduce.main_arg0)) (m ((c.tc : Thread Cert.Reduce.nD Cert.Reduce.τ).loc Cert.Reduce.main_arg1)) (m ((c.tc : Thread Cert.Reduce.nD Cert.Reduce.τ).loc Cert.Reduce.main_arg2))) = (fun _ => 1#1)

def Pre_ReduceIdeal [hPre_listed : Cert.Pre_listed.Facts] (m : (ℓ : Loc Cert.ReduceIdeal.nD Cert.ReduceIdeal.τ Cert.ReduceIdeal.sig) → Buf (Elt Ideal) ℓ) : Prop :=
  ∀ c : Dev Cert.ReduceIdeal.nD,
    (Cert.Pre_listed.fn (F := Ideal) (m ((c.tc : Thread Cert.ReduceIdeal.nD Cert.ReduceIdeal.τ).loc Cert.ReduceIdeal.main_arg0)) (m ((c.tc : Thread Cert.ReduceIdeal.nD Cert.ReduceIdeal.τ).loc Cert.ReduceIdeal.main_arg1)) (m ((c.tc : Thread Cert.ReduceIdeal.nD Cert.ReduceIdeal.τ).loc Cert.ReduceIdeal.main_arg2))) = (fun _ => 1#1)

def Pre_ReduceIdeal_sensors [hPre_sensors : Cert.Pre_sensors.Facts] (m : (ℓ : Loc Cert.ReduceIdeal.nD Cert.ReduceIdeal.τ Cert.ReduceIdeal.sig) → Buf (Elt Ideal) ℓ) : Prop :=
  ∀ c : Dev Cert.ReduceIdeal.nD,
    (Cert.Pre_sensors.fn (F := Ideal) (m ((c.tc : Thread Cert.ReduceIdeal.nD Cert.ReduceIdeal.τ).loc Cert.ReduceIdeal.main_arg0)) (m ((c.tc : Thread Cert.ReduceIdeal.nD Cert.ReduceIdeal.τ).loc Cert.ReduceIdeal.main_arg1)) (m ((c.tc : Thread Cert.ReduceIdeal.nD Cert.ReduceIdeal.τ).loc Cert.ReduceIdeal.main_arg2))) = (fun _ => 1#1)

def Pre_ReduceReferenceIdeal (m : (ℓ : Loc Cert.ReduceReferenceIdeal.nD Cert.ReduceReferenceIdeal.τ Cert.ReduceReferenceIdeal.sig) → Buf (Elt Ideal) ℓ) : Prop :=
  True

def Pre_ReduceReferenceIdeal_sensors [hPre_sensors : Cert.Pre_sensors.Facts] (m : (ℓ : Loc Cert.ReduceReferenceIdeal.nD Cert.ReduceReferenceIdeal.τ Cert.ReduceReferenceIdeal.sig) → Buf (Elt Ideal) ℓ) : Prop :=
  ∀ c : Dev Cert.ReduceReferenceIdeal.nD,
    (Cert.Pre_sensors.fn (F := Ideal) (m ((c.tc : Thread Cert.ReduceReferenceIdeal.nD Cert.ReduceReferenceIdeal.τ).loc Cert.ReduceReferenceIdeal.main_arg0)) (m ((c.tc : Thread Cert.ReduceReferenceIdeal.nD Cert.ReduceReferenceIdeal.τ).loc Cert.ReduceReferenceIdeal.main_arg1)) (m ((c.tc : Thread Cert.ReduceReferenceIdeal.nD Cert.ReduceReferenceIdeal.τ).loc Cert.ReduceReferenceIdeal.main_arg2))) = (fun _ => 1#1)

def Pre_Prepare [hPre_drawn : Cert.Pre_drawn.Facts] (m : (ℓ : Loc Cert.Prepare.nD Cert.Prepare.τ Cert.Prepare.sig) → Buf (Elt Bits) ℓ) : Prop :=
  ∀ c : Dev Cert.Prepare.nD,
    (Cert.Pre_drawn.fn (F := Bits) (m ((c.tc : Thread Cert.Prepare.nD Cert.Prepare.τ).loc Cert.Prepare.main_arg0)) (m ((c.tc : Thread Cert.Prepare.nD Cert.Prepare.τ).loc Cert.Prepare.main_arg1)) (m ((c.tc : Thread Cert.Prepare.nD Cert.Prepare.τ).loc Cert.Prepare.main_arg2)) (m ((c.tc : Thread Cert.Prepare.nD Cert.Prepare.τ).loc Cert.Prepare.main_arg3)) (m ((c.tc : Thread Cert.Prepare.nD Cert.Prepare.τ).loc Cert.Prepare.main_arg4)) (m ((c.tc : Thread Cert.Prepare.nD Cert.Prepare.τ).loc Cert.Prepare.main_arg5)) (m ((c.tc : Thread Cert.Prepare.nD Cert.Prepare.τ).loc Cert.Prepare.main_arg6))) = (fun _ => 1#1)

def Pre_PrepareIdeal [hPre_drawn : Cert.Pre_drawn.Facts] (m : (ℓ : Loc Cert.PrepareIdeal.nD Cert.PrepareIdeal.τ Cert.PrepareIdeal.sig) → Buf (Elt Ideal) ℓ) : Prop :=
  ∀ c : Dev Cert.PrepareIdeal.nD,
    (Cert.Pre_drawn.fn (F := Ideal) (m ((c.tc : Thread Cert.PrepareIdeal.nD Cert.PrepareIdeal.τ).loc Cert.PrepareIdeal.main_arg0)) (m ((c.tc : Thread Cert.PrepareIdeal.nD Cert.PrepareIdeal.τ).loc Cert.PrepareIdeal.main_arg1)) (m ((c.tc : Thread Cert.PrepareIdeal.nD Cert.PrepareIdeal.τ).loc Cert.PrepareIdeal.main_arg2)) (m ((c.tc : Thread Cert.PrepareIdeal.nD Cert.PrepareIdeal.τ).loc Cert.PrepareIdeal.main_arg3)) (m ((c.tc : Thread Cert.PrepareIdeal.nD Cert.PrepareIdeal.τ).loc Cert.PrepareIdeal.main_arg4)) (m ((c.tc : Thread Cert.PrepareIdeal.nD Cert.PrepareIdeal.τ).loc Cert.PrepareIdeal.main_arg5)) (m ((c.tc : Thread Cert.PrepareIdeal.nD Cert.PrepareIdeal.τ).loc Cert.PrepareIdeal.main_arg6))) = (fun _ => 1#1)

def Pre_PrepareIdeal_measured [hPre_measured : Cert.Pre_measured.Facts] (m : (ℓ : Loc Cert.PrepareIdeal.nD Cert.PrepareIdeal.τ Cert.PrepareIdeal.sig) → Buf (Elt Ideal) ℓ) : Prop :=
  ∀ c : Dev Cert.PrepareIdeal.nD,
    (Cert.Pre_measured.fn (F := Ideal) (m ((c.tc : Thread Cert.PrepareIdeal.nD Cert.PrepareIdeal.τ).loc Cert.PrepareIdeal.main_arg0)) (m ((c.tc : Thread Cert.PrepareIdeal.nD Cert.PrepareIdeal.τ).loc Cert.PrepareIdeal.main_arg1)) (m ((c.tc : Thread Cert.PrepareIdeal.nD Cert.PrepareIdeal.τ).loc Cert.PrepareIdeal.main_arg2)) (m ((c.tc : Thread Cert.PrepareIdeal.nD Cert.PrepareIdeal.τ).loc Cert.PrepareIdeal.main_arg3)) (m ((c.tc : Thread Cert.PrepareIdeal.nD Cert.PrepareIdeal.τ).loc Cert.PrepareIdeal.main_arg4)) (m ((c.tc : Thread Cert.PrepareIdeal.nD Cert.PrepareIdeal.τ).loc Cert.PrepareIdeal.main_arg5)) (m ((c.tc : Thread Cert.PrepareIdeal.nD Cert.PrepareIdeal.τ).loc Cert.PrepareIdeal.main_arg6))) = (fun _ => 1#1)

def Pre_PrepareReferenceIdeal (m : (ℓ : Loc Cert.PrepareReferenceIdeal.nD Cert.PrepareReferenceIdeal.τ Cert.PrepareReferenceIdeal.sig) → Buf (Elt Ideal) ℓ) : Prop :=
  True

def Pre_PrepareReferenceIdeal_measured [hPre_measured : Cert.Pre_measured.Facts] (m : (ℓ : Loc Cert.PrepareReferenceIdeal.nD Cert.PrepareReferenceIdeal.τ Cert.PrepareReferenceIdeal.sig) → Buf (Elt Ideal) ℓ) : Prop :=
  ∀ c : Dev Cert.PrepareReferenceIdeal.nD,
    (Cert.Pre_measured.fn (F := Ideal) (m ((c.tc : Thread Cert.PrepareReferenceIdeal.nD Cert.PrepareReferenceIdeal.τ).loc Cert.PrepareReferenceIdeal.main_arg0)) (m ((c.tc : Thread Cert.PrepareReferenceIdeal.nD Cert.PrepareReferenceIdeal.τ).loc Cert.PrepareReferenceIdeal.main_arg1)) (m ((c.tc : Thread Cert.PrepareReferenceIdeal.nD Cert.PrepareReferenceIdeal.τ).loc Cert.PrepareReferenceIdeal.main_arg2)) (m ((c.tc : Thread Cert.PrepareReferenceIdeal.nD Cert.PrepareReferenceIdeal.τ).loc Cert.PrepareReferenceIdeal.main_arg3)) (m ((c.tc : Thread Cert.PrepareReferenceIdeal.nD Cert.PrepareReferenceIdeal.τ).loc Cert.PrepareReferenceIdeal.main_arg4)) (m ((c.tc : Thread Cert.PrepareReferenceIdeal.nD Cert.PrepareReferenceIdeal.τ).loc Cert.PrepareReferenceIdeal.main_arg5)) (m ((c.tc : Thread Cert.PrepareReferenceIdeal.nD Cert.PrepareReferenceIdeal.τ).loc Cert.PrepareReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalIdeal_pre_finite [hFinalIdeal : Cert.FinalIdeal.Facts] [hPre_finite : Cert.Pre_finite.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal_finite m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2))
      ∧ r.2.sem = fun _ => 0)

def quiescent_FinalReferenceIdeal_pre_finite [hFinalReferenceIdeal : Cert.FinalReferenceIdeal.Facts] [hPre_finite : Cert.Pre_finite.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal_finite m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2))
      ∧ r.2.sem = fun _ => 0)

def quiescent_Reduce [hReduce : Cert.Reduce.Facts] [hPre_listed : Cert.Pre_listed.Facts] : Prop :=
  ∀ (m : (ℓ : Loc Cert.Reduce.nD Cert.Reduce.τ Cert.Reduce.sig) → Buf (Elt Bits) ℓ) (g : Dev Cert.Reduce.nD → PrngReg), Pre_Reduce m →
    θ_run (Cert.Reduce.defs (F := Bits)) (onTc (τ := Cert.Reduce.τ) (Cert.Reduce.main (F := Bits))) ⟨m, fun _ => 0, g⟩ (fun r => (∀ c : Dev Cert.Reduce.nD,
      r.2.mem ((c.tc : Thread Cert.Reduce.nD Cert.Reduce.τ).loc Cert.Reduce.main_arg0) = m ((c.tc : Thread Cert.Reduce.nD Cert.Reduce.τ).loc Cert.Reduce.main_arg0)
      ∧ r.2.mem ((c.tc : Thread Cert.Reduce.nD Cert.Reduce.τ).loc Cert.Reduce.main_arg1) = m ((c.tc : Thread Cert.Reduce.nD Cert.Reduce.τ).loc Cert.Reduce.main_arg1)
      ∧ r.2.mem ((c.tc : Thread Cert.Reduce.nD Cert.Reduce.τ).loc Cert.Reduce.main_arg2) = m ((c.tc : Thread Cert.Reduce.nD Cert.Reduce.τ).loc Cert.Reduce.main_arg2))
      ∧ r.2.sem = fun _ => 0)

def quiescent_ReduceIdeal [hReduceIdeal : Cert.ReduceIdeal.Facts] [hPre_listed : Cert.Pre_listed.Facts] : Prop :=
  ∀ (m : (ℓ : Loc Cert.ReduceIdeal.nD Cert.ReduceIdeal.τ Cert.ReduceIdeal.sig) → Buf (Elt Ideal) ℓ) (g : Dev Cert.ReduceIdeal.nD → PrngReg), Pre_ReduceIdeal m →
    θ_run (Cert.ReduceIdeal.defs (F := Ideal)) (onTc (τ := Cert.ReduceIdeal.τ) (Cert.ReduceIdeal.main (F := Ideal))) ⟨m, fun _ => 0, g⟩ (fun r => (∀ c : Dev Cert.ReduceIdeal.nD,
      r.2.mem ((c.tc : Thread Cert.ReduceIdeal.nD Cert.ReduceIdeal.τ).loc Cert.ReduceIdeal.main_arg0) = m ((c.tc : Thread Cert.ReduceIdeal.nD Cert.ReduceIdeal.τ).loc Cert.ReduceIdeal.main_arg0)
      ∧ r.2.mem ((c.tc : Thread Cert.ReduceIdeal.nD Cert.ReduceIdeal.τ).loc Cert.ReduceIdeal.main_arg1) = m ((c.tc : Thread Cert.ReduceIdeal.nD Cert.ReduceIdeal.τ).loc Cert.ReduceIdeal.main_arg1)
      ∧ r.2.mem ((c.tc : Thread Cert.ReduceIdeal.nD Cert.ReduceIdeal.τ).loc Cert.ReduceIdeal.main_arg2) = m ((c.tc : Thread Cert.ReduceIdeal.nD Cert.ReduceIdeal.τ).loc Cert.ReduceIdeal.main_arg2))
      ∧ r.2.sem = fun _ => 0)

def quiescent_ReduceIdeal_pre_sensors [hReduceIdeal : Cert.ReduceIdeal.Facts] [hPre_sensors : Cert.Pre_sensors.Facts] : Prop :=
  ∀ (m : (ℓ : Loc Cert.ReduceIdeal.nD Cert.ReduceIdeal.τ Cert.ReduceIdeal.sig) → Buf (Elt Ideal) ℓ) (g : Dev Cert.ReduceIdeal.nD → PrngReg), Pre_ReduceIdeal_sensors m →
    θ_run (Cert.ReduceIdeal.defs (F := Ideal)) (onTc (τ := Cert.ReduceIdeal.τ) (Cert.ReduceIdeal.main (F := Ideal))) ⟨m, fun _ => 0, g⟩ (fun r => (∀ c : Dev Cert.ReduceIdeal.nD,
      r.2.mem ((c.tc : Thread Cert.ReduceIdeal.nD Cert.ReduceIdeal.τ).loc Cert.ReduceIdeal.main_arg0) = m ((c.tc : Thread Cert.ReduceIdeal.nD Cert.ReduceIdeal.τ).loc Cert.ReduceIdeal.main_arg0)
      ∧ r.2.mem ((c.tc : Thread Cert.ReduceIdeal.nD Cert.ReduceIdeal.τ).loc Cert.ReduceIdeal.main_arg1) = m ((c.tc : Thread Cert.ReduceIdeal.nD Cert.ReduceIdeal.τ).loc Cert.ReduceIdeal.main_arg1)
      ∧ r.2.mem ((c.tc : Thread Cert.ReduceIdeal.nD Cert.ReduceIdeal.τ).loc Cert.ReduceIdeal.main_arg2) = m ((c.tc : Thread Cert.ReduceIdeal.nD Cert.ReduceIdeal.τ).loc Cert.ReduceIdeal.main_arg2))
      ∧ r.2.sem = fun _ => 0)

def quiescent_ReduceReferenceIdeal [hReduceReferenceIdeal : Cert.ReduceReferenceIdeal.Facts] : Prop :=
  ∀ (m : (ℓ : Loc Cert.ReduceReferenceIdeal.nD Cert.ReduceReferenceIdeal.τ Cert.ReduceReferenceIdeal.sig) → Buf (Elt Ideal) ℓ) (g : Dev Cert.ReduceReferenceIdeal.nD → PrngReg), Pre_ReduceReferenceIdeal m →
    θ_run (Cert.ReduceReferenceIdeal.defs (F := Ideal)) (onTc (τ := Cert.ReduceReferenceIdeal.τ) (Cert.ReduceReferenceIdeal.main (F := Ideal))) ⟨m, fun _ => 0, g⟩ (fun r => (∀ c : Dev Cert.ReduceReferenceIdeal.nD,
      r.2.mem ((c.tc : Thread Cert.ReduceReferenceIdeal.nD Cert.ReduceReferenceIdeal.τ).loc Cert.ReduceReferenceIdeal.main_arg0) = m ((c.tc : Thread Cert.ReduceReferenceIdeal.nD Cert.ReduceReferenceIdeal.τ).loc Cert.ReduceReferenceIdeal.main_arg0)
      ∧ r.2.mem ((c.tc : Thread Cert.ReduceReferenceIdeal.nD Cert.ReduceReferenceIdeal.τ).loc Cert.ReduceReferenceIdeal.main_arg1) = m ((c.tc : Thread Cert.ReduceReferenceIdeal.nD Cert.ReduceReferenceIdeal.τ).loc Cert.ReduceReferenceIdeal.main_arg1)
      ∧ r.2.mem ((c.tc : Thread Cert.ReduceReferenceIdeal.nD Cert.ReduceReferenceIdeal.τ).loc Cert.ReduceReferenceIdeal.main_arg2) = m ((c.tc : Thread Cert.ReduceReferenceIdeal.nD Cert.ReduceReferenceIdeal.τ).loc Cert.ReduceReferenceIdeal.main_arg2))
      ∧ r.2.sem = fun _ => 0)

def quiescent_ReduceReferenceIdeal_pre_sensors [hReduceReferenceIdeal : Cert.ReduceReferenceIdeal.Facts] [hPre_sensors : Cert.Pre_sensors.Facts] : Prop :=
  ∀ (m : (ℓ : Loc Cert.ReduceReferenceIdeal.nD Cert.ReduceReferenceIdeal.τ Cert.ReduceReferenceIdeal.sig) → Buf (Elt Ideal) ℓ) (g : Dev Cert.ReduceReferenceIdeal.nD → PrngReg), Pre_ReduceReferenceIdeal_sensors m →
    θ_run (Cert.ReduceReferenceIdeal.defs (F := Ideal)) (onTc (τ := Cert.ReduceReferenceIdeal.τ) (Cert.ReduceReferenceIdeal.main (F := Ideal))) ⟨m, fun _ => 0, g⟩ (fun r => (∀ c : Dev Cert.ReduceReferenceIdeal.nD,
      r.2.mem ((c.tc : Thread Cert.ReduceReferenceIdeal.nD Cert.ReduceReferenceIdeal.τ).loc Cert.ReduceReferenceIdeal.main_arg0) = m ((c.tc : Thread Cert.ReduceReferenceIdeal.nD Cert.ReduceReferenceIdeal.τ).loc Cert.ReduceReferenceIdeal.main_arg0)
      ∧ r.2.mem ((c.tc : Thread Cert.ReduceReferenceIdeal.nD Cert.ReduceReferenceIdeal.τ).loc Cert.ReduceReferenceIdeal.main_arg1) = m ((c.tc : Thread Cert.ReduceReferenceIdeal.nD Cert.ReduceReferenceIdeal.τ).loc Cert.ReduceReferenceIdeal.main_arg1)
      ∧ r.2.mem ((c.tc : Thread Cert.ReduceReferenceIdeal.nD Cert.ReduceReferenceIdeal.τ).loc Cert.ReduceReferenceIdeal.main_arg2) = m ((c.tc : Thread Cert.ReduceReferenceIdeal.nD Cert.ReduceReferenceIdeal.τ).loc Cert.ReduceReferenceIdeal.main_arg2))
      ∧ r.2.sem = fun _ => 0)

def quiescent_Prepare [hPrepare : Cert.Prepare.Facts] [hPre_drawn : Cert.Pre_drawn.Facts] : Prop :=
  ∀ (m : (ℓ : Loc Cert.Prepare.nD Cert.Prepare.τ Cert.Prepare.sig) → Buf (Elt Bits) ℓ) (g : Dev Cert.Prepare.nD → PrngReg), Pre_Prepare m →
    θ_run (Cert.Prepare.defs (F := Bits)) (onTc (τ := Cert.Prepare.τ) (Cert.Prepare.main (F := Bits))) ⟨m, fun _ => 0, g⟩ (fun r => (∀ c : Dev Cert.Prepare.nD,
      r.2.mem ((c.tc : Thread Cert.Prepare.nD Cert.Prepare.τ).loc Cert.Prepare.main_arg0) = m ((c.tc : Thread Cert.Prepare.nD Cert.Prepare.τ).loc Cert.Prepare.main_arg0)
      ∧ r.2.mem ((c.tc : Thread Cert.Prepare.nD Cert.Prepare.τ).loc Cert.Prepare.main_arg1) = m ((c.tc : Thread Cert.Prepare.nD Cert.Prepare.τ).loc Cert.Prepare.main_arg1)
      ∧ r.2.mem ((c.tc : Thread Cert.Prepare.nD Cert.Prepare.τ).loc Cert.Prepare.main_arg2) = m ((c.tc : Thread Cert.Prepare.nD Cert.Prepare.τ).loc Cert.Prepare.main_arg2)
      ∧ r.2.mem ((c.tc : Thread Cert.Prepare.nD Cert.Prepare.τ).loc Cert.Prepare.main_arg3) = m ((c.tc : Thread Cert.Prepare.nD Cert.Prepare.τ).loc Cert.Prepare.main_arg3)
      ∧ r.2.mem ((c.tc : Thread Cert.Prepare.nD Cert.Prepare.τ).loc Cert.Prepare.main_arg4) = m ((c.tc : Thread Cert.Prepare.nD Cert.Prepare.τ).loc Cert.Prepare.main_arg4)
      ∧ r.2.mem ((c.tc : Thread Cert.Prepare.nD Cert.Prepare.τ).loc Cert.Prepare.main_arg5) = m ((c.tc : Thread Cert.Prepare.nD Cert.Prepare.τ).loc Cert.Prepare.main_arg5)
      ∧ r.2.mem ((c.tc : Thread Cert.Prepare.nD Cert.Prepare.τ).loc Cert.Prepare.main_arg6) = m ((c.tc : Thread Cert.Prepare.nD Cert.Prepare.τ).loc Cert.Prepare.main_arg6))
      ∧ r.2.sem = fun _ => 0)

def quiescent_PrepareIdeal [hPrepareIdeal : Cert.PrepareIdeal.Facts] [hPre_drawn : Cert.Pre_drawn.Facts] : Prop :=
  ∀ (m : (ℓ : Loc Cert.PrepareIdeal.nD Cert.PrepareIdeal.τ Cert.PrepareIdeal.sig) → Buf (Elt Ideal) ℓ) (g : Dev Cert.PrepareIdeal.nD → PrngReg), Pre_PrepareIdeal m →
    θ_run (Cert.PrepareIdeal.defs (F := Ideal)) (onTc (τ := Cert.PrepareIdeal.τ) (Cert.PrepareIdeal.main (F := Ideal))) ⟨m, fun _ => 0, g⟩ (fun r => (∀ c : Dev Cert.PrepareIdeal.nD,
      r.2.mem ((c.tc : Thread Cert.PrepareIdeal.nD Cert.PrepareIdeal.τ).loc Cert.PrepareIdeal.main_arg0) = m ((c.tc : Thread Cert.PrepareIdeal.nD Cert.PrepareIdeal.τ).loc Cert.PrepareIdeal.main_arg0)
      ∧ r.2.mem ((c.tc : Thread Cert.PrepareIdeal.nD Cert.PrepareIdeal.τ).loc Cert.PrepareIdeal.main_arg1) = m ((c.tc : Thread Cert.PrepareIdeal.nD Cert.PrepareIdeal.τ).loc Cert.PrepareIdeal.main_arg1)
      ∧ r.2.mem ((c.tc : Thread Cert.PrepareIdeal.nD Cert.PrepareIdeal.τ).loc Cert.PrepareIdeal.main_arg2) = m ((c.tc : Thread Cert.PrepareIdeal.nD Cert.PrepareIdeal.τ).loc Cert.PrepareIdeal.main_arg2)
      ∧ r.2.mem ((c.tc : Thread Cert.PrepareIdeal.nD Cert.PrepareIdeal.τ).loc Cert.PrepareIdeal.main_arg3) = m ((c.tc : Thread Cert.PrepareIdeal.nD Cert.PrepareIdeal.τ).loc Cert.PrepareIdeal.main_arg3)
      ∧ r.2.mem ((c.tc : Thread Cert.PrepareIdeal.nD Cert.PrepareIdeal.τ).loc Cert.PrepareIdeal.main_arg4) = m ((c.tc : Thread Cert.PrepareIdeal.nD Cert.PrepareIdeal.τ).loc Cert.PrepareIdeal.main_arg4)
      ∧ r.2.mem ((c.tc : Thread Cert.PrepareIdeal.nD Cert.PrepareIdeal.τ).loc Cert.PrepareIdeal.main_arg5) = m ((c.tc : Thread Cert.PrepareIdeal.nD Cert.PrepareIdeal.τ).loc Cert.PrepareIdeal.main_arg5)
      ∧ r.2.mem ((c.tc : Thread Cert.PrepareIdeal.nD Cert.PrepareIdeal.τ).loc Cert.PrepareIdeal.main_arg6) = m ((c.tc : Thread Cert.PrepareIdeal.nD Cert.PrepareIdeal.τ).loc Cert.PrepareIdeal.main_arg6))
      ∧ r.2.sem = fun _ => 0)

def quiescent_PrepareIdeal_pre_measured [hPrepareIdeal : Cert.PrepareIdeal.Facts] [hPre_measured : Cert.Pre_measured.Facts] : Prop :=
  ∀ (m : (ℓ : Loc Cert.PrepareIdeal.nD Cert.PrepareIdeal.τ Cert.PrepareIdeal.sig) → Buf (Elt Ideal) ℓ) (g : Dev Cert.PrepareIdeal.nD → PrngReg), Pre_PrepareIdeal_measured m →
    θ_run (Cert.PrepareIdeal.defs (F := Ideal)) (onTc (τ := Cert.PrepareIdeal.τ) (Cert.PrepareIdeal.main (F := Ideal))) ⟨m, fun _ => 0, g⟩ (fun r => (∀ c : Dev Cert.PrepareIdeal.nD,
      r.2.mem ((c.tc : Thread Cert.PrepareIdeal.nD Cert.PrepareIdeal.τ).loc Cert.PrepareIdeal.main_arg0) = m ((c.tc : Thread Cert.PrepareIdeal.nD Cert.PrepareIdeal.τ).loc Cert.PrepareIdeal.main_arg0)
      ∧ r.2.mem ((c.tc : Thread Cert.PrepareIdeal.nD Cert.PrepareIdeal.τ).loc Cert.PrepareIdeal.main_arg1) = m ((c.tc : Thread Cert.PrepareIdeal.nD Cert.PrepareIdeal.τ).loc Cert.PrepareIdeal.main_arg1)
      ∧ r.2.mem ((c.tc : Thread Cert.PrepareIdeal.nD Cert.PrepareIdeal.τ).loc Cert.PrepareIdeal.main_arg2) = m ((c.tc : Thread Cert.PrepareIdeal.nD Cert.PrepareIdeal.τ).loc Cert.PrepareIdeal.main_arg2)
      ∧ r.2.mem ((c.tc : Thread Cert.PrepareIdeal.nD Cert.PrepareIdeal.τ).loc Cert.PrepareIdeal.main_arg3) = m ((c.tc : Thread Cert.PrepareIdeal.nD Cert.PrepareIdeal.τ).loc Cert.PrepareIdeal.main_arg3)
      ∧ r.2.mem ((c.tc : Thread Cert.PrepareIdeal.nD Cert.PrepareIdeal.τ).loc Cert.PrepareIdeal.main_arg4) = m ((c.tc : Thread Cert.PrepareIdeal.nD Cert.PrepareIdeal.τ).loc Cert.PrepareIdeal.main_arg4)
      ∧ r.2.mem ((c.tc : Thread Cert.PrepareIdeal.nD Cert.PrepareIdeal.τ).loc Cert.PrepareIdeal.main_arg5) = m ((c.tc : Thread Cert.PrepareIdeal.nD Cert.PrepareIdeal.τ).loc Cert.PrepareIdeal.main_arg5)
      ∧ r.2.mem ((c.tc : Thread Cert.PrepareIdeal.nD Cert.PrepareIdeal.τ).loc Cert.PrepareIdeal.main_arg6) = m ((c.tc : Thread Cert.PrepareIdeal.nD Cert.PrepareIdeal.τ).loc Cert.PrepareIdeal.main_arg6))
      ∧ r.2.sem = fun _ => 0)

def quiescent_PrepareReferenceIdeal [hPrepareReferenceIdeal : Cert.PrepareReferenceIdeal.Facts] : Prop :=
  ∀ (m : (ℓ : Loc Cert.PrepareReferenceIdeal.nD Cert.PrepareReferenceIdeal.τ Cert.PrepareReferenceIdeal.sig) → Buf (Elt Ideal) ℓ) (g : Dev Cert.PrepareReferenceIdeal.nD → PrngReg), Pre_PrepareReferenceIdeal m →
    θ_run (Cert.PrepareReferenceIdeal.defs (F := Ideal)) (onTc (τ := Cert.PrepareReferenceIdeal.τ) (Cert.PrepareReferenceIdeal.main (F := Ideal))) ⟨m, fun _ => 0, g⟩ (fun r => (∀ c : Dev Cert.PrepareReferenceIdeal.nD,
      r.2.mem ((c.tc : Thread Cert.PrepareReferenceIdeal.nD Cert.PrepareReferenceIdeal.τ).loc Cert.PrepareReferenceIdeal.main_arg0) = m ((c.tc : Thread Cert.PrepareReferenceIdeal.nD Cert.PrepareReferenceIdeal.τ).loc Cert.PrepareReferenceIdeal.main_arg0)
      ∧ r.2.mem ((c.tc : Thread Cert.PrepareReferenceIdeal.nD Cert.PrepareReferenceIdeal.τ).loc Cert.PrepareReferenceIdeal.main_arg1) = m ((c.tc : Thread Cert.PrepareReferenceIdeal.nD Cert.PrepareReferenceIdeal.τ).loc Cert.PrepareReferenceIdeal.main_arg1)
      ∧ r.2.mem ((c.tc : Thread Cert.PrepareReferenceIdeal.nD Cert.PrepareReferenceIdeal.τ).loc Cert.PrepareReferenceIdeal.main_arg2) = m ((c.tc : Thread Cert.PrepareReferenceIdeal.nD Cert.PrepareReferenceIdeal.τ).loc Cert.PrepareReferenceIdeal.main_arg2)
      ∧ r.2.mem ((c.tc : Thread Cert.PrepareReferenceIdeal.nD Cert.PrepareReferenceIdeal.τ).loc Cert.PrepareReferenceIdeal.main_arg3) = m ((c.tc : Thread Cert.PrepareReferenceIdeal.nD Cert.PrepareReferenceIdeal.τ).loc Cert.PrepareReferenceIdeal.main_arg3)
      ∧ r.2.mem ((c.tc : Thread Cert.PrepareReferenceIdeal.nD Cert.PrepareReferenceIdeal.τ).loc Cert.PrepareReferenceIdeal.main_arg4) = m ((c.tc : Thread Cert.PrepareReferenceIdeal.nD Cert.PrepareReferenceIdeal.τ).loc Cert.PrepareReferenceIdeal.main_arg4)
      ∧ r.2.mem ((c.tc : Thread Cert.PrepareReferenceIdeal.nD Cert.PrepareReferenceIdeal.τ).loc Cert.PrepareReferenceIdeal.main_arg5) = m ((c.tc : Thread Cert.PrepareReferenceIdeal.nD Cert.PrepareReferenceIdeal.τ).loc Cert.PrepareReferenceIdeal.main_arg5)
      ∧ r.2.mem ((c.tc : Thread Cert.PrepareReferenceIdeal.nD Cert.PrepareReferenceIdeal.τ).loc Cert.PrepareReferenceIdeal.main_arg6) = m ((c.tc : Thread Cert.PrepareReferenceIdeal.nD Cert.PrepareReferenceIdeal.τ).loc Cert.PrepareReferenceIdeal.main_arg6))
      ∧ r.2.sem = fun _ => 0)

def quiescent_PrepareReferenceIdeal_pre_measured [hPrepareReferenceIdeal : Cert.PrepareReferenceIdeal.Facts] [hPre_measured : Cert.Pre_measured.Facts] : Prop :=
  ∀ (m : (ℓ : Loc Cert.PrepareReferenceIdeal.nD Cert.PrepareReferenceIdeal.τ Cert.PrepareReferenceIdeal.sig) → Buf (Elt Ideal) ℓ) (g : Dev Cert.PrepareReferenceIdeal.nD → PrngReg), Pre_PrepareReferenceIdeal_measured m →
    θ_run (Cert.PrepareReferenceIdeal.defs (F := Ideal)) (onTc (τ := Cert.PrepareReferenceIdeal.τ) (Cert.PrepareReferenceIdeal.main (F := Ideal))) ⟨m, fun _ => 0, g⟩ (fun r => (∀ c : Dev Cert.PrepareReferenceIdeal.nD,
      r.2.mem ((c.tc : Thread Cert.PrepareReferenceIdeal.nD Cert.PrepareReferenceIdeal.τ).loc Cert.PrepareReferenceIdeal.main_arg0) = m ((c.tc : Thread Cert.PrepareReferenceIdeal.nD Cert.PrepareReferenceIdeal.τ).loc Cert.PrepareReferenceIdeal.main_arg0)
      ∧ r.2.mem ((c.tc : Thread Cert.PrepareReferenceIdeal.nD Cert.PrepareReferenceIdeal.τ).loc Cert.PrepareReferenceIdeal.main_arg1) = m ((c.tc : Thread Cert.PrepareReferenceIdeal.nD Cert.PrepareReferenceIdeal.τ).loc Cert.PrepareReferenceIdeal.main_arg1)
      ∧ r.2.mem ((c.tc : Thread Cert.PrepareReferenceIdeal.nD Cert.PrepareReferenceIdeal.τ).loc Cert.PrepareReferenceIdeal.main_arg2) = m ((c.tc : Thread Cert.PrepareReferenceIdeal.nD Cert.PrepareReferenceIdeal.τ).loc Cert.PrepareReferenceIdeal.main_arg2)
      ∧ r.2.mem ((c.tc : Thread Cert.PrepareReferenceIdeal.nD Cert.PrepareReferenceIdeal.τ).loc Cert.PrepareReferenceIdeal.main_arg3) = m ((c.tc : Thread Cert.PrepareReferenceIdeal.nD Cert.PrepareReferenceIdeal.τ).loc Cert.PrepareReferenceIdeal.main_arg3)
      ∧ r.2.mem ((c.tc : Thread Cert.PrepareReferenceIdeal.nD Cert.PrepareReferenceIdeal.τ).loc Cert.PrepareReferenceIdeal.main_arg4) = m ((c.tc : Thread Cert.PrepareReferenceIdeal.nD Cert.PrepareReferenceIdeal.τ).loc Cert.PrepareReferenceIdeal.main_arg4)
      ∧ r.2.mem ((c.tc : Thread Cert.PrepareReferenceIdeal.nD Cert.PrepareReferenceIdeal.τ).loc Cert.PrepareReferenceIdeal.main_arg5) = m ((c.tc : Thread Cert.PrepareReferenceIdeal.nD Cert.PrepareReferenceIdeal.τ).loc Cert.PrepareReferenceIdeal.main_arg5)
      ∧ r.2.mem ((c.tc : Thread Cert.PrepareReferenceIdeal.nD Cert.PrepareReferenceIdeal.τ).loc Cert.PrepareReferenceIdeal.main_arg6) = m ((c.tc : Thread Cert.PrepareReferenceIdeal.nD Cert.PrepareReferenceIdeal.τ).loc Cert.PrepareReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v8) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Final_FinalIdeal : Prop :=
  True

def algebraic_FinalIdeal_FinalReferenceIdeal_pre_finite [hFinalIdeal : Cert.FinalIdeal.Facts] [hFinalReferenceIdeal : Cert.FinalReferenceIdeal.Facts] [hPre_finite : Cert.Pre_finite.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal_finite m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v0_0)) (v1 : (c : Dev Cert.FinalIdeal.nD) → Buf (Elt Ideal) ((c.tc : Thread Cert.FinalIdeal.nD Cert.FinalIdeal.τ).loc Cert.FinalIdeal.main_v0_1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0_0) = v0 c
          ∧ r.2.mem ((c.tc : Thread Cert.FinalIdeal.nD Cert.FinalIdeal.τ).loc Cert.FinalIdeal.main_v0_1) = v1 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v65) = v0 c
          ∧ r.2.mem ((c.tc : Thread Cert.FinalReferenceIdeal.nD Cert.FinalReferenceIdeal.τ).loc Cert.FinalReferenceIdeal.main_v66) = v1 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2))

def preserves_Reduce_ReduceIdeal : Prop :=
  True

def algebraic_ReduceIdeal_ReduceReferenceIdeal_pre_sensors [hReduceIdeal : Cert.ReduceIdeal.Facts] [hReduceReferenceIdeal : Cert.ReduceReferenceIdeal.Facts] [hPre_sensors : Cert.Pre_sensors.Facts] : Prop :=
  ∀ (m : (ℓ : Loc Cert.ReduceIdeal.nD Cert.ReduceIdeal.τ Cert.ReduceIdeal.sig) → Buf (Elt Ideal) ℓ) (g : Dev Cert.ReduceIdeal.nD → PrngReg)
    (m' : (ℓ : Loc Cert.ReduceReferenceIdeal.nD Cert.ReduceReferenceIdeal.τ Cert.ReduceReferenceIdeal.sig) → Buf (Elt Ideal) ℓ) (g' : Dev Cert.ReduceReferenceIdeal.nD → PrngReg), Pre_ReduceIdeal_sensors m →
    (∀ c : Dev Cert.ReduceIdeal.nD,
      m' ((c.tc : Thread Cert.ReduceReferenceIdeal.nD Cert.ReduceReferenceIdeal.τ).loc Cert.ReduceReferenceIdeal.main_arg0) = m ((c.tc : Thread Cert.ReduceIdeal.nD Cert.ReduceIdeal.τ).loc Cert.ReduceIdeal.main_arg0)
      ∧ m' ((c.tc : Thread Cert.ReduceReferenceIdeal.nD Cert.ReduceReferenceIdeal.τ).loc Cert.ReduceReferenceIdeal.main_arg1) = m ((c.tc : Thread Cert.ReduceIdeal.nD Cert.ReduceIdeal.τ).loc Cert.ReduceIdeal.main_arg1)
      ∧ m' ((c.tc : Thread Cert.ReduceReferenceIdeal.nD Cert.ReduceReferenceIdeal.τ).loc Cert.ReduceReferenceIdeal.main_arg2) = m ((c.tc : Thread Cert.ReduceIdeal.nD Cert.ReduceIdeal.τ).loc Cert.ReduceIdeal.main_arg2)) →
    ∃ (v0 : (c : Dev Cert.ReduceIdeal.nD) → Buf (Elt Ideal) ((c.tc : Thread Cert.ReduceIdeal.nD Cert.ReduceIdeal.τ).loc Cert.ReduceIdeal.main_v0_0)) (v1 : (c : Dev Cert.ReduceIdeal.nD) → Buf (Elt Ideal) ((c.tc : Thread Cert.ReduceIdeal.nD Cert.ReduceIdeal.τ).loc Cert.ReduceIdeal.main_v0_3)),
      θ_run (Cert.ReduceIdeal.defs (F := Ideal)) (onTc (τ := Cert.ReduceIdeal.τ) (Cert.ReduceIdeal.main (F := Ideal))) ⟨m, fun _ => 0, g⟩ (fun r => ∀ c : Dev Cert.ReduceIdeal.nD,
          r.2.mem ((c.tc : Thread Cert.ReduceIdeal.nD Cert.ReduceIdeal.τ).loc Cert.ReduceIdeal.main_v0_0) = v0 c
          ∧ r.2.mem ((c.tc : Thread Cert.ReduceIdeal.nD Cert.ReduceIdeal.τ).loc Cert.ReduceIdeal.main_v0_3) = v1 c
          ∧ r.2.mem ((c.tc : Thread Cert.ReduceIdeal.nD Cert.ReduceIdeal.τ).loc Cert.ReduceIdeal.main_arg0) = m ((c.tc : Thread Cert.ReduceIdeal.nD Cert.ReduceIdeal.τ).loc Cert.ReduceIdeal.main_arg0)
          ∧ r.2.mem ((c.tc : Thread Cert.ReduceIdeal.nD Cert.ReduceIdeal.τ).loc Cert.ReduceIdeal.main_arg1) = m ((c.tc : Thread Cert.ReduceIdeal.nD Cert.ReduceIdeal.τ).loc Cert.ReduceIdeal.main_arg1)
          ∧ r.2.mem ((c.tc : Thread Cert.ReduceIdeal.nD Cert.ReduceIdeal.τ).loc Cert.ReduceIdeal.main_arg2) = m ((c.tc : Thread Cert.ReduceIdeal.nD Cert.ReduceIdeal.τ).loc Cert.ReduceIdeal.main_arg2))
      ∧ θ_run (Cert.ReduceReferenceIdeal.defs (F := Ideal)) (onTc (τ := Cert.ReduceReferenceIdeal.τ) (Cert.ReduceReferenceIdeal.main (F := Ideal))) ⟨m', fun _ => 0, g'⟩ (fun r => ∀ c : Dev Cert.ReduceReferenceIdeal.nD,
          r.2.mem ((c.tc : Thread Cert.ReduceReferenceIdeal.nD Cert.ReduceReferenceIdeal.τ).loc Cert.ReduceReferenceIdeal.main_v61) = v0 c
          ∧ r.2.mem ((c.tc : Thread Cert.ReduceReferenceIdeal.nD Cert.ReduceReferenceIdeal.τ).loc Cert.ReduceReferenceIdeal.main_v62) = v1 c
          ∧ r.2.mem ((c.tc : Thread Cert.ReduceReferenceIdeal.nD Cert.ReduceReferenceIdeal.τ).loc Cert.ReduceReferenceIdeal.main_arg0) = m' ((c.tc : Thread Cert.ReduceReferenceIdeal.nD Cert.ReduceReferenceIdeal.τ).loc Cert.ReduceReferenceIdeal.main_arg0)
          ∧ r.2.mem ((c.tc : Thread Cert.ReduceReferenceIdeal.nD Cert.ReduceReferenceIdeal.τ).loc Cert.ReduceReferenceIdeal.main_arg1) = m' ((c.tc : Thread Cert.ReduceReferenceIdeal.nD Cert.ReduceReferenceIdeal.τ).loc Cert.ReduceReferenceIdeal.main_arg1)
          ∧ r.2.mem ((c.tc : Thread Cert.ReduceReferenceIdeal.nD Cert.ReduceReferenceIdeal.τ).loc Cert.ReduceReferenceIdeal.main_arg2) = m' ((c.tc : Thread Cert.ReduceReferenceIdeal.nD Cert.ReduceReferenceIdeal.τ).loc Cert.ReduceReferenceIdeal.main_arg2))

def preserves_Prepare_PrepareIdeal : Prop :=
  True

def algebraic_PrepareIdeal_PrepareReferenceIdeal_pre_measured [hPrepareIdeal : Cert.PrepareIdeal.Facts] [hPrepareReferenceIdeal : Cert.PrepareReferenceIdeal.Facts] [hPre_measured : Cert.Pre_measured.Facts] : Prop :=
  ∀ (m : (ℓ : Loc Cert.PrepareIdeal.nD Cert.PrepareIdeal.τ Cert.PrepareIdeal.sig) → Buf (Elt Ideal) ℓ) (g : Dev Cert.PrepareIdeal.nD → PrngReg)
    (m' : (ℓ : Loc Cert.PrepareReferenceIdeal.nD Cert.PrepareReferenceIdeal.τ Cert.PrepareReferenceIdeal.sig) → Buf (Elt Ideal) ℓ) (g' : Dev Cert.PrepareReferenceIdeal.nD → PrngReg), Pre_PrepareIdeal_measured m →
    (∀ c : Dev Cert.PrepareIdeal.nD,
      m' ((c.tc : Thread Cert.PrepareReferenceIdeal.nD Cert.PrepareReferenceIdeal.τ).loc Cert.PrepareReferenceIdeal.main_arg0) = m ((c.tc : Thread Cert.PrepareIdeal.nD Cert.PrepareIdeal.τ).loc Cert.PrepareIdeal.main_arg0)
      ∧ m' ((c.tc : Thread Cert.PrepareReferenceIdeal.nD Cert.PrepareReferenceIdeal.τ).loc Cert.PrepareReferenceIdeal.main_arg1) = m ((c.tc : Thread Cert.PrepareIdeal.nD Cert.PrepareIdeal.τ).loc Cert.PrepareIdeal.main_arg1)
      ∧ m' ((c.tc : Thread Cert.PrepareReferenceIdeal.nD Cert.PrepareReferenceIdeal.τ).loc Cert.PrepareReferenceIdeal.main_arg2) = m ((c.tc : Thread Cert.PrepareIdeal.nD Cert.PrepareIdeal.τ).loc Cert.PrepareIdeal.main_arg2)
      ∧ m' ((c.tc : Thread Cert.PrepareReferenceIdeal.nD Cert.PrepareReferenceIdeal.τ).loc Cert.PrepareReferenceIdeal.main_arg3) = m ((c.tc : Thread Cert.PrepareIdeal.nD Cert.PrepareIdeal.τ).loc Cert.PrepareIdeal.main_arg3)
      ∧ m' ((c.tc : Thread Cert.PrepareReferenceIdeal.nD Cert.PrepareReferenceIdeal.τ).loc Cert.PrepareReferenceIdeal.main_arg4) = m ((c.tc : Thread Cert.PrepareIdeal.nD Cert.PrepareIdeal.τ).loc Cert.PrepareIdeal.main_arg4)
      ∧ m' ((c.tc : Thread Cert.PrepareReferenceIdeal.nD Cert.PrepareReferenceIdeal.τ).loc Cert.PrepareReferenceIdeal.main_arg5) = m ((c.tc : Thread Cert.PrepareIdeal.nD Cert.PrepareIdeal.τ).loc Cert.PrepareIdeal.main_arg5)
      ∧ m' ((c.tc : Thread Cert.PrepareReferenceIdeal.nD Cert.PrepareReferenceIdeal.τ).loc Cert.PrepareReferenceIdeal.main_arg6) = m ((c.tc : Thread Cert.PrepareIdeal.nD Cert.PrepareIdeal.τ).loc Cert.PrepareIdeal.main_arg6)) →
    ∃ (v0 : (c : Dev Cert.PrepareIdeal.nD) → Buf (Elt Ideal) ((c.tc : Thread Cert.PrepareIdeal.nD Cert.PrepareIdeal.τ).loc Cert.PrepareIdeal.main_v5_0)) (v1 : (c : Dev Cert.PrepareIdeal.nD) → Buf (Elt Ideal) ((c.tc : Thread Cert.PrepareIdeal.nD Cert.PrepareIdeal.τ).loc Cert.PrepareIdeal.main_v5_1)) (v2 : (c : Dev Cert.PrepareIdeal.nD) → Buf (Elt Ideal) ((c.tc : Thread Cert.PrepareIdeal.nD Cert.PrepareIdeal.τ).loc Cert.PrepareIdeal.main_v5_2)),
      θ_run (Cert.PrepareIdeal.defs (F := Ideal)) (onTc (τ := Cert.PrepareIdeal.τ) (Cert.PrepareIdeal.main (F := Ideal))) ⟨m, fun _ => 0, g⟩ (fun r => ∀ c : Dev Cert.PrepareIdeal.nD,
          r.2.mem ((c.tc : Thread Cert.PrepareIdeal.nD Cert.PrepareIdeal.τ).loc Cert.PrepareIdeal.main_v5_0) = v0 c
          ∧ r.2.mem ((c.tc : Thread Cert.PrepareIdeal.nD Cert.PrepareIdeal.τ).loc Cert.PrepareIdeal.main_v5_1) = v1 c
          ∧ r.2.mem ((c.tc : Thread Cert.PrepareIdeal.nD Cert.PrepareIdeal.τ).loc Cert.PrepareIdeal.main_v5_2) = v2 c
          ∧ r.2.mem ((c.tc : Thread Cert.PrepareIdeal.nD Cert.PrepareIdeal.τ).loc Cert.PrepareIdeal.main_arg0) = m ((c.tc : Thread Cert.PrepareIdeal.nD Cert.PrepareIdeal.τ).loc Cert.PrepareIdeal.main_arg0)
          ∧ r.2.mem ((c.tc : Thread Cert.PrepareIdeal.nD Cert.PrepareIdeal.τ).loc Cert.PrepareIdeal.main_arg1) = m ((c.tc : Thread Cert.PrepareIdeal.nD Cert.PrepareIdeal.τ).loc Cert.PrepareIdeal.main_arg1)
          ∧ r.2.mem ((c.tc : Thread Cert.PrepareIdeal.nD Cert.PrepareIdeal.τ).loc Cert.PrepareIdeal.main_arg2) = m ((c.tc : Thread Cert.PrepareIdeal.nD Cert.PrepareIdeal.τ).loc Cert.PrepareIdeal.main_arg2)
          ∧ r.2.mem ((c.tc : Thread Cert.PrepareIdeal.nD Cert.PrepareIdeal.τ).loc Cert.PrepareIdeal.main_arg3) = m ((c.tc : Thread Cert.PrepareIdeal.nD Cert.PrepareIdeal.τ).loc Cert.PrepareIdeal.main_arg3)
          ∧ r.2.mem ((c.tc : Thread Cert.PrepareIdeal.nD Cert.PrepareIdeal.τ).loc Cert.PrepareIdeal.main_arg4) = m ((c.tc : Thread Cert.PrepareIdeal.nD Cert.PrepareIdeal.τ).loc Cert.PrepareIdeal.main_arg4)
          ∧ r.2.mem ((c.tc : Thread Cert.PrepareIdeal.nD Cert.PrepareIdeal.τ).loc Cert.PrepareIdeal.main_arg5) = m ((c.tc : Thread Cert.PrepareIdeal.nD Cert.PrepareIdeal.τ).loc Cert.PrepareIdeal.main_arg5)
          ∧ r.2.mem ((c.tc : Thread Cert.PrepareIdeal.nD Cert.PrepareIdeal.τ).loc Cert.PrepareIdeal.main_arg6) = m ((c.tc : Thread Cert.PrepareIdeal.nD Cert.PrepareIdeal.τ).loc Cert.PrepareIdeal.main_arg6))
      ∧ θ_run (Cert.PrepareReferenceIdeal.defs (F := Ideal)) (onTc (τ := Cert.PrepareReferenceIdeal.τ) (Cert.PrepareReferenceIdeal.main (F := Ideal))) ⟨m', fun _ => 0, g'⟩ (fun r => ∀ c : Dev Cert.PrepareReferenceIdeal.nD,
          r.2.mem ((c.tc : Thread Cert.PrepareReferenceIdeal.nD Cert.PrepareReferenceIdeal.τ).loc Cert.PrepareReferenceIdeal.main_v69) = v0 c
          ∧ r.2.mem ((c.tc : Thread Cert.PrepareReferenceIdeal.nD Cert.PrepareReferenceIdeal.τ).loc Cert.PrepareReferenceIdeal.main_v62) = v1 c
          ∧ r.2.mem ((c.tc : Thread Cert.PrepareReferenceIdeal.nD Cert.PrepareReferenceIdeal.τ).loc Cert.PrepareReferenceIdeal.main_v68) = v2 c
          ∧ r.2.mem ((c.tc : Thread Cert.PrepareReferenceIdeal.nD Cert.PrepareReferenceIdeal.τ).loc Cert.PrepareReferenceIdeal.main_arg0) = m' ((c.tc : Thread Cert.PrepareReferenceIdeal.nD Cert.PrepareReferenceIdeal.τ).loc Cert.PrepareReferenceIdeal.main_arg0)
          ∧ r.2.mem ((c.tc : Thread Cert.PrepareReferenceIdeal.nD Cert.PrepareReferenceIdeal.τ).loc Cert.PrepareReferenceIdeal.main_arg1) = m' ((c.tc : Thread Cert.PrepareReferenceIdeal.nD Cert.PrepareReferenceIdeal.τ).loc Cert.PrepareReferenceIdeal.main_arg1)
          ∧ r.2.mem ((c.tc : Thread Cert.PrepareReferenceIdeal.nD Cert.PrepareReferenceIdeal.τ).loc Cert.PrepareReferenceIdeal.main_arg2) = m' ((c.tc : Thread Cert.PrepareReferenceIdeal.nD Cert.PrepareReferenceIdeal.τ).loc Cert.PrepareReferenceIdeal.main_arg2)
          ∧ r.2.mem ((c.tc : Thread Cert.PrepareReferenceIdeal.nD Cert.PrepareReferenceIdeal.τ).loc Cert.PrepareReferenceIdeal.main_arg3) = m' ((c.tc : Thread Cert.PrepareReferenceIdeal.nD Cert.PrepareReferenceIdeal.τ).loc Cert.PrepareReferenceIdeal.main_arg3)
          ∧ r.2.mem ((c.tc : Thread Cert.PrepareReferenceIdeal.nD Cert.PrepareReferenceIdeal.τ).loc Cert.PrepareReferenceIdeal.main_arg4) = m' ((c.tc : Thread Cert.PrepareReferenceIdeal.nD Cert.PrepareReferenceIdeal.τ).loc Cert.PrepareReferenceIdeal.main_arg4)
          ∧ r.2.mem ((c.tc : Thread Cert.PrepareReferenceIdeal.nD Cert.PrepareReferenceIdeal.τ).loc Cert.PrepareReferenceIdeal.main_arg5) = m' ((c.tc : Thread Cert.PrepareReferenceIdeal.nD Cert.PrepareReferenceIdeal.τ).loc Cert.PrepareReferenceIdeal.main_arg5)
          ∧ r.2.mem ((c.tc : Thread Cert.PrepareReferenceIdeal.nD Cert.PrepareReferenceIdeal.τ).loc Cert.PrepareReferenceIdeal.main_arg6) = m' ((c.tc : Thread Cert.PrepareReferenceIdeal.nD Cert.PrepareReferenceIdeal.τ).loc Cert.PrepareReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hFinal : Cert.Final.Facts) (hFinalIdeal : Cert.FinalIdeal.Facts) (hFinalReferenceIdeal : Cert.FinalReferenceIdeal.Facts) (hReduce : Cert.Reduce.Facts) (hReduceIdeal : Cert.ReduceIdeal.Facts) (hReduceReferenceIdeal : Cert.ReduceReferenceIdeal.Facts) (hPrepare : Cert.Prepare.Facts) (hPrepareIdeal : Cert.PrepareIdeal.Facts) (hPrepareReferenceIdeal : Cert.PrepareReferenceIdeal.Facts) (hPre_in_range : Cert.Pre_in_range.Facts) (hPre_finite : Cert.Pre_finite.Facts) (hPre_listed : Cert.Pre_listed.Facts) (hPre_sensors : Cert.Pre_sensors.Facts) (hPre_drawn : Cert.Pre_drawn.Facts) (hPre_measured : Cert.Pre_measured.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ quiescent_Final (hFinal := hFinal)
    ∧ quiescent_FinalIdeal (hFinalIdeal := hFinalIdeal)
    ∧ quiescent_FinalIdeal_pre_finite (hFinalIdeal := hFinalIdeal) (hPre_finite := hPre_finite)
    ∧ quiescent_FinalReferenceIdeal (hFinalReferenceIdeal := hFinalReferenceIdeal)
    ∧ quiescent_FinalReferenceIdeal_pre_finite (hFinalReferenceIdeal := hFinalReferenceIdeal) (hPre_finite := hPre_finite)
    ∧ quiescent_Reduce (hReduce := hReduce) (hPre_listed := hPre_listed)
    ∧ quiescent_ReduceIdeal (hReduceIdeal := hReduceIdeal) (hPre_listed := hPre_listed)
    ∧ quiescent_ReduceIdeal_pre_sensors (hReduceIdeal := hReduceIdeal) (hPre_sensors := hPre_sensors)
    ∧ quiescent_ReduceReferenceIdeal (hReduceReferenceIdeal := hReduceReferenceIdeal)
    ∧ quiescent_ReduceReferenceIdeal_pre_sensors (hReduceReferenceIdeal := hReduceReferenceIdeal) (hPre_sensors := hPre_sensors)
    ∧ quiescent_Prepare (hPrepare := hPrepare) (hPre_drawn := hPre_drawn)
    ∧ quiescent_PrepareIdeal (hPrepareIdeal := hPrepareIdeal) (hPre_drawn := hPre_drawn)
    ∧ quiescent_PrepareIdeal_pre_measured (hPrepareIdeal := hPrepareIdeal) (hPre_measured := hPre_measured)
    ∧ quiescent_PrepareReferenceIdeal (hPrepareReferenceIdeal := hPrepareReferenceIdeal)
    ∧ quiescent_PrepareReferenceIdeal_pre_measured (hPrepareReferenceIdeal := hPrepareReferenceIdeal) (hPre_measured := hPre_measured)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
    ∧ preserves_Final_FinalIdeal
    ∧ algebraic_FinalIdeal_FinalReferenceIdeal_pre_finite (hFinalIdeal := hFinalIdeal) (hFinalReferenceIdeal := hFinalReferenceIdeal) (hPre_finite := hPre_finite)
    ∧ preserves_Reduce_ReduceIdeal
    ∧ algebraic_ReduceIdeal_ReduceReferenceIdeal_pre_sensors (hReduceIdeal := hReduceIdeal) (hReduceReferenceIdeal := hReduceReferenceIdeal) (hPre_sensors := hPre_sensors)
    ∧ preserves_Prepare_PrepareIdeal
    ∧ algebraic_PrepareIdeal_PrepareReferenceIdeal_pre_measured (hPrepareIdeal := hPrepareIdeal) (hPrepareReferenceIdeal := hPrepareReferenceIdeal) (hPre_measured := hPre_measured)
-- ==== Pre_drawn.lean ====
abbrev S64x1024x256 : Shape := ⟨3, ![64, 1024, 256]⟩
abbrev S64x1x1024x12 : Shape := ⟨4, ![64, 1, 1024, 12]⟩
abbrev S8x256 : Shape := ⟨2, ![8, 256]⟩
abbrev S8x12x12 : Shape := ⟨3, ![8, 12, 12]⟩
abbrev S1024 : Shape := ⟨1, ![1024]⟩
abbrev S64x1024x16 : Shape := ⟨3, ![64, 1024, 16]⟩
abbrev S_ : Shape := ⟨0, ![]⟩

class Facts : Prop where
  bcast_S_S64x1024x16 : S_.BroadcastsInDim S64x1024x16 (![] : Fin 0 → Fin S64x1024x16.rank)
  reducesTo_S64x1024x16_S_d0_1_2 : S64x1024x16.ReducesTo [0, 1, 2] S_
  h_S_ : 0 < S_.numel

variable [Facts]

def fn {F : FTy → Type} [FloatOps F] (main_arg0 : FVec F S64x1024x256 .f32) (main_arg1 : FVec F S64x1x1024x12 .f32) (main_arg2 : FVec F S8x256 .f32) (main_arg3 : FVec F S8x12x12 .f32) (main_arg4 : FVec F S1024 .f32) (main_arg5 : FVec F S1024 .f32) (main_arg6 : IVec S64x1024x16 32) : IVec S_ 1 :=
  let main_c : IVec S_ 32 := constantI S_ 32 0#32
  let main_v0 : IVec S64x1024x16 32 := broadcastInDim S64x1024x16 ![] bcast_S_S64x1024x16 main_c
  let main_v1 : IVec S64x1024x16 1 := cmpi .sge main_arg6 main_v0
  let main_c_0 : IVec S_ 32 := constantI S_ 32 1024#32
  let main_v2 : IVec S64x1024x16 32 := broadcastInDim S64x1024x16 ![] bcast_S_S64x1024x16 main_c_0
  let main_v3 : IVec S64x1024x16 1 := cmpi .slt main_arg6 main_v2
  let main_v4 : IVec S64x1024x16 1 := andi main_v1 main_v3
  let main_c_1 : IVec S_ 1 := constantI S_ 1 1#1
  let main_v5 : IVec S_ 1 := (fun x v => Host.reduce IntOp.andi x v reducesTo_S64x1024x16_S_d0_1_2 h_S_) main_v4 main_c_1
  main_v5
-- ==== Pre_finite.lean ====
abbrev S1024x128 : Shape := ⟨2, ![1024, 128]⟩
abbrev S8x256 : Shape := ⟨2, ![8, 256]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S8x256 : S_.BroadcastsInDim S8x256 (![] : Fin 0 → Fin S8x256.rank)
  reducesTo_S8x256_S_d0_1 : S8x256.ReducesTo [0, 1] S_

variable [Facts]

def fn {F : FTy → Type} [FloatOps F] (main_arg0 : FVec F S1024x128 .f32) (main_arg1 : FVec F S1024x128 .f32) (main_arg2 : FVec F S8x256 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S8x256 .f32 := Host.absf main_arg2
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_c_3 : IVec S_ 1 := constantI S_ 1 1#1
  let main_v12 : IVec S_ 1 := (fun x v => Host.reduce IntOp.andi x v reducesTo_S8x256_S_d0_1 h_S_) main_v11 main_c_3
  let main_v13 : IVec S_ 1 := andi main_v8 main_v12
  main_v13
-- ==== Pre_in_range.lean ====
abbrev S64x1024x16 : Shape := ⟨3, ![64, 1024, 16]⟩
abbrev S_ : Shape := ⟨0, ![]⟩

class Facts : Prop where
  bcast_S_S64x1024x16 : S_.BroadcastsInDim S64x1024x16 (![] : Fin 0 → Fin S64x1024x16.rank)
  reducesTo_S64x1024x16_S_d0_1_2 : S64x1024x16.ReducesTo [0, 1, 2] S_
  h_S_ : 0 < S_.numel

variable [Facts]

def fn {F : FTy → Type} [FloatOps F] (main_arg0 : FVec F S64x1024x16 .f32) (main_arg1 : IVec S64x1024x16 32) : IVec S_ 1 :=
  let main_c : IVec S_ 32 := constantI S_ 32 0#32
  let main_v0 : IVec S64x1024x16 32 := broadcastInDim S64x1024x16 ![] bcast_S_S64x1024x16 main_c
  let main_v1 : IVec S64x1024x16 1 := cmpi .sge main_arg1 main_v0
  let main_c_0 : IVec S_ 32 := constantI S_ 32 65536#32
  let main_v2 : IVec S64x1024x16 32 := broadcastInDim S64x1024x16 ![] bcast_S_S64x1024x16 main_c_0
  let main_v3 : IVec S64x1024x16 1 := cmpi .slt main_arg1 main_v2
  let main_v4 : IVec S64x1024x16 1 := andi main_v1 main_v3
  let main_c_1 : IVec S_ 1 := constantI S_ 1 1#1
  let main_v5 : IVec S_ 1 := (fun x v => Host.reduce IntOp.andi x v reducesTo_S64x1024x16_S_d0_1_2 h_S_) main_v4 main_c_1
  main_v5
-- ==== Pre_listed.lean ====
abbrev S64x1024x96 : Shape := ⟨3, ![64, 1024, 96]⟩
abbrev S64x1024x16 : Shape := ⟨3, ![64, 1024, 16]⟩
abbrev S64x1024x256 : Shape := ⟨3, ![64, 1024, 256]⟩
abbrev S_ : Shape := ⟨0, ![]⟩

class Facts : Prop where
  bcast_S_S64x1024x16 : S_.BroadcastsInDim S64x1024x16 (![] : Fin 0 → Fin S64x1024x16.rank)
  reducesTo_S64x1024x16_S_d0_1_2 : S64x1024x16.ReducesTo [0, 1, 2] S_
  h_S_ : 0 < S_.numel

variable [Facts]

def fn {F : FTy → Type} [FloatOps F] (main_arg0 : FVec F S64x1024x96 .f32) (main_arg1 : IVec S64x1024x16 32) (main_arg2 : FVec F S64x1024x256 .f32) : IVec S_ 1 :=
  let main_c : IVec S_ 32 := constantI S_ 32 0#32
  let main_v0 : IVec S64x1024x16 32 := broadcastInDim S64x1024x16 ![] bcast_S_S64x1024x16 main_c
  let main_v1 : IVec S64x1024x16 1 := cmpi .sge main_arg1 main_v0
  let main_c_0 : IVec S_ 32 := constantI S_ 32 1024#32
  let main_v2 : IVec S64x1024x16 32 := broadcastInDim S64x1024x16 ![] bcast_S_S64x1024x16 main_c_0
  let main_v3 : IVec S64x1024x16 1 := cmpi .slt main_arg1 main_v2
  let main_v4 : IVec S64x1024x16 1 := andi main_v1 main_v3
  let main_c_1 : IVec S_ 1 := constantI S_ 1 1#1
  let main_v5 : IVec S_ 1 := (fun x v => Host.reduce IntOp.andi x v reducesTo_S64x1024x16_S_d0_1_2 h_S_) main_v4 main_c_1
  main_v5
-- ==== Pre_measured.lean ====
abbrev S64x1024x256 : Shape := ⟨3, ![64, 1024, 256]⟩
abbrev S64x1x1024x12 : Shape := ⟨4, ![64, 1, 1024, 12]⟩
abbrev S8x256 : Shape := ⟨2, ![8, 256]⟩
abbrev S8x12x12 : Shape := ⟨3, ![8, 12, 12]⟩
abbrev S1024 : Shape := ⟨1, ![1024]⟩
abbrev S64x1024x16 : Shape := ⟨3, ![64, 1024, 16]⟩
abbrev S_ : Shape := ⟨0, ![]⟩

class Facts : Prop where
  bcast_S_S64x1024x16 : S_.BroadcastsInDim S64x1024x16 (![] : Fin 0 → Fin S64x1024x16.rank)
  reducesTo_S64x1024x16_S_d0_1_2 : S64x1024x16.ReducesTo [0, 1, 2] S_
  h_S_ : 0 < S_.numel
  bcast_S_S64x1024x256 : S_.BroadcastsInDim S64x1024x256 (![] : Fin 0 → Fin S64x1024x256.rank)
  reducesTo_S64x1024x256_S_d0_1_2 : S64x1024x256.ReducesTo [0, 1, 2] S_
  bcast_S_S8x256 : S_.BroadcastsInDim S8x256 (![] : Fin 0 → Fin S8x256.rank)
  reducesTo_S8x256_S_d0_1 : S8x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v15 : IVec S_ 1) (main_v16 : FVec F S1024 .f32) : IVec S_ 1 :=
  let main_cst_5 : FVec F S_ .f32 := constant S_ .f32 0x7F800000#32
  let main_v17 : FVec F S1024 .f32 := broadcastInDim S1024 ![] bcast_S_S1024 main_cst_5
  let main_v18 : IVec S1024 1 := cmpf .olt main_v16 main_v17
  let main_c_6 : IVec S_ 1 := constantI S_ 1 1#1
  let main_v19 : IVec S_ 1 := (fun x v => Host.reduce IntOp.andi x v reducesTo_S1024_S_d0 h_S_) main_v18 main_c_6
  let main_v20 : IVec S_ 1 := andi main_v15 main_v19
  main_v20

def fn {F : FTy → Type} [FloatOps F] (main_arg0 : FVec F S64x1024x256 .f32) (main_arg1 : FVec F S64x1x1024x12 .f32) (main_arg2 : FVec F S8x256 .f32) (main_arg3 : FVec F S8x12x12 .f32) (main_arg4 : FVec F S1024 .f32) (main_arg5 : FVec F S1024 .f32) (main_arg6 : IVec S64x1024x16 32) : IVec S_ 1 :=
  let main_c : IVec S_ 32 := constantI S_ 32 0#32
  let main_v0 : IVec S64x1024x16 32 := broadcastInDim S64x1024x16 ![] bcast_S_S64x1024x16 main_c
  let main_v1 : IVec S64x1024x16 1 := cmpi .sge main_arg6 main_v0
  let main_c_0 : IVec S_ 32 := constantI S_ 32 1024#32
  let main_v2 : IVec S64x1024x16 32 := broadcastInDim S64x1024x16 ![] bcast_S_S64x1024x16 main_c_0
  let main_v3 : IVec S64x1024x16 1 := cmpi .slt main_arg6 main_v2
  let main_v4 : IVec S64x1024x16 1 := andi main_v1 main_v3
  let main_c_1 : IVec S_ 1 := constantI S_ 1 1#1
  let main_v5 : IVec S_ 1 := (fun x v => Host.reduce IntOp.andi x v reducesTo_S64x1024x16_S_d0_1_2 h_S_) main_v4 main_c_1
  let main_v6 : FVec F S64x1024x256 .f32 := Host.absf main_arg0
  let main_cst : FVec F S_ .f32 := constant S_ .f32 0x7F800000#32
  let main_v7 : FVec F S64x1024x256 .f32 := broadcastInDim S64x1024x256 ![] bcast_S_S64x1024x256 main_cst
  let main_v8 : IVec S64x1024x256 1 := cmpf .olt main_v6 main_v7
  let main_c_2 : IVec S_ 1 := constantI S_ 1 1#1
  let main_v9 : IVec S_ 1 := (fun x v => Host.reduce IntOp.andi x v reducesTo_S64x1024x256_S_d0_1_2 h_S_) main_v8 main_c_2
  let main_v10 : IVec S_ 1 := andi main_v5 main_v9
  let main_v11 : FVec F S8x256 .f32 := Host.absf main_arg2
  let main_cst_3 : FVec F S_ .f32 := constant S_ .f32 0x7F800000#32
  let main_v12 : FVec F S8x256 .f32 := broadcastInDim S8x256 ![] bcast_S_S8x256 main_cst_3
  let main_v13 : IVec S8x256 1 := cmpf .olt main_v11 main_v12
  let main_c_4 : IVec S_ 1 := constantI S_ 1 1#1
  let main_v14 : IVec S_ 1 := (fun x v => Host.reduce IntOp.andi x v reducesTo_S8x256_S_d0_1 h_S_) main_v13 main_c_4
  let main_v15 : IVec S_ 1 := andi main_v10 main_v14
  let main_v16 : FVec F S1024 .f32 := Host.absf main_arg4
  fn_part1 (F := F) main_v15 main_v16
-- ==== Pre_sensors.lean ====
abbrev S64x1024x96 : Shape := ⟨3, ![64, 1024, 96]⟩
abbrev S64x1024x16 : Shape := ⟨3, ![64, 1024, 16]⟩
abbrev S64x1024x256 : Shape := ⟨3, ![64, 1024, 256]⟩
abbrev S_ : Shape := ⟨0, ![]⟩

class Facts : Prop where
  bcast_S_S64x1024x16 : S_.BroadcastsInDim S64x1024x16 (![] : Fin 0 → Fin S64x1024x16.rank)
  reducesTo_S64x1024x16_S_d0_1_2 : S64x1024x16.ReducesTo [0, 1, 2] S_
  h_S_ : 0 < S_.numel
  bcast_S_S64x1024x256 : S_.BroadcastsInDim S64x1024x256 (![] : Fin 0 → Fin S64x1024x256.rank)
  reducesTo_S64x1024x256_S_d0_1_2 : S64x1024x256.ReducesTo [0, 1, 2] S_

variable [Facts]

def fn {F : FTy → Type} [FloatOps F] (main_arg0 : FVec F S64x1024x96 .f32) (main_arg1 : IVec S64x1024x16 32) (main_arg2 : FVec F S64x1024x256 .f32) : IVec S_ 1 :=
  let main_c : IVec S_ 32 := constantI S_ 32 0#32
  let main_v0 : IVec S64x1024x16 32 := broadcastInDim S64x1024x16 ![] bcast_S_S64x1024x16 main_c
  let main_v1 : IVec S64x1024x16 1 := cmpi .sge main_arg1 main_v0
  let main_c_0 : IVec S_ 32 := constantI S_ 32 1024#32
  let main_v2 : IVec S64x1024x16 32 := broadcastInDim S64x1024x16 ![] bcast_S_S64x1024x16 main_c_0
  let main_v3 : IVec S64x1024x16 1 := cmpi .slt main_arg1 main_v2
  let main_v4 : IVec S64x1024x16 1 := andi main_v1 main_v3
  let main_c_1 : IVec S_ 1 := constantI S_ 1 1#1
  let main_v5 : IVec S_ 1 := (fun x v => Host.reduce IntOp.andi x v reducesTo_S64x1024x16_S_d0_1_2 h_S_) main_v4 main_c_1
  let main_v6 : FVec F S64x1024x256 .f32 := Host.absf main_arg2
  let main_cst : FVec F S_ .f32 := constant S_ .f32 0x7F800000#32
  let main_v7 : FVec F S64x1024x256 .f32 := broadcastInDim S64x1024x256 ![] bcast_S_S64x1024x256 main_cst
  let main_v8 : IVec S64x1024x256 1 := cmpf .olt main_v6 main_v7
  let main_c_2 : IVec S_ 1 := constantI S_ 1 1#1
  let main_v9 : IVec S_ 1 := (fun x v => Host.reduce IntOp.andi x v reducesTo_S64x1024x256_S_d0_1_2 h_S_) main_v8 main_c_2
  let main_v10 : IVec S_ 1 := andi main_v5 main_v9
  main_v10
-- ==== Kernel.lean ====
abbrev S64x1024x16 : Shape := ⟨3, ![64, 1024, 16]⟩
abbrev S65536x16 : Shape := ⟨2, ![65536, 16]⟩
abbrev S1048576 : Shape := ⟨1, ![1048576]⟩
abbrev S1048576x16 : Shape := ⟨2, ![1048576, 16]⟩
abbrev S4096 : Shape := ⟨1, ![4096]⟩
abbrev S4096x16 : Shape := ⟨2, ![4096, 16]⟩
abbrev S_ : Shape := ⟨0, ![]⟩

abbrev nBuf : Table → Nat
  | .hbm => 5
  | .local .scVector .vmem => 2
  | _ => 0

abbrev bufTy : (tb : Table) → Fin (nBuf tb) → BufTy
  | .hbm, ⟨0, _⟩ => ⟨S64x1024x16, .f32⟩
  | .hbm, ⟨1, _⟩ => ⟨S64x1024x16, .i32⟩
  | .hbm, ⟨2, _⟩ => ⟨S65536x16, .f32⟩
  | .hbm, ⟨3, _⟩ => ⟨S1048576, .i32⟩
  | .hbm, ⟨4, _⟩ => ⟨S1048576x16, .f32⟩
  | .local .scVector .vmem, ⟨0, _⟩ => ⟨S4096, .i32⟩
  | .local .scVector .vmem, ⟨1, _⟩ => ⟨S4096x16, .f32⟩
  | _, _ => ⟨S64x1024x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v3 : BitVec 32 := Scalar.addi v2 c0_i32
  ![v3.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v3 : BitVec 32 := Scalar.addi v2 c0_i32
  let c0_i32_32_r1 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S64x1024x16 : Shape := ⟨3, ![64, 1024, 16]⟩
abbrev S65536x16 : Shape := ⟨2, ![65536, 16]⟩
abbrev S1048576 : Shape := ⟨1, ![1048576]⟩
abbrev S_ : Shape := ⟨0, ![]⟩
abbrev S1048576x1 : Shape := ⟨2, ![1048576, 1]⟩
abbrev S1048576x16 : Shape := ⟨2, ![1048576, 16]⟩

abbrev nBuf : Space → Nat
  | .hbm => 13
  | .vmem => 0
  | .smem => 0
  | _ => 0

abbrev bufTy : (tb : Table) → Fin (tcTables nBuf tb) → BufTy
  | .hbm, ⟨0, _⟩ => ⟨S64x1024x16, .f32⟩
  | .hbm, ⟨1, _⟩ => ⟨S64x1024x16, .i32⟩
  | .hbm, ⟨2, _⟩ => ⟨S65536x16, .f32⟩
  | .hbm, ⟨3, _⟩ => ⟨S1048576, .i32⟩
  | .hbm, ⟨4, _⟩ => ⟨S_, .i32⟩
  | .hbm, ⟨5, _⟩ => ⟨S1048576, .i32⟩
  | .hbm, ⟨6, _⟩ => ⟨S1048576, .i1⟩
  | .hbm, ⟨7, _⟩ => ⟨S_, .i32⟩
  | .hbm, ⟨8, _⟩ => ⟨S1048576, .i32⟩
  | .hbm, ⟨9, _⟩ => ⟨S1048576, .i32⟩
  | .hbm, ⟨10, _⟩ => ⟨S1048576, .i32⟩
  | .hbm, ⟨11, _⟩ => ⟨S1048576x1, .i32⟩
  | .hbm, ⟨12, _⟩ => ⟨S1048576x16, .f32⟩
  | _, _ => ⟨S64x1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Final.lean ====
abbrev S1024x128 : Shape := ⟨2, ![1024, 128]⟩
abbrev S8x256 : Shape := ⟨2, ![8, 256]⟩
abbrev S1x1 : Shape := ⟨2, ![1, 1]⟩
abbrev S1024x1 : Shape := ⟨2, ![1024, 1]⟩
abbrev S1024x8 : Shape := ⟨2, ![1024, 8]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩
abbrev S256 : Shape := ⟨1, ![256]⟩
abbrev S1x256 : Shape := ⟨2, ![1, 256]⟩
abbrev S8x8 : Shape := ⟨2, ![8, 8]⟩
abbrev S8 : Shape := ⟨1, ![8]⟩
abbrev S1x8 : Shape := ⟨2, ![1, 8]⟩
abbrev S8x1 : Shape := ⟨2, ![8, 1]⟩
abbrev S1x8x8 : Shape := ⟨3, ![1, 8, 8]⟩

abbrev nBuf : Space → Nat
  | .hbm => 5
  | .vmem => 5
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S8x256, .f32⟩
  | .hbm, ⟨3, _⟩ => ⟨S1x1, .f32⟩
  | .hbm, ⟨4, _⟩ => ⟨S1x1, .f32⟩
  | .local _ .vmem, ⟨0, _⟩ => ⟨S1024x128, .f32⟩
  | .local _ .vmem, ⟨1, _⟩ => ⟨S1024x128, .f32⟩
  | .local _ .vmem, ⟨2, _⟩ => ⟨S8x256, .f32⟩
  | .local _ .vmem, ⟨3, _⟩ => ⟨S1x1, .f32⟩
  | .local _ .vmem, ⟨4, _⟩ => ⟨S1x1, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== FinalReferenceIdeal.lean ====
abbrev S1024x128 : Shape := ⟨2, ![1024, 128]⟩
abbrev S8x256 : Shape := ⟨2, ![8, 256]⟩
abbrev S1024x16x8 : Shape := ⟨3, ![1024, 16, 8]⟩
abbrev S_ : Shape := ⟨0, ![]⟩
abbrev S1024x16 : Shape := ⟨2, ![1024, 16]⟩
abbrev S1024x16x1 : Shape := ⟨3, ![1024, 16, 1]⟩
abbrev S1024 : Shape := ⟨1, ![1024]⟩
abbrev S256 : Shape := ⟨1, ![256]⟩
abbrev S1x256 : Shape := ⟨2, ![1, 256]⟩
abbrev S8 : Shape := ⟨1, ![8]⟩
abbrev S8x1 : Shape := ⟨2, ![8, 1]⟩
abbrev S8x258 : Shape := ⟨2, ![8, 258]⟩
abbrev S258x8 : Shape := ⟨2, ![258, 8]⟩
abbrev S8x8 : Shape := ⟨2, ![8, 8]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S8x256, .f32⟩
  | .hbm, ⟨3, _⟩ => ⟨S1024x16x8, .f32⟩
  | .hbm, ⟨4, _⟩ => ⟨S_, .f32⟩
  | .hbm, ⟨5, _⟩ => ⟨S1024x16x8, .f32⟩
  | .hbm, ⟨6, _⟩ => ⟨S1024x16x8, .f32⟩
  | .hbm, ⟨7, _⟩ => ⟨S_, .f32⟩
  | .hbm, ⟨8, _⟩ => ⟨S1024x16, .f32⟩
  | .hbm, ⟨9, _⟩ => ⟨S_, .f32⟩
  | .hbm, ⟨10, _⟩ => ⟨S1024x16, .f32⟩
  | .hbm, ⟨11, _⟩ => ⟨S1024x16, .f32⟩
  | .hbm, ⟨12, _⟩ => ⟨S1024x16x1, .f32⟩
  | .hbm, ⟨13, _⟩ => ⟨S1024x16x8, .f32⟩
  | .hbm, ⟨14, _⟩ => ⟨S1024x16x8, .f32⟩
  | .hbm, ⟨15, _⟩ => ⟨S1024x16x8, .f32⟩
  | .hbm, ⟨16, _⟩ => ⟨S_, .f32⟩
  | .hbm, ⟨17, _⟩ => ⟨S1024x16, .f32⟩
  | .hbm, ⟨18, _⟩ => ⟨S1024x16x1, .f32⟩
  | .hbm, ⟨19, _⟩ => ⟨S1024x16x8, .f32⟩
  | .hbm, ⟨20, _⟩ => ⟨S1024x16x8, .f32⟩
  | .hbm, ⟨21, _⟩ => ⟨S1024x16x8, .f32⟩
  | .hbm, ⟨22, _⟩ => ⟨S1024x16x8, .f32⟩
  | .hbm, ⟨23, _⟩ => ⟨S_, .f32⟩
  | .hbm, ⟨24, _⟩ => ⟨S1024x16x8, .f32⟩
  | .hbm, ⟨25, _⟩ => ⟨S1024x16x8, .f32⟩
  | .hbm, ⟨26, _⟩ => ⟨S1024x16x8, .f32⟩
  | .hbm, ⟨27, _⟩ => ⟨S1024x16x8, .f32⟩
  | .hbm, ⟨28, _⟩ => ⟨S_, .f32⟩
  | .hbm, ⟨29, _⟩ => ⟨S1024x16, .f32⟩
  | .hbm, ⟨30, _⟩ => ⟨S_, .f32⟩
  | .hbm, ⟨31, _⟩ => ⟨S1024, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S256, .f32⟩
  | .hbm, ⟨38, _⟩ => ⟨S1x256, .f32⟩
  | .hbm, ⟨39, _⟩ => ⟨S_, .f32⟩
  | .hbm, ⟨40, _⟩ => ⟨S1x256, .f32⟩
  | .hbm, ⟨41, _⟩ => ⟨S1x256, .f32⟩
  | .hbm, ⟨42, _⟩ => ⟨S8x256, .f32⟩
  | .hbm, ⟨43, _⟩ => ⟨S8x256, .f32⟩
  | .hbm, ⟨44, _⟩ => ⟨S8x256, .f32⟩
  | .hbm, ⟨45, _⟩ => ⟨S8x256, .f32⟩
  | .hbm, ⟨46, _⟩ => ⟨S8x256, .f32⟩
  | .hbm, ⟨47, _⟩ => ⟨S_, .f32⟩
  | .hbm, ⟨48, _⟩ => ⟨S8, .f32⟩
  | .hbm, ⟨49, _⟩ => ⟨S8x1, .f32⟩
  | .hbm, ⟨50, _⟩ => ⟨S_, .f32⟩
  | .hbm, ⟨51, _⟩ => ⟨S8x1, .f32⟩
  | .hbm, ⟨52, _⟩ => ⟨S8x256, .f32⟩
  | .hbm, ⟨53, _⟩ => ⟨S_, .f32⟩
  | .hbm, ⟨54, _⟩ => ⟨S8, .f32⟩
  | .hbm, ⟨55, _⟩ => ⟨S8x1, .f32⟩
  | .hbm, ⟨56, _⟩ => ⟨S_, .f32⟩
  | .hbm, ⟨57, _⟩ => ⟨S8x1, .f32⟩
  | .hbm, ⟨58, _⟩ => ⟨S_, .f32⟩
  | .hbm, ⟨59, _⟩ => ⟨S8x256, .f32⟩
  | .hbm, ⟨60, _⟩ => ⟨S8x256, .f32⟩
  | .hbm, ⟨61, _⟩ => ⟨S8x258, .f32⟩
  | .hbm, ⟨62, _⟩ => ⟨S8x258, .f32⟩
  | .hbm, ⟨63, _⟩ => ⟨S258x8, .f32⟩
  | .hbm, ⟨64, _⟩ => ⟨S8x8, .f32⟩
  | .hbm, ⟨65, _⟩ => ⟨S_, .f32⟩
  | .hbm, ⟨66, _⟩ => ⟨S_, .f32⟩
  | .hbm, ⟨67, _⟩ => ⟨S8x8, .f32⟩
  | .hbm, ⟨68, _⟩ => ⟨S8x8, .f32⟩
  | .hbm, ⟨69, _⟩ => ⟨S8x8, .f32⟩
  | .hbm, ⟨70, _⟩ => ⟨S_, .f32⟩
  | .hbm, ⟨71, _⟩ => ⟨S8x8, .f32⟩
  | .hbm, ⟨72, _⟩ => ⟨S8x8, .i32⟩
  | .hbm, ⟨73, _⟩ => ⟨S8x8, .i32⟩
  | .hbm, ⟨74, _⟩ => ⟨S_, .i32⟩
  | .hbm, ⟨75, _⟩ => ⟨S8x8, .i32⟩
  | .hbm, ⟨76, _⟩ => ⟨S8x8, .i32⟩
  | .hbm, ⟨77, _⟩ => ⟨S8x8, .i1⟩
  | .hbm, ⟨78, _⟩ => ⟨S8x8, .f32⟩
  | .hbm, ⟨79, _⟩ => ⟨S8x8, .f32⟩
  | .hbm, ⟨80, _⟩ => ⟨S_, .f32⟩
  | .hbm, ⟨81, _⟩ => ⟨S8x8, .f32⟩
  | .hbm, ⟨82, _⟩ => ⟨S8x8, .f32⟩
  | .hbm, ⟨83, _⟩ => ⟨S8x8, .f32⟩
  | .hbm, ⟨84, _⟩ => ⟨S_, .f32⟩
  | .hbm, ⟨85, _⟩ => ⟨S_, .f32⟩
  | .hbm, ⟨86, _⟩ => ⟨S8x8, .f32⟩
  | .hbm, ⟨87, _⟩ => ⟨S8x8, .f32⟩
  | .hbm, ⟨88, _⟩ => ⟨S8x8, .f32⟩
  | .hbm, ⟨89, _⟩ => ⟨S_, .f32⟩
  | .hbm, ⟨90, _⟩ => ⟨S8, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S1x1, .f32⟩
  | .hbm, ⟨98, _⟩ => ⟨S1x1, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_10 : Ref sig .tc := ⟨.hbm, 47, rfl⟩
abbrev main_v33 : Ref sig .tc := ⟨.hbm, 48, rfl⟩
abbrev main_v34 : Ref sig .tc := ⟨.hbm, 49, rfl⟩
abbrev main_cst_11 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_call0_v0 : Ref sig .tc := ⟨.hbm, 66, rfl⟩
abbrev main_call0_v1 : Ref sig .tc := ⟨.hbm, 67, rfl⟩
abbrev main_v46 : Ref sig .tc := ⟨.hbm, 68, rfl⟩
abbrev main_v47 : Ref sig .tc := ⟨.hbm, 69, rfl⟩
abbrev main_cst_16 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_18 : Ref sig .tc := ⟨.hbm, 84, rfl⟩
abbrev main_call1_v0 : Ref sig .tc := ⟨.hbm, 85, rfl⟩
abbrev main_call1_v1 : Ref sig .tc := ⟨.hbm, 86, rfl⟩
abbrev main_v59 : Ref sig .tc := ⟨.hbm, 87, rfl⟩
abbrev main_v60 : Ref sig .tc := ⟨.hbm, 88, rfl⟩
abbrev main_cst_19 : Ref sig .tc := ⟨.hbm, 89, rfl⟩
abbrev main_v61 : Ref sig .tc := ⟨.hbm, 90, rfl⟩
abbrev main_cst_20 : Ref sig .tc := ⟨.hbm, 91, rfl⟩
abbrev main_v62 : Ref sig .tc := ⟨.hbm, 92, rfl⟩
abbrev main_cst_21 : Ref sig .tc := ⟨.hbm, 93, rfl⟩
abbrev main_v63 : Ref sig .tc := ⟨.hbm, 94, rfl⟩
abbrev main_cst_22 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩

abbrev nD : Nat := 1
abbrev τ : Topo := Topo.v7x

variable {F : FTy → Type} [FloatOps F]
-- ==== Reduce.lean ====
abbrev S64x1024x96 : Shape := ⟨3, ![64, 1024, 96]⟩
abbrev S64x1024x16 : Shape := ⟨3, ![64, 1024, 16]⟩
abbrev S64x1024x256 : Shape := ⟨3, ![64, 1024, 256]⟩
abbrev S1024x128 : Shape := ⟨2, ![1024, 128]⟩
abbrev S1x1 : Shape := ⟨2, ![1, 1]⟩
abbrev S1x1024x96 : Shape := ⟨3, ![1, 1024, 96]⟩
abbrev S1x1024x16 : Shape := ⟨3, ![1, 1024, 16]⟩
abbrev S1x1024x256 : Shape := ⟨3, ![1, 1024, 256]⟩
abbrev S1024x96 : Shape := ⟨2, ![1024, 96]⟩
abbrev S1x128x16 : Shape := ⟨3, ![1, 128, 16]⟩
abbrev S128x16 : Shape := ⟨2, ![128, 16]⟩
abbrev S128x1024 : Shape := ⟨2, ![128, 1024]⟩
abbrev S128x1 : Shape := ⟨2, ![128, 1]⟩
abbrev S128x96 : Shape := ⟨2, ![128, 96]⟩
abbrev S1x128x256 : Shape := ⟨3, ![1, 128, 256]⟩
abbrev S128x256 : Shape := ⟨2, ![128, 256]⟩
abbrev S128x8 : Shape := ⟨2, ![128, 8]⟩
abbrev S128x12 : Shape := ⟨2, ![128, 12]⟩
abbrev S1x128x96 : Shape := ⟨3, ![1, 128, 96]⟩
abbrev S128 : Shape := ⟨1, ![128]⟩
abbrev S128x128 : Shape := ⟨2, ![128, 128]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 7
  | .vmem => 11
  | .smem => 0
  | _ => 0

abbrev bufTy : (tb : Table) → Fin (tcTables nBuf tb) → BufTy
  | .hbm, ⟨0, _⟩ => ⟨S64x1024x96, .f32⟩
  | .hbm, ⟨1, _⟩ => ⟨S64x1024x16, .i32⟩
  | .hbm, ⟨2, _⟩ => ⟨S64x1024x256, .f32⟩
  | .hbm, ⟨3, _⟩ => ⟨S64x1024x96, .f32⟩
  | .hbm, ⟨4, _⟩ => ⟨S1024x128, .f32⟩
  | .hbm, ⟨5, _⟩ => ⟨S1024x128, .f32⟩
  | .hbm, ⟨6, _⟩ => ⟨S1x1, .f32⟩
  | .local _ .vmem, ⟨0, _⟩ => ⟨S1x1024x96, .f32⟩
  | .local _ .vmem, ⟨1, _⟩ => ⟨S1x1024x96, .f32⟩
  | .local _ .vmem, ⟨2, _⟩ => ⟨S1x1024x16, .i32⟩
  | .local _ .vmem, ⟨3, _⟩ => ⟨S1x1024x16, .i32⟩
  | .local _ .vmem, ⟨4, _⟩ => ⟨S1x1024x256, .f32⟩
  | .local _ .vmem, ⟨5, _⟩ => ⟨S1x1024x256, .f32⟩
  | .local _ .vmem, ⟨6, _⟩ => ⟨S1x1024x96, .f32⟩
  | .local _ .vmem, ⟨7, _⟩ => ⟨S1x1024x96, .f32⟩
  | .local _ .vmem, ⟨8, _⟩ => ⟨S1024x128, .f32⟩
  | .local _ .vmem, ⟨9, _⟩ => ⟨S1024x128, .f32⟩
  | .local _ .vmem, ⟨10, _⟩ => ⟨S1x1, .f32⟩
  | _, _ => ⟨S64x1024x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReduceReferenceIdeal.lean ====
abbrev S64x1024x96 : Shape := ⟨3, ![64, 1024, 96]⟩
abbrev S64x1024x16 : Shape := ⟨3, ![64, 1024, 16]⟩
abbrev S64x1024x256 : Shape := ⟨3, ![64, 1024, 256]⟩
abbrev S64x1024x16x16 : Shape := ⟨4, ![64, 1024, 16, 16]⟩
abbrev S64x1024x16x8 : Shape := ⟨4, ![64, 1024, 16, 8]⟩
abbrev S_ : Shape := ⟨0, ![]⟩
abbrev S64x1024x16x1 : Shape := ⟨4, ![64, 1024, 16, 1]⟩
abbrev S64x1024x16x96 : Shape := ⟨4, ![64, 1024, 16, 96]⟩
abbrev S64x1024x8 : Shape := ⟨3, ![64, 1024, 8]⟩
abbrev S64x1024x8x12 : Shape := ⟨4, ![64, 1024, 8, 12]⟩
abbrev S64x1024x8x1 : Shape := ⟨4, ![64, 1024, 8, 1]⟩
abbrev S64x1024x1x8 : Shape := ⟨4, ![64, 1024, 1, 8]⟩
abbrev S64x1024x16x10 : Shape := ⟨4, ![64, 1024, 16, 10]⟩
abbrev S64x1024x10x16 : Shape := ⟨4, ![64, 1024, 10, 16]⟩
abbrev S16x16 : Shape := ⟨2, ![16, 16]⟩
abbrev S1x1x16x16 : Shape := ⟨4, ![1, 1, 16, 16]⟩
abbrev S64x1024 : Shape := ⟨2, ![64, 1024]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S64x1024x96, .f32⟩
  | .hbm, ⟨1, _⟩ => ⟨S64x1024x16, .i32⟩
  | .hbm, ⟨2, _⟩ => ⟨S64x1024x256, .f32⟩
  | .hbm, ⟨3, _⟩ => ⟨S64x1024x16x16, .f32⟩
  | .hbm, ⟨4, _⟩ => ⟨S64x1024x16x8, .f32⟩
  | .hbm, ⟨5, _⟩ => ⟨S_, .i32⟩
  | .hbm, ⟨6, _⟩ => ⟨S64x1024x16, .i32⟩
  | .hbm, ⟨7, _⟩ => ⟨S64x1024x16, .i1⟩
  | .hbm, ⟨8, _⟩ => ⟨S_, .i32⟩
  | .hbm, ⟨9, _⟩ => ⟨S64x1024x16, .i32⟩
  | .hbm, ⟨10, _⟩ => ⟨S64x1024x16, .i32⟩
  | .hbm, ⟨11, _⟩ => ⟨S64x1024x16, .i32⟩
  | .hbm, ⟨12, _⟩ => ⟨S64x1024x16x1, .i32⟩
  | .hbm, ⟨13, _⟩ => ⟨S64x1024x16x96, .f32⟩
  | .hbm, ⟨14, _⟩ => ⟨S_, .f32⟩
  | .hbm, ⟨15, _⟩ => ⟨S64x1024x8, .f32⟩
  | .hbm, ⟨16, _⟩ => ⟨S_, .f32⟩
  | .hbm, ⟨17, _⟩ => ⟨S64x1024x8, .f32⟩
  | .hbm, ⟨18, _⟩ => ⟨S64x1024x8, .i1⟩
  | .hbm, ⟨19, _⟩ => ⟨S_, .f32⟩
  | .hbm, ⟨20, _⟩ => ⟨S_, .f32⟩
  | .hbm, ⟨21, _⟩ => ⟨S64x1024x8, .f32⟩
  | .hbm, ⟨22, _⟩ => ⟨S64x1024x8, .f32⟩
  | .hbm, ⟨23, _⟩ => ⟨S_, .f32⟩
  | .hbm, ⟨24, _⟩ => ⟨S64x1024x96, .f32⟩
  | .hbm, ⟨25, _⟩ => ⟨S64x1024x8x12, .f32⟩
  | .hbm, ⟨26, _⟩ => ⟨S64x1024x8x1, .f32⟩
  | .hbm, ⟨27, _⟩ => ⟨S64x1024x8x12, .f32⟩
  | .hbm, ⟨28, _⟩ => ⟨S64x1024x8x12, .f32⟩
  | .hbm, ⟨29, _⟩ => ⟨S_, .f32⟩
  | .hbm, ⟨30, _⟩ => ⟨S64x1024x8, .f32⟩
  | .hbm, ⟨31, _⟩ => ⟨S64x1024x1x8, .f32⟩
  | .hbm, ⟨32, _⟩ => ⟨S_, .f32⟩
  | .hbm, ⟨33, _⟩ => ⟨S64x1024x1x8, .f32⟩
  | .hbm, ⟨34, _⟩ => ⟨S64x1024x1x8, .f32⟩
  | .hbm, ⟨35, _⟩ => ⟨S64x1024x16x8, .f32⟩
  | .hbm, ⟨36, _⟩ => ⟨S64x1024x16x8, .f32⟩
  | .hbm, ⟨37, _⟩ => ⟨S64x1024x16x8, .f32⟩
  | .hbm, ⟨38, _⟩ => ⟨S64x1024x16x8, .f32⟩
  | .hbm, ⟨39, _⟩ => ⟨S64x1024x16x8, .f32⟩
  | .hbm, ⟨40, _⟩ => ⟨S_, .f32⟩
  | .hbm, ⟨41, _⟩ => ⟨S64x1024x16, .f32⟩
  | .hbm, ⟨42, _⟩ => ⟨S64x1024x16x1, .f32⟩
  | .hbm, ⟨43, _⟩ => ⟨S_, .f32⟩
  | .hbm, ⟨44, _⟩ => ⟨S64x1024x16x1, .f32⟩
  | .hbm, ⟨45, _⟩ => ⟨S64x1024x16x8, .f32⟩
  | .hbm, ⟨46, _⟩ => ⟨S_, .f32⟩
  | .hbm, ⟨47, _⟩ => ⟨S64x1024x16, .f32⟩
  | .hbm, ⟨48, _⟩ => ⟨S64x1024x16x1, .f32⟩
  | .hbm, ⟨49, _⟩ => ⟨S_, .f32⟩
  | .hbm, ⟨50, _⟩ => ⟨S64x1024x16x1, .f32⟩
  | .hbm, ⟨51, _⟩ => ⟨S_, .f32⟩
  | .hbm, ⟨52, _⟩ => ⟨S64x1024x16x8, .f32⟩
  | .hbm, ⟨53, _⟩ => ⟨S64x1024x16x8, .f32⟩
  | .hbm, ⟨54, _⟩ => ⟨S64x1024x16x10, .f32⟩
  | .hbm, ⟨55, _⟩ => ⟨S64x1024x16x10, .f32⟩
  | .hbm, ⟨56, _⟩ => ⟨S64x1024x10x16, .f32⟩
  | .hbm, ⟨57, _⟩ => ⟨S64x1024x16x16, .f32⟩
  | .hbm, ⟨58, _⟩ => ⟨S_, .f32⟩
  | .hbm, ⟨59, _⟩ => ⟨S_, .f32⟩
  | .hbm, ⟨60, _⟩ => ⟨S64x1024x16x16, .f32⟩
  | .hbm, ⟨61, _⟩ => ⟨S64x1024x16x16, .f32⟩
  | .hbm, ⟨62, _⟩ => ⟨S64x1024x16x16, .f32⟩
  | .hbm, ⟨63, _⟩ => ⟨S_, .f32⟩
  | .hbm, ⟨64, _⟩ => ⟨S16x16, .f32⟩
  | .hbm, ⟨65, _⟩ => ⟨S16x16, .i32⟩
  | .hbm, ⟨66, _⟩ => ⟨S16x16, .i32⟩
  | .hbm, ⟨67, _⟩ => ⟨S_, .i32⟩
  | .hbm, ⟨68, _⟩ => ⟨S16x16, .i32⟩
  | .hbm, ⟨69, _⟩ => ⟨S16x16, .i32⟩
  | .hbm, ⟨70, _⟩ => ⟨S16x16, .i1⟩
  | .hbm, ⟨71, _⟩ => ⟨S16x16, .f32⟩
  | .hbm, ⟨72, _⟩ => ⟨S16x16, .f32⟩
  | .hbm, ⟨73, _⟩ => ⟨S_, .f32⟩
  | .hbm, ⟨74, _⟩ => ⟨S16x16, .f32⟩
  | .hbm, ⟨75, _⟩ => ⟨S16x16, .f32⟩
  | .hbm, ⟨76, _⟩ => ⟨S1x1x16x16, .f32⟩
  | .hbm, ⟨77, _⟩ => ⟨S64x1024x16x16, .f32⟩
  | .hbm, ⟨78, _⟩ => ⟨S64x1024x16x16, .f32⟩
  | .hbm, ⟨79, _⟩ => ⟨S_, .f32⟩
  | .hbm, ⟨80, _⟩ => ⟨S_, .f32⟩
  | .hbm, ⟨81, _⟩ => ⟨S64x1024x16x16, .f32⟩
  | .hbm, ⟨82, _⟩ => ⟨S64x1024x16x16, .f32⟩
  | .hbm, ⟨83, _⟩ => ⟨S64x1024x16x16, .f32⟩
  | .hbm, ⟨84, _⟩ => ⟨S_, .f32⟩
  | .hbm, ⟨85, _⟩ => ⟨S64x1024x16, .f32⟩
  | .hbm, ⟨86, _⟩ => ⟨S_, .f32⟩
  | .hbm, ⟨87, _⟩ => ⟨S64x1024, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S64x1024x96, .f32⟩
  | .hbm, ⟨93, _⟩ => ⟨S1x1, .f32⟩
  | _, _ => ⟨S64x1024x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_call1_v0 : Ref sig .tc := ⟨.hbm, 59, rfl⟩
abbrev main_call1_v1 : Ref sig .tc := ⟨.hbm, 60, rfl⟩
abbrev main_v40 : Ref sig .tc := ⟨.hbm, 61, rfl⟩
abbrev main_v41 : Ref sig .tc := ⟨.hbm, 62, rfl⟩
abbrev main_cst_12 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_13 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_15 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_v56 : Ref sig .tc := ⟨.hbm, 83, rfl⟩
abbrev main_cst_16 : Ref sig .tc := ⟨.hbm, 84, rfl⟩
abbrev main_v57 : Ref sig .tc := ⟨.hbm, 85, rfl⟩
abbrev main_cst_17 : Ref sig .tc := ⟨.hbm, 86, rfl⟩
abbrev main_v58 : Ref sig .tc := ⟨.hbm, 87, rfl⟩
abbrev main_cst_18 : Ref sig .tc := ⟨.hbm, 88, rfl⟩
abbrev main_v59 : Ref sig .tc := ⟨.hbm, 89, rfl⟩
abbrev main_cst_19 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Prepare.lean ====
abbrev S64x1024x256 : Shape := ⟨3, ![64, 1024, 256]⟩
abbrev S64x1x1024x12 : Shape := ⟨4, ![64, 1, 1024, 12]⟩
abbrev S8x256 : Shape := ⟨2, ![8, 256]⟩
abbrev S8x12x12 : Shape := ⟨3, ![8, 12, 12]⟩
abbrev S1024 : Shape := ⟨1, ![1024]⟩
abbrev S64x1024x16 : Shape := ⟨3, ![64, 1024, 16]⟩
abbrev S64x1024x12 : Shape := ⟨3, ![64, 1024, 12]⟩
abbrev S96x12 : Shape := ⟨2, ![96, 12]⟩
abbrev S1024x1 : Shape := ⟨2, ![1024, 1]⟩
abbrev S1024x2 : Shape := ⟨2, ![1024, 2]⟩
abbrev S1x1024x256 : Shape := ⟨3, ![1, 1024, 256]⟩
abbrev S1024x256 : Shape := ⟨2, ![1024, 256]⟩
abbrev S64x1024x96 : Shape := ⟨3, ![64, 1024, 96]⟩
abbrev S1x1024x12 : Shape := ⟨3, ![1, 1024, 12]⟩
abbrev S1x1024x16 : Shape := ⟨3, ![1, 1024, 16]⟩
abbrev S1x1024x96 : Shape := ⟨3, ![1, 1024, 96]⟩
abbrev S256 : Shape := ⟨1, ![256]⟩
abbrev S1x256 : Shape := ⟨2, ![1, 256]⟩
abbrev S8 : Shape := ⟨1, ![8]⟩
abbrev S1x8 : Shape := ⟨2, ![1, 8]⟩
abbrev S1024x8 : Shape := ⟨2, ![1024, 8]⟩
abbrev S1024x12 : Shape := ⟨2, ![1024, 12]⟩
abbrev S1024x96 : Shape := ⟨2, ![1024, 96]⟩
abbrev S1024x16 : Shape := ⟨2, ![1024, 16]⟩

abbrev nBuf : Space → Nat
  | .hbm => 15
  | .vmem => 20
  | .smem => 0
  | _ => 0

abbrev bufTy : (tb : Table) → Fin (tcTables nBuf tb) → BufTy
  | .hbm, ⟨0, _⟩ => ⟨S64x1024x256, .f32⟩
  | .hbm, ⟨1, _⟩ => ⟨S64x1x1024x12, .f32⟩
  | .hbm, ⟨2, _⟩ => ⟨S8x256, .f32⟩
  | .hbm, ⟨3, _⟩ => ⟨S8x12x12, .f32⟩
  | .hbm, ⟨4, _⟩ => ⟨S1024, .f32⟩
  | .hbm, ⟨5, _⟩ => ⟨S1024, .f32⟩
  | .hbm, ⟨6, _⟩ => ⟨S64x1024x16, .i32⟩
  | .hbm, ⟨7, _⟩ => ⟨S64x1024x12, .f32⟩
  | .hbm, ⟨8, _⟩ => ⟨S96x12, .f32⟩
  | .hbm, ⟨9, _⟩ => ⟨S1024x1, .f32⟩
  | .hbm, ⟨10, _⟩ => ⟨S1024x1, .f32⟩
  | .hbm, ⟨11, _⟩ => ⟨S1024x2, .f32⟩
  | .hbm, ⟨12, _⟩ => ⟨S64x1024x96, .f32⟩
  | .hbm, ⟨13, _⟩ => ⟨S64x1024x16, .f32⟩
  | .hbm, ⟨14, _⟩ => ⟨S64x1024x16, .i32⟩
  | .local _ .vmem, ⟨0, _⟩ => ⟨S1x1024x256, .f32⟩
  | .local _ .vmem, ⟨1, _⟩ => ⟨S1x1024x256, .f32⟩
  | .local _ .vmem, ⟨2, _⟩ => ⟨S1024x2, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x12, .f32⟩
  | .local _ .vmem, ⟨6, _⟩ => ⟨S1x1024x12, .f32⟩
  | .local _ .vmem, ⟨7, _⟩ => ⟨S1024x2, .f32⟩
  | .local _ .vmem, ⟨8, _⟩ => ⟨S1024x1, .f32⟩
  | .local _ .vmem, ⟨9, _⟩ => ⟨S1024x1, .f32⟩
  | .local _ .vmem, ⟨10, _⟩ => ⟨S8x256, .f32⟩
  | .local _ .vmem, ⟨11, _⟩ => ⟨S96x12, .f32⟩
  | .local _ .vmem, ⟨12, _⟩ => ⟨S1x1024x16, .i32⟩
  | .local _ .vmem, ⟨13, _⟩ => ⟨S1x1024x16, .i32⟩
  | .local _ .vmem, ⟨14, _⟩ => ⟨S1x1024x96, .f32⟩
  | .local _ .vmem, ⟨15, _⟩ => ⟨S1x1024x96, .f32⟩
  | .local _ .vmem, ⟨16, _⟩ => ⟨S1x1024x16, .f32⟩
  | .local _ .vmem, ⟨17, _⟩ => ⟨S1x1024x16, .f32⟩
  | .local _ .vmem, ⟨18, _⟩ => ⟨S1x1024x16, .i32⟩
  | .local _ .vmem, ⟨19, _⟩ => ⟨S1x1024x16, .i32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg7_1 : Ref sig .tc := ⟨.vmem, 13, rfl⟩
abbrev cc1_stg8_0 : Ref sig .tc := ⟨.vmem, 14, rfl⟩
abbrev cc1_stg8_1 : Ref sig .tc := ⟨.vmem, 15, rfl⟩
abbrev cc1_stg9_0 : Ref sig .tc := ⟨.vmem, 16, rfl⟩
abbrev cc1_stg9_1 : Ref sig .tc := ⟨.vmem, 17, rfl⟩
abbrev cc1_stg10_0 : Ref sig .tc := ⟨.vmem, 18, rfl⟩
abbrev cc1_stg10_1 : Ref sig .tc := ⟨.vmem, 19, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem7_1 : DmaSem sig := 13
abbrev cc1_sem8_0 : DmaSem sig := 14
abbrev cc1_sem8_1 : DmaSem sig := 15
abbrev cc1_sem9_0 : DmaSem sig := 16
abbrev cc1_sem9_1 : DmaSem sig := 17
abbrev cc1_sem10_0 : DmaSem sig := 18
abbrev cc1_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x12 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S96x12 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x1024x16 .i32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1024x96 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1024x16 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1024x16 .i32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== PrepareReferenceIdeal.lean ====
abbrev S64x1024x256 : Shape := ⟨3, ![64, 1024, 256]⟩
abbrev S64x1x1024x12 : Shape := ⟨4, ![64, 1, 1024, 12]⟩
abbrev S8x256 : Shape := ⟨2, ![8, 256]⟩
abbrev S8x12x12 : Shape := ⟨3, ![8, 12, 12]⟩
abbrev S1024 : Shape := ⟨1, ![1024]⟩
abbrev S64x1024x16 : Shape := ⟨3, ![64, 1024, 16]⟩
abbrev S_ : Shape := ⟨0, ![]⟩
abbrev S1x1024x1 : Shape := ⟨3, ![1, 1024, 1]⟩
abbrev S64x256 : Shape := ⟨2, ![64, 256]⟩
abbrev S64x1x256 : Shape := ⟨3, ![64, 1, 256]⟩
abbrev S1x8x256 : Shape := ⟨3, ![1, 8, 256]⟩
abbrev S64x8x256 : Shape := ⟨3, ![64, 8, 256]⟩
abbrev S64x1024 : Shape := ⟨2, ![64, 1024]⟩
abbrev S64x1024x1 : Shape := ⟨3, ![64, 1024, 1]⟩
abbrev S64x8 : Shape := ⟨2, ![64, 8]⟩
abbrev S64x8x1 : Shape := ⟨3, ![64, 8, 1]⟩
abbrev S64x1024x258 : Shape := ⟨3, ![64, 1024, 258]⟩
abbrev S64x8x258 : Shape := ⟨3, ![64, 8, 258]⟩
abbrev S64x258x8 : Shape := ⟨3, ![64, 258, 8]⟩
abbrev S64x1024x8 : Shape := ⟨3, ![64, 1024, 8]⟩
abbrev S64x1024x12 : Shape := ⟨3, ![64, 1024, 12]⟩
abbrev S64x1024x8x12 : Shape := ⟨4, ![64, 1024, 8, 12]⟩
abbrev S64x1024x8x1 : Shape := ⟨4, ![64, 1024, 8, 1]⟩
abbrev S64 : Shape := ⟨1, ![64]⟩
abbrev S64x1x1 : Shape := ⟨3, ![64, 1, 1]⟩
abbrev S64x1024x96 : Shape := ⟨3, ![64, 1024, 96]⟩

abbrev nBuf : Space → Nat
  | .hbm => 120
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S64x1x1024x12, .f32⟩
  | .hbm, ⟨2, _⟩ => ⟨S8x256, .f32⟩
  | .hbm, ⟨3, _⟩ => ⟨S8x12x12, .f32⟩
  | .hbm, ⟨4, _⟩ => ⟨S1024, .f32⟩
  | .hbm, ⟨5, _⟩ => ⟨S1024, .f32⟩
  | .hbm, ⟨6, _⟩ => ⟨S64x1024x16, .i32⟩
  | .hbm, ⟨7, _⟩ => ⟨S_, .f32⟩
  | .hbm, ⟨8, _⟩ => ⟨S1024, .f32⟩
  | .hbm, ⟨9, _⟩ => ⟨S1x1024x1, .f32⟩
  | .hbm, ⟨10, _⟩ => ⟨S_, .f32⟩
  | .hbm, ⟨11, _⟩ => ⟨S1x1024x1, .f32⟩
  | .hbm, ⟨12, _⟩ => ⟨S1x1024x1, .f32⟩
  | .hbm, ⟨13, _⟩ => ⟨S_, .i32⟩
  | .hbm, ⟨14, _⟩ => ⟨S_, .f32⟩
  | .hbm, ⟨15, _⟩ => ⟨S1024, .f32⟩
  | .hbm, ⟨16, _⟩ => ⟨S1x1024x1, .f32⟩
  | .hbm, ⟨17, _⟩ => ⟨S_, .f32⟩
  | .hbm, ⟨18, _⟩ => ⟨S1x1024x1, .f32⟩
  | .hbm, ⟨19, _⟩ => ⟨S1x1024x1, .f32⟩
  | .hbm, ⟨20, _⟩ => ⟨S64x1024x256, .f32⟩
  | .hbm, ⟨21, _⟩ => ⟨S64x1024x256, .f32⟩
  | .hbm, ⟨22, _⟩ => ⟨S64x1024x256, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1024, .f32⟩
  | .hbm, ⟨28, _⟩ => ⟨S1x1024x1, .f32⟩
  | .hbm, ⟨29, _⟩ => ⟨S1x1024x1, .f32⟩
  | .hbm, ⟨30, _⟩ => ⟨S1x1024x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S1x1024x1, .f32⟩
  | .hbm, ⟨36, _⟩ => ⟨S1x1024x1, .f32⟩
  | .hbm, ⟨37, _⟩ => ⟨S64x1024x256, .f32⟩
  | .hbm, ⟨38, _⟩ => ⟨S64x1024x256, .f32⟩
  | .hbm, ⟨39, _⟩ => ⟨S_, .f32⟩
  | .hbm, ⟨40, _⟩ => ⟨S1x1024x1, .f32⟩
  | .hbm, ⟨41, _⟩ => ⟨S1x1024x1, .f32⟩
  | .hbm, ⟨42, _⟩ => ⟨S1x1024x1, .f32⟩
  | .hbm, ⟨43, _⟩ => ⟨S64x1024x256, .f32⟩
  | .hbm, ⟨44, _⟩ => ⟨S64x1024x256, .f32⟩
  | .hbm, ⟨45, _⟩ => ⟨S1x1024x1, .f32⟩
  | .hbm, ⟨46, _⟩ => ⟨S64x1024x256, .f32⟩
  | .hbm, ⟨47, _⟩ => ⟨S64x1024x256, .f32⟩
  | .hbm, ⟨48, _⟩ => ⟨S1x1024x1, .f32⟩
  | .hbm, ⟨49, _⟩ => ⟨S64x1024x256, .f32⟩
  | .hbm, ⟨50, _⟩ => ⟨S64x1024x256, .f32⟩
  | .hbm, ⟨51, _⟩ => ⟨S_, .f32⟩
  | .hbm, ⟨52, _⟩ => ⟨S64x256, .f32⟩
  | .hbm, ⟨53, _⟩ => ⟨S64x1x256, .f32⟩
  | .hbm, ⟨54, _⟩ => ⟨S_, .f32⟩
  | .hbm, ⟨55, _⟩ => ⟨S64x1x256, .f32⟩
  | .hbm, ⟨56, _⟩ => ⟨S64x1x256, .f32⟩
  | .hbm, ⟨57, _⟩ => ⟨S64x1024x256, .f32⟩
  | .hbm, ⟨58, _⟩ => ⟨S64x1024x256, .f32⟩
  | .hbm, ⟨59, _⟩ => ⟨S1x8x256, .f32⟩
  | .hbm, ⟨60, _⟩ => ⟨S64x8x256, .f32⟩
  | .hbm, ⟨61, _⟩ => ⟨S64x8x256, .f32⟩
  | .hbm, ⟨62, _⟩ => ⟨S64x8x256, .f32⟩
  | .hbm, ⟨63, _⟩ => ⟨S64x1024x256, .f32⟩
  | .hbm, ⟨64, _⟩ => ⟨S_, .f32⟩
  | .hbm, ⟨65, _⟩ => ⟨S64x1024, .f32⟩
  | .hbm, ⟨66, _⟩ => ⟨S64x1024x1, .f32⟩
  | .hbm, ⟨67, _⟩ => ⟨S_, .f32⟩
  | .hbm, ⟨68, _⟩ => ⟨S64x1024x1, .f32⟩
  | .hbm, ⟨69, _⟩ => ⟨S64x8x256, .f32⟩
  | .hbm, ⟨70, _⟩ => ⟨S_, .f32⟩
  | .hbm, ⟨71, _⟩ => ⟨S64x8, .f32⟩
  | .hbm, ⟨72, _⟩ => ⟨S64x8x1, .f32⟩
  | .hbm, ⟨73, _⟩ => ⟨S_, .f32⟩
  | .hbm, ⟨74, _⟩ => ⟨S64x8x1, .f32⟩
  | .hbm, ⟨75, _⟩ => ⟨S_, .f32⟩
  | .hbm, ⟨76, _⟩ => ⟨S64x1024x256, .f32⟩
  | .hbm, ⟨77, _⟩ => ⟨S64x1024x256, .f32⟩
  | .hbm, ⟨78, _⟩ => ⟨S64x1024x258, .f32⟩
  | .hbm, ⟨79, _⟩ => ⟨S64x8x258, .f32⟩
  | .hbm, ⟨80, _⟩ => ⟨S64x258x8, .f32⟩
  | .hbm, ⟨81, _⟩ => ⟨S64x1024x8, .f32⟩
  | .hbm, ⟨82, _⟩ => ⟨S_, .f32⟩
  | .hbm, ⟨83, _⟩ => ⟨S_, .f32⟩
  | .hbm, ⟨84, _⟩ => ⟨S64x1024x8, .f32⟩
  | .hbm, ⟨85, _⟩ => ⟨S64x1024x8, .f32⟩
  | .hbm, ⟨86, _⟩ => ⟨S64x1024x8, .f32⟩
  | .hbm, ⟨87, _⟩ => ⟨S_, .f32⟩
  | .hbm, ⟨88, _⟩ => ⟨S64x1024, .f32⟩
  | .hbm, ⟨89, _⟩ => ⟨S_, .f32⟩
  | .hbm, ⟨90, _⟩ => ⟨S64x1024, .f32⟩
  | .hbm, ⟨91, _⟩ => ⟨S64x1024, .f32⟩
  | .hbm, ⟨92, _⟩ => ⟨S64x1024x1, .f32⟩
  | .hbm, ⟨93, _⟩ => ⟨S64x1024x8, .f32⟩
  | .hbm, ⟨94, _⟩ => ⟨S64x1024x8, .f32⟩
  | .hbm, ⟨95, _⟩ => ⟨S64x1024x8, .f32⟩
  | .hbm, ⟨96, _⟩ => ⟨S_, .f32⟩
  | .hbm, ⟨97, _⟩ => ⟨S64x1024, .f32⟩
  | .hbm, ⟨98, _⟩ => ⟨S64x1024x1, .f32⟩
  | .hbm, ⟨99, _⟩ => ⟨S64x1024x8, .f32⟩
  | .hbm, ⟨100, _⟩ => ⟨S64x1024x8, .f32⟩
  | .hbm, ⟨101, _⟩ => ⟨S64x1024x12, .f32⟩
  | .hbm, ⟨102, _⟩ => ⟨S64x1024x8x12, .f32⟩
  | .hbm, ⟨103, _⟩ => ⟨S_, .f32⟩
  | .hbm, ⟨104, _⟩ => ⟨S64x1024x8x12, .f32⟩
  | .hbm, ⟨105, _⟩ => ⟨S64x1024x8x12, .f32⟩
  | .hbm, ⟨106, _⟩ => ⟨S64x1024x8x1, .f32⟩
  | .hbm, ⟨107, _⟩ => ⟨S64x1024x8x12, .f32⟩
  | .hbm, ⟨108, _⟩ => ⟨S64x1024x8x12, .f32⟩
  | .hbm, ⟨109, _⟩ => ⟨S_, .f32⟩
  | .hbm, ⟨110, _⟩ => ⟨S64x1024x8, .f32⟩
  | .hbm, ⟨111, _⟩ => ⟨S64x1024x16, .f32⟩
  | .hbm, ⟨112, _⟩ => ⟨S64, .i32⟩
  | .hbm, ⟨113, _⟩ => ⟨S64x1x1, .i32⟩
  | .hbm, ⟨114, _⟩ => ⟨S_, .i32⟩
  | .hbm, ⟨115, _⟩ => ⟨S64x1x1, .i32⟩
  | .hbm, ⟨116, _⟩ => ⟨S64x1x1, .i32⟩
  | .hbm, ⟨117, _⟩ => ⟨S64x1024x16, .i32⟩
  | .hbm, ⟨118, _⟩ => ⟨S64x1024x16, .i32⟩
  | .hbm, ⟨119, _⟩ => ⟨S64x1024x96, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_2 : Ref sig .tc := ⟨.hbm, 51, rfl⟩
abbrev main_v18 : Ref sig .tc := ⟨.hbm, 52, rfl⟩
abbrev main_v19 : Ref sig .tc := ⟨.hbm, 53, rfl⟩
abbrev main_cst_3 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_4 : Ref sig .tc := ⟨.hbm, 64, rfl⟩
abbrev main_v29 : Ref sig .tc := ⟨.hbm, 65, rfl⟩
abbrev main_v30 : Ref sig .tc := ⟨.hbm, 66, rfl⟩
abbrev main_cst_5 : Ref sig .tc := ⟨.hbm, 67, rfl⟩
abbrev main_v31 : Ref sig .tc := ⟨.hbm, 68, rfl⟩
abbrev main_v32 : Ref sig .tc := ⟨.hbm, 69, rfl⟩
abbrev main_cst_6 : Ref sig .tc := ⟨.hbm, 70, rfl⟩
abbrev main_v33 : Ref sig .tc := ⟨.hbm, 71, rfl⟩
abbrev main_v34 : Ref sig .tc := ⟨.hbm, 72, rfl⟩
abbrev main_cst_7 : Ref sig .tc := ⟨.hbm, 73, rfl⟩
abbrev main_v35 : Ref sig .tc := ⟨.hbm, 74, rfl⟩
abbrev main_cst_8 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_9 : Ref sig .tc := ⟨.hbm, 82, rfl⟩
abbrev main_call1_v0 : Ref sig .tc := ⟨.hbm, 83, rfl⟩
abbrev main_call1_v1 : Ref sig .tc := ⟨.hbm, 84, rfl⟩
abbrev main_v42 : Ref sig .tc := ⟨.hbm, 85, rfl⟩
abbrev main_v43 : Ref sig .tc := ⟨.hbm, 86, rfl⟩
abbrev main_cst_10 : Ref sig .tc := ⟨.hbm, 87, rfl⟩
abbrev main_v44 : Ref sig .tc := ⟨.hbm, 88, rfl⟩
abbrev main_cst_11 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_12 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_call2_cst : Ref sig .tc := ⟨.hbm, 103, rfl⟩
abbrev main_call2_v0 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_13 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_c_14 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩

abbrev nD : Nat := 1
abbrev τ : Topo := Topo.v7x

variable {F : FTy → Type} [FloatOps F]
-- ==== Proof.Tile.lean ====
/-
  One vector subcore's part of the row gather: eight chunks of 4096 rows each, every chunk the same three transfers
  (the chunk's row numbers in, the named rows of the table gathered into the row buffer, the rows out). The chunk is
  proved once, for any chunk number, and the subcore's run is eight of them in a row.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdx
public import proofs.«01_k».proof.Proof.Gen.KernelIdeal
public import proofs.«01_k».proof.Proof.Gen.KernelIdeal.Skeleton

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch sees it, and the resources -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The table, the row numbers and the gathered rows, as the TensorCore's program names them. -/
abbrev xLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

abbrev iV : Memref sig .scVector .hbm S1048576 .i32 := Memref.whole main_v1_scv
abbrev xV : Memref sig .scVector .hbm S65536x16 .f32 := Memref.whole main_v0_scv
abbrev oV : Memref sig .scVector .hbm S1048576x16 .f32 := Memref.whole main_v2_scv
abbrev sV : Memref sig .scVector .vmem S4096 .i32 := Memref.whole cc0_scratch0
abbrev rV : Memref sig .scVector .vmem S4096x16 .f32 := Memref.whole cc0_scratch1

/-- The row a row number names: the number itself when it is below the table's height. -/
def rowAt (v : BitVec 32) : Fin 65536 := ⟨v.toNat % 65536, Nat.mod_lt _ (by decide)⟩

/-- The gathered array: row `r` is the row of the table that entry `r` of the list names. -/
def gathered (fx : S65536x16.Idx → Elt F .f32) (fi : S1048576.Idx → Elt F .i32) : S1048576x16.Idx → Elt F .f32 :=
  fun x => fx (ix2 (rowAt (fi (ix1 (x 0)))) (x 1))

/-- Every row number names a row of the table. -/
def InRange (fi : S1048576.Idx → Elt F .i32) : Prop := ∀ j, (fi j : BitVec 32).toNat < 65536

/-! ## One chunk -/

section Tile

variable [FloatOps F] (d : Dev nD) (L : grid0.Coords)

abbrev cV (L : grid0.Coords) : Fin τ.nSC := (L 0).castLE hcore0
abbrev jV (L : grid0.Coords) : Fin τ.nSub := (L 1).castLE hsub0

/-- Chunk `r` of the subcore's row numbers and of its output rows, and the whole table, as the kernel addresses them. -/
abbrev iRect (r : Fin 8) : Rect S1048576 := Rect.unit (s := S1048576) (k0_off1 L (BitVec.ofNat 32 (4096 * r.val))) S4096.size (k0_off1_inb L r)
abbrev oRect (r : Fin 8) : Rect S1048576x16 := Rect.unit (s := S1048576x16) (k0_off2 L (BitVec.ofNat 32 (4096 * r.val))) S4096x16.size (k0_off2_inb L r)
abbrev iCh (r : Fin 8) : Memref sig .scVector .hbm S4096 .i32 := (iV).slice (iRect L r) (fun _ => rfl)
abbrev oCh (r : Fin 8) : Memref sig .scVector .hbm S4096x16 .f32 := (oV).slice (oRect L r) (fun _ => rfl)
abbrev xAll : Memref sig .scVector .hbm S65536x16 .f32 := (xV).slice (Rect.unit (s := S65536x16) ![0, 0] S65536x16.size inb_S65536x16_S65536x16_0_0) (fun _ => rfl)

/-- The kernel's text for chunk `r`, on the chunk's two semaphores and the stream's. -/
def chunk (r : Fin 8) (sA sB sG : DmaSems sig S_) : Prog (TpuEff nD τ sig (Elt F) Λ₀ (.scVector (cV L) (jV L))) PUnit := do
  Prog.lift (.enqueueDma (iCh L r) (.here sV) (.dma sA.sem) (View.wordExact_bits rfl) (Memref.isWhole_whole cc0_scratch0).wordExact ⟨Or.inl rfl, trivial⟩)
  Prog.lift (.waitDma2 sA.sem (iCh L r) sV (View.wordExact_bits rfl) (Memref.isWhole_whole cc0_scratch0).wordExact)
  SparseCore.enqueueIndirectGather rfl xAll rV gathers_S65536x16_S4096x16 sV rfl sG.sem (View.wordExact_bits rfl) rfl (Or.inl rfl)
  SparseCore.waitIndirectGather sG.sem xAll rV (View.wordExact_bits rfl) (Memref.isWhole_whole cc0_scratch1).wordExact
  Prog.lift (.enqueueDma rV (.here (oCh L r)) (.dma sB.sem) (Memref.isWhole_whole cc0_scratch1).wordExact (View.wordExact_bits rfl) ⟨Or.inl rfl, trivial⟩)
  Prog.lift (.waitDma2 sB.sem rV (oCh L r) (Memref.isWhole_whole cc0_scratch1).wordExact (View.wordExact_bits rfl))

/-- What chunk `r` fetches of the row numbers names rows of the table. -/
theorem fetched_inRange (r : Fin 8) (fi : S1048576.Idx → Elt F .i32) (hpre : InRange fi) (fs : S4096.Idx → Elt F .i32)
    (pay : S4096.Idx → Elt F .i32) (hpay : pay = (iCh L r).view.read (Elt F) fi) :
    ∀ x, ((sV).view.read (Elt F) (View.write (Elt F) (sV).view fs pay Finset.univ) x).toNat < S65536x16.size gathers_S65536x16_S4096x16.axis := by
  subst hpay; intro x
  rw [View.write_whole_univ]
  simp only [Memref.view_whole, View.read_whole]
  rw [show ∀ j, (iCh L r).view.read (Elt F) fi j = fi ((iCh L r).view.emb j) from fun j => (View.read_apply _ _).trans (cast_eq _ _)]
  exact hpre _

omit [FloatOps F] in
/-- The rows of the row buffer come to the buffer's credit. -/
theorem rows_credit : ∀ h : S65536x16.Gathers 0 S4096x16, ∑ j, ((rV).slice (S4096x16.rowRect h.axis' j) (S4096x16.stride_rowRect h.axis' j)).view.dmaCredit
      = (rV).view.dmaCredit := by
  intro h
  have hs : ∀ j, (S4096x16.rowRect h.axis' j).shape = ⟨2, ![1, 16]⟩ := fun j => by
    show Shape.mk 2 _ = _
    congr 1
    funext b
    match b with
    | 0 => rfl
    | 1 => rfl
  have hj : ∀ j, ((rV).slice (S4096x16.rowRect h.axis' j) (S4096x16.stride_rowRect h.axis' j)).view.dmaCredit = 512 :=
    fun j => View.dmaCredit_closed _ _ (hs j) (rV).view.buf rfl 512 (by decide)
  have hw : (rV).view.dmaCredit = 2097152 := View.dmaCredit_closed _ _ rfl _ rfl _ (by decide)
  have hc : S4096x16.size h.axis' = 4096 := rfl
  rw [Finset.sum_congr rfl (fun j _ => hj j), Finset.sum_const, Finset.card_univ, Fintype.card_fin, hw, hc]
  rfl

omit [FloatOps F] in
/-- The stream may read every element of the table. -/
theorem set_xAll : (xAll).view.set = Finset.univ := by
  show ((View.whole (main_v0_scv : Ref sig .scVector)).slice (Rect.unit (s := S65536x16) ![0, 0] S65536x16.size inb_S65536x16_S65536x16_0_0)).set = _
  rw [View.set_slice]
  exact Finset.map_refl.trans (Rect.set_eq_univ_of_whole _ (by decide))

omit [FloatOps F] in
/-- The gathered chunk at its row `j`, from a list that holds the chunk's row numbers. -/
theorem payload_of_list (r : Fin 8) (fx : S65536x16.Idx → Elt F .f32) (fi : S1048576.Idx → Elt F .i32) (hpre : InRange fi)
    (lst : S4096.Idx → Elt F .i32) (hl : ∀ x, lst x = fi ((iCh L r).view.emb x)) (hin) (j : S4096x16.Idx) :
    fx ((xAll).view.emb (gathers_S65536x16_S4096x16.idx (SparseCore.rows lst rfl hin) j)) = gathered fx fi ((oCh L r).view.emb j) := by
  unfold gathered
  congr 1
  funext a
  apply Fin.ext
  rw [show (xAll).view.emb = (Rect.unit (s := S65536x16) ![0, 0] S65536x16.size inb_S65536x16_S65536x16_0_0).emb from rfl, Rect.emb_apply]
  match a with
  | 0 =>
    have e0 := congrArg Fin.val (Shape.Gathers.idx_axis gathers_S65536x16_S4096x16 (SparseCore.rows lst rfl hin) j)
    have e3 : (iCh L r).view.emb (S4096.rowMajor.symm ((j gathers_S65536x16_S4096x16.axis').cast rfl)) = ix1 ((oCh L r).view.emb j 0) := by
      funext b
      apply Fin.ext
      match b with
      | 0 =>
        have e4 : (S4096.rowMajor (S4096.rowMajor.symm ((j gathers_S65536x16_S4096x16.axis').cast rfl))).val = (j 0).val :=
          congrArg Fin.val (Equiv.apply_symm_apply _ _)
        rw [Shape.rowMajor_val_one] at e4
        show (k0_off1 L (BitVec.ofNat 32 (4096 * r.val))) 0 + 1 * (S4096.rowMajor.symm ((j gathers_S65536x16_S4096x16.axis').cast rfl) 0).val
          = (k0_off2 L (BitVec.ofNat 32 (4096 * r.val))) 0 + 1 * (j 0).val
        rw [e4, k0_off1_eq, k0_off2_eq]
        rfl
    have e6 := (hl (S4096.rowMajor.symm ((j gathers_S65536x16_S4096x16.axis').cast rfl))).trans (congrArg fi e3)
    have e5 : (SparseCore.rows lst rfl hin (j gathers_S65536x16_S4096x16.axis')).val
        = (fi (ix1 ((oCh L r).view.emb j 0)) : BitVec 32).toNat := by
      show (lst (S4096.rowMajor.symm ((j gathers_S65536x16_S4096x16.axis').cast rfl)) : BitVec 32).toNat = _
      rw [e6]
      rfl
    refine (congrArg (0 + 1 * ·) (e0.trans e5)).trans ?_
    rw [Nat.zero_add, Nat.one_mul]
    exact (Nat.mod_eq_of_lt (hpre _)).symm
  | 1 =>
    have e1 := Shape.Gathers.idx_of_ne gathers_S65536x16_S4096x16 (SparseCore.rows lst rfl hin) j 1 (by decide)
    refine (congrArg (0 + 1 * ·) e1).trans ?_
    show 0 + 1 * (j 1).val = (k0_off2 L (BitVec.ofNat 32 (4096 * r.val))) 1 + 1 * (j 1).val
    rw [k0_off2_eq]
    rfl

omit [FloatOps F] in
/-- What chunk `r` writes out, at each of its rows: the row of the table that the row's entry of the list names. -/
theorem payload_eq (r : Fin 8) (fx : S65536x16.Idx → Elt F .f32) (fi : S1048576.Idx → Elt F .i32) (hpre : InRange fi)
    (fs : S4096.Idx → Elt F .i32) (fr : S4096x16.Idx → Elt F .f32) (hin) (j : S4096x16.Idx) :
    (rV).view.read (Elt F) (View.write (Elt F) (rV).view fr
      (SparseCore.gatherPayload gathers_S65536x16_S4096x16 ((xAll).view.read (Elt F) fx)
        (SparseCore.rows ((sV).view.read (Elt F) (View.write (Elt F) (sV).view fs ((iCh L r).view.read (Elt F) fi) Finset.univ)) rfl hin)) Finset.univ) j
      = gathered fx fi ((oCh L r).view.emb j) := by
  have hr : ∀ x, (iCh L r).view.read (Elt F) fi x = fi ((iCh L r).view.emb x) := fun x => (View.read_apply _ _).trans (cast_eq _ _)
  have hx : ∀ x, (xAll).view.read (Elt F) fx x = fx ((xAll).view.emb x) := fun x => (View.read_apply _ _).trans (cast_eq _ _)
  have hw : ∀ x, (sV).view.read (Elt F) (View.write (Elt F) (sV).view fs ((iCh L r).view.read (Elt F) fi) Finset.univ) x = fi ((iCh L r).view.emb x) := by
    intro x
    rw [View.write_whole_univ]
    simp only [Memref.view_whole, View.read_whole]
    exact hr x
  rw [View.write_whole_univ]
  exact (hx _).trans (payload_of_list L r fx fi hpre _ hw hin j)

omit [FloatOps F] in
/-- So the chunk's output rows hold the gathered array's. -/
theorem writes_eq (r : Fin 8) (g fo : S1048576x16.Idx → Elt F .f32) (pay : S4096x16.Idx → Elt F .f32)
    (hpay : ∀ j, pay j = g ((oCh L r).view.emb j)) :
    ∀ i ∈ (oCh L r).view.set, (oCh L r).view.writes (Elt F) fo [⟨Rect.whole S4096x16, pay⟩] i = g i := by
  intro i hi
  obtain ⟨j, -, rfl⟩ := Finset.mem_map.mp hi
  have h := congrFun (View.read_writes_whole (oCh L r).view fo pay) j
  rw [View.read_apply, cast_eq] at h
  exact h.trans (hpay j)

set_option maxHeartbeats 4000000 in
/-- Chunk `r`: from its row numbers, a share of the table, its output rows at any contents, the two scratch buffers and
    its three cells at zero, to the same with the output rows gathered. -/
theorem wp_chunk (r : Fin 8) (sA sB sG : DmaSems sig S_) (fx : S65536x16.Idx → Elt F .f32) (fi : S1048576.Idx → Elt F .i32)
    (fo : S1048576x16.Idx → Elt F .f32) (hpre : InRange fi) (q : PosShare TreeShare)
    (O : CellTallies nD τ sig (HIx 1)) (W : Waits sig (HIx 1)) (hO : ∀ g, O g none = 0) :
    (iprop(levAts (K (F := F)).L (K (F := F)).lev
        ∗ ((iCh L r).view.loc (V d (cV L) (jV L)) ↦[(iCh L r).view.set]{fullShare} fi)
        ∗ ((xV).view.loc (V d (cV L) (jV L)) ↦{q} fx)
        ∗ ((oCh L r).view.loc (V d (cV L) (jV L)) ↦[(oCh L r).view.set]{fullShare} fo)
        ∗ (∃ f, (sV).view.loc (V d (cV L) (jV L)) ↦{fullShare} f) ∗ (∃ f, (rV).view.loc (V d (cV L) (jV L)) ↦{fullShare} f)
        ∗ semVal (V d (cV L) (jV L), .dma sA.sem) 0 ∗ semVal (V d (cV L) (jV L), .dma sB.sem) 0 ∗ semVal (V d (cV L) (jV L), .dma sG.sem) 0
        ∗ (∃ W', ⌜∀ p ∈ W', p ∈ W ∨ p.2 = none⌝ ∗ owes (V d (cV L) (jV L)) O W')) : sProp 𝕄)
      ⊢ wp frame (wpE (defs₀ (F := F)) 𝒱₀ (V d (cV L) (jV L)) none) Set.univ (chunk (F := F) L r sA sB sG)
          fun _ => iprop(((iCh L r).view.loc (V d (cV L) (jV L)) ↦[(iCh L r).view.set]{fullShare} fi)
            ∗ ((xV).view.loc (V d (cV L) (jV L)) ↦{q} fx)
            ∗ ((oCh L r).view.loc (V d (cV L) (jV L)) ↦[(oCh L r).view.set]{fullShare} gathered fx fi)
            ∗ (∃ f, (sV).view.loc (V d (cV L) (jV L)) ↦{fullShare} f) ∗ (∃ f, (rV).view.loc (V d (cV L) (jV L)) ↦{fullShare} f)
            ∗ semVal (V d (cV L) (jV L), .dma sA.sem) 0 ∗ semVal (V d (cV L) (jV L), .dma sB.sem) 0 ∗ semVal (V d (cV L) (jV L), .dma sG.sem) 0
            ∗ (∃ W', ⌜∀ p ∈ W', p ∈ W ∨ p.2 = none⌝ ∗ owes (V d (cV L) (jV L)) O W')) := by
  unfold chunk
  iintro ⟨#Hlv, Hi', Hx', Ho', ⟨%fs, Hs'⟩, ⟨%fr, Hr'⟩, HsemA, HsemB, HsemG, ⟨%W₁, %hW₁, HO⟩⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec
  ihave Hxs := (Entails.of_eq (show ((xV).view.loc (V d (cV L) (jV L)) ↦{q} fx : sProp 𝕄)
      = (xAll).view.loc (V d (cV L) (jV L)) ↦[(xAll).view.set]{q} fx by rw [set_xAll])) $$ Hx'
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (wp_chunk.sl.dma0 L r fi) Finset.univ : sProp 𝕄)
      = (sV).view.loc (V d (cV L) (jV L)) ↦[(sV).view.set]{fullShare} View.write (Elt F) (sV).view fs (wp_chunk.sl.dma0 L r fi) Finset.univ
      by rw [hss])) $$ Hs'
  have hN : ∀ h : S65536x16.Gathers 0 S4096x16, ∑ j, ((rV).slice (S4096x16.rowRect h.axis' j) (S4096x16.stride_rowRect h.axis' j)).view.dmaCredit
      = (rV).view.dmaCredit := rows_credit
  iapply (SparseCore.wp_indirectGatherLocal countersEmb 𝒱₀ (V d (cV L) (jV L)) none (hg := gathers_S65536x16_S4096x16) (default : HIx 1)
      (rV).view.dmaCredit (hN _) (by decide) (fetched_inRange L r fi hpre fs _ rfl)) $$ [Hxs Hr'' Hs'' HsemG]
  · isplitl [Hxs]; · iexact Hxs
    isplitl [Hr'']; · iexact Hr''
    isplitl [Hs'']; · iexact Hs''
    iexact HsemG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma sG.sem)) $$ Hmw
  iintro ⟨⟨Hr', Hxs, Hs'⟩, HsemG, HO⟩
  ihave Hx' := (Entails.of_eq (show ((xAll).view.loc (V d (cV L) (jV L)) ↦[(xAll).view.set]{q} fx : sProp 𝕄)
      = (xV).view.loc (V d (cV L) (jV L)) ↦{q} fx by rw [set_xAll])) $$ Hxs
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi']; · iexact Hi'
  isplitl [Hx']; · iexact Hx'
  isplitl [Ho']
  · iapply (Entails.of_eq (pointsTo_congr (writes_eq L r (gathered fx fi) fo _ (fun j => payload_eq L r fx fi hpre fs fr _ j)))) $$ Ho'
  isplitl [Hs3]; · iexists _; iexact Hs3
  isplitl [Hr3]; · iexists _; iexact Hr3
  isplitl [HsemA]; · iexact HsemA
  isplitl [HsemB]; · iexact HsemB
  isplitl [HsemG]; · iexact HsemG
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW₁ p hp

end Tile

end Cert.Proof.Rows

end
-- ==== Proof.Body.lean ====
/-
  The kernel's text is eight chunks in a row, each on two semaphores of its own and the shared one of the stream.
-/
module

public import proofs.«01_k».proof.Proof.Tile

@[expose] public section

noncomputable section

namespace Cert.Proof.Rows

open Cert.KernelIdeal Cert.KernelIdeal.Gen
open Idealize.ShloMosaic
open Idealize.SL Idealize.SL.Sem

variable {F : FTy → Type} [FloatOps F] (L : grid0.Coords)

set_option maxRecDepth 65536 in
/-- The kernel is its eight chunks. -/
theorem body_eq (s2 a0 a1 a2 a3 a4 a5 a6 a7 a8 a9 a10 a11 a12 a13 a14 a15 : DmaSems sig S_) :
    cc0_gather_k (F := F) L xV (Memref.isWhole_whole _) iV (Memref.isWhole_whole _) oV (Memref.isWhole_whole _) sV (Memref.isWhole_whole _) rV (Memref.isWhole_whole _)
        s2 a0 a1 a2 a3 a4 a5 a6 a7 a8 a9 a10 a11 a12 a13 a14 a15
      = (do chunk L 0 a0 a1 s2; chunk L 1 a2 a3 s2; chunk L 2 a4 a5 s2; chunk L 3 a6 a7 s2
            chunk L 4 a8 a9 s2; chunk L 5 a10 a11 s2; chunk L 6 a12 a13 s2; chunk L 7 a14 a15 s2) := rfl

end Cert.Proof.Rows

end
-- ==== Proof.Subcore.lean ====
/-
  One vector subcore's whole task: from its eight chunks of row numbers, its share of the table and its eight chunks of
  output rows, its scratch buffers and its semaphores, to the same with the output rows gathered.
-/
module

public import proofs.«01_k».proof.Proof.Body

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section Task

variable (d : Dev nD) (L : grid0.Coords)

/-- Chunk `r` of the row numbers, and of the output rows, held at the given contents. -/
abbrev iPts (r : Fin 8) (fi : S1048576.Idx → Elt F .i32) : sProp 𝕄 := iLoc d ↦[(iCh L r).view.set]{fullShare} fi
abbrev oPts (r : Fin 8) (fo : S1048576x16.Idx → Elt F .f32) : sProp 𝕄 := oLoc d ↦[(oCh L r).view.set]{fullShare} fo

/-- What the subcore is handed: its row numbers, a share of the table, its output rows. -/
abbrev task (q : PosShare TreeShare) (fx : S65536x16.Idx → Elt F .f32) (fi : S1048576.Idx → Elt F .i32) (fo : S1048576x16.Idx → Elt F .f32) : sProp 𝕄 :=
  iprop((bigSep Finset.univ fun r : Fin 8 => iPts d L r fi) ∗ (xLoc d ↦{q} fx) ∗ bigSep Finset.univ fun r : Fin 8 => oPts d L r fo)

/-- The output after the first `n` chunks. -/
def upTo (n : ℕ) (g fo : S1048576x16.Idx → Elt F .f32) (r : Fin 8) : S1048576x16.Idx → Elt F .f32 := if r.val < n then g else fo

theorem upTo_zero (g fo : S1048576x16.Idx → Elt F .f32) (r : Fin 8) : upTo 0 g fo r = fo := if_neg (Nat.not_lt_zero _)
theorem upTo_eight (g fo : S1048576x16.Idx → Elt F .f32) (r : Fin 8) : upTo 8 g fo r = g := if_pos r.isLt
theorem upTo_self (g fo : S1048576x16.Idx → Elt F .f32) (r : Fin 8) : upTo r.val g fo r = fo := if_neg (lt_irrefl _)
theorem upTo_succ (g fo : S1048576x16.Idx → Elt F .f32) (r : Fin 8) : upTo (r.val + 1) g fo r = g := if_pos (Nat.lt_succ_self _)
theorem upTo_ne (g fo : S1048576x16.Idx → Elt F .f32) {r s : Fin 8} (h : s ≠ r) : upTo (r.val + 1) g fo s = upTo r.val g fo s := by
  have : s.val ≠ r.val := fun e => h (Fin.ext e)
  unfold upTo
  by_cases hs : s.val < r.val
  · rw [if_pos hs, if_pos (by omega)]
  · rw [if_neg hs, if_neg (by omega)]

/-- Three different cells of the subcore's own, and the rest of them. -/
theorem three_cells {a b c : DmaSem sig} (hab : a ≠ b) (hac : a ≠ c) (hbc : b ≠ c)
    (ha : (SemLoc.dma a : SemLoc sig).isScoped .scVector = true) (hb : (SemLoc.dma b : SemLoc sig).isScoped .scVector = true)
    (hc : (SemLoc.dma c : SemLoc sig).isScoped .scVector = true) :
    ∃ R : sProp 𝕄, (ownSems0 (V d (cV L) (jV L)) : sProp 𝕄)
      = iprop(semVal (V d (cV L) (jV L), .dma a) 0 ∗ semVal (V d (cV L) (jV L), .dma b) 0 ∗ semVal (V d (cV L) (jV L), .dma c) 0 ∗ R) := by
  have ne : ∀ {x y : DmaSem sig}, x ≠ y → ((V d (cV L) (jV L), .dma x) : GSem nD τ sig) ≠ (V d (cV L) (jV L), .dma y) :=
    fun h e => h (SemLoc.dma.inj (congrArg Prod.snd e))
  refine ⟨bigSep ((((ownCells (V d (cV L) (jV L))).erase (V d (cV L) (jV L), .dma a)).erase (V d (cV L) (jV L), .dma b)).erase (V d (cV L) (jV L), .dma c))
    fun g => semVal g 0, ?_⟩
  unfold SparseCore.Cfg.ownSems0
  rw [SparseCore.bigSep_erase' ((mem_ownCells (g := (V d (cV L) (jV L), .dma a))).mpr ⟨rfl, ha⟩),
    SparseCore.bigSep_erase' (Finset.mem_erase.mpr ⟨(ne hab).symm, (mem_ownCells (g := (V d (cV L) (jV L), .dma b))).mpr ⟨rfl, hb⟩⟩),
    SparseCore.bigSep_erase' (Finset.mem_erase.mpr ⟨(ne hbc).symm, Finset.mem_erase.mpr ⟨(ne hac).symm,
      (mem_ownCells (g := (V d (cV L) (jV L), .dma c))).mpr ⟨rfl, hc⟩⟩⟩)]

/-- The subcore's own buffers are its two scratch buffers, at some contents, and the rest. -/
theorem two_bufs : ∃ R : sProp 𝕄, (ownBufs (V d (cV L) (jV L)) : sProp 𝕄)
      = iprop((∃ f, (sV).view.loc (V d (cV L) (jV L)) ↦{fullShare} f) ∗ (∃ f, (rV).view.loc (V d (cV L) (jV L)) ↦{fullShare} f) ∗ R) := by
  refine ⟨bigSep (((ownRefs (τ := τ) (.scVector (cV L) (jV L))).erase ((Proc.scVector (cV L) (jV L)).devRef cc0_scratch0)).erase
    ((Proc.scVector (cV L) (jV L)).devRef cc0_scratch1)) fun b => iprop(∃ f, ((d, b) : Loc nD τ sig) ↦{fullShare} f), ?_⟩
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-- Where the subcore stands after `n` chunks. -/
def Inv (q : PosShare TreeShare) (fx : S65536x16.Idx → Elt F .f32) (fi : S1048576.Idx → Elt F .i32) (fo : S1048576x16.Idx → Elt F .f32)
    (O : CellTallies nD τ sig (HIx 1)) (W : Waits sig (HIx 1)) (n : ℕ) : sProp 𝕄 :=
  iprop(((bigSep Finset.univ fun r : Fin 8 => iPts d L r fi) ∗ (xLoc d ↦{q} fx) ∗ bigSep Finset.univ fun r : Fin 8 => oPts d L r (upTo n (gathered fx fi) fo r))
    ∗ ownBufs (V d (cV L) (jV L)) ∗ ownSems0 (V d (cV L) (jV L)) ∗ ∃ W', ⌜∀ p ∈ W', p ∈ W ∨ p.2 = none⌝ ∗ owes (V d (cV L) (jV L)) O W')

/-- Chunk `r` takes the subcore one chunk on. -/
theorem wp_step (r : Fin 8) (sA sB sG : DmaSems sig S_) (hab : sA.sem ≠ sB.sem) (hac : sA.sem ≠ sG.sem) (hbc : sB.sem ≠ sG.sem)
    (ha : (SemLoc.dma sA.sem : SemLoc sig).isScoped .scVector = true) (hb : (SemLoc.dma sB.sem : SemLoc sig).isScoped .scVector = true)
    (hc : (SemLoc.dma sG.sem : SemLoc sig).isScoped .scVector = true)
    (q : PosShare TreeShare) (fx : S65536x16.Idx → Elt F .f32) (fi : S1048576.Idx → Elt F .i32)
    (fo : S1048576x16.Idx → Elt F .f32) (hpre : InRange fi)
    (O : CellTallies nD τ sig (HIx 1)) (W : Waits sig (HIx 1)) (hO : ∀ g, O g none = 0) :
    (iprop(levAts (K (F := F)).L (K (F := F)).lev ∗ Inv d L q fx fi fo O W r.val) : sProp 𝕄)
      ⊢ wp frame (wpE (defs₀ (F := F)) 𝒱₀ (V d (cV L) (jV L)) none) Set.univ (chunk (F := F) L r sA sB sG)
          fun _ => Inv d L q fx fi fo O W (r.val + 1) := by
  obtain ⟨Rb, hRb⟩ := two_bufs (F := F) d L
  obtain ⟨Rs, hRs⟩ := three_cells (F := F) d L hab hac hbc ha hb hc
  unfold Inv
  rw [hRb, hRs, SparseCore.bigSep_erase' (Finset.mem_univ r) (Φ := fun r : Fin 8 => iPts d L r fi),
    SparseCore.bigSep_erase' (Finset.mem_univ r) (Φ := fun s : Fin 8 => oPts d L s (upTo r.val (gathered fx fi) fo s)),
    SparseCore.bigSep_erase' (Finset.mem_univ r) (Φ := fun s : Fin 8 => oPts d L s (upTo (r.val + 1) (gathered fx fi) fo s)),
    upTo_self, upTo_succ,
    bigSep_congr (s := Finset.univ.erase r) (Φ := fun s : Fin 8 => oPts d L s (upTo (r.val + 1) (gathered fx fi) fo s))
      (Ψ := fun s : Fin 8 => oPts d L s (upTo r.val (gathered fx fi) fo s)) (fun s hs => by rw [upTo_ne _ _ (Finset.ne_of_mem_erase hs)])]
  iintro ⟨#Hlv, ⟨⟨Hi, His⟩, Hx, Ho, Hos⟩, ⟨Hs, Hr, Hbufs⟩, ⟨HA, HB, HG, Hsems⟩, HO⟩
  iapply (wp_wand frame _ _) $$ [Hi Hx Ho Hs Hr HA HB HG HO]
  · iapply (wp_chunk (F := F) d L r sA sB sG fx fi fo hpre q O W hO)
    isplitr; · iexact Hlv
    isplitl [Hi]; · iexact Hi
    isplitl [Hx]; · iexact Hx
    isplitl [Ho]; · iexact Ho
    isplitl [Hs]; · iexact Hs
    isplitl [Hr]; · iexact Hr
    isplitl [HA]; · iexact HA
    isplitl [HB]; · iexact HB
    isplitl [HG]; · iexact HG
    iexact HO
  iintro %_ ⟨Hi, Hx, Ho, Hs, Hr, HA, HB, HG, HO⟩
  isplitl [Hi His Hx Ho Hos]
  · isplitl [Hi His]; · isplitl [Hi] <;> iassumption
    isplitl [Hx]; · iexact Hx
    isplitl [Ho] <;> iassumption
  isplitl [Hs Hr Hbufs]
  · isplitl [Hs]; · iexact Hs
    isplitl [Hr] <;> iassumption
  isplitl [HA HB HG Hsems]
  · isplitl [HA]; · iexact HA
    isplitl [HB]; · iexact HB
    isplitl [HG] <;> iassumption
  iexact HO

/-- The text of chunk `r` on the semaphores the kernel gives it. -/
abbrev chunkOf (r : Fin 8) : Prog (TpuEff nD τ sig (Elt F) Λ₀ (.scVector (cV L) (jV L))) PUnit :=
  match r with
  | 0 => chunk L 0 cc0_scoped0 cc0_scoped1 cc0_scratch2
  | 1 => chunk L 1 cc0_scoped2 cc0_scoped3 cc0_scratch2
  | 2 => chunk L 2 cc0_scoped4 cc0_scoped5 cc0_scratch2
  | 3 => chunk L 3 cc0_scoped6 cc0_scoped7 cc0_scratch2
  | 4 => chunk L 4 cc0_scoped8 cc0_scoped9 cc0_scratch2
  | 5 => chunk L 5 cc0_scoped10 cc0_scoped11 cc0_scratch2
  | 6 => chunk L 6 cc0_scoped12 cc0_scoped13 cc0_scratch2
  | 7 => chunk L 7 cc0_scoped14 cc0_scoped15 cc0_scratch2

theorem wp_chunkOf (r : Fin 8) (q : PosShare TreeShare) (fx : S65536x16.Idx → Elt F .f32) (fi : S1048576.Idx → Elt F .i32)
    (fo : S1048576x16.Idx → Elt F .f32) (hpre : InRange fi)
    (O : CellTallies nD τ sig (HIx 1)) (W : Waits sig (HIx 1)) (hO : ∀ g, O g none = 0) :
    (iprop(levAts (K (F := F)).L (K (F := F)).lev ∗ Inv d L q fx fi fo O W r.val) : sProp 𝕄)
      ⊢ wp frame (wpE (defs₀ (F := F)) 𝒱₀ (V d (cV L) (jV L)) none) Set.univ (chunkOf (F := F) L r)
          fun _ => Inv d L q fx fi fo O W (r.val + 1) :=
  match r with
  | 0 => wp_step d L 0 cc0_scoped0 cc0_scoped1 cc0_scratch2 (by decide) (by decide) (by decide) (by decide) (by decide) (by decide) q fx fi fo hpre O W hO
  | 1 => wp_step d L 1 cc0_scoped2 cc0_scoped3 cc0_scratch2 (by decide) (by decide) (by decide) (by decide) (by decide) (by decide) q fx fi fo hpre O W hO
  | 2 => wp_step d L 2 cc0_scoped4 cc0_scoped5 cc0_scratch2 (by decide) (by decide) (by decide) (by decide) (by decide) (by decide) q fx fi fo hpre O W hO
  | 3 => wp_step d L 3 cc0_scoped6 cc0_scoped7 cc0_scratch2 (by decide) (by decide) (by decide) (by decide) (by decide) (by decide) q fx fi fo hpre O W hO
  | 4 => wp_step d L 4 cc0_scoped8 cc0_scoped9 cc0_scratch2 (by decide) (by decide) (by decide) (by decide) (by decide) (by decide) q fx fi fo hpre O W hO
  | 5 => wp_step d L 5 cc0_scoped10 cc0_scoped11 cc0_scratch2 (by decide) (by decide) (by decide) (by decide) (by decide) (by decide) q fx fi fo hpre O W hO
  | 6 => wp_step d L 6 cc0_scoped12 cc0_scoped13 cc0_scratch2 (by decide) (by decide) (by decide) (by decide) (by decide) (by decide) q fx fi fo hpre O W hO
  | 7 => wp_step d L 7 cc0_scoped14 cc0_scoped15 cc0_scratch2 (by decide) (by decide) (by decide) (by decide) (by decide) (by decide) q fx fi fo hpre O W hO

/-- One chunk after another. -/
theorem wp_then (r : Fin 8) (q : PosShare TreeShare) (fx : S65536x16.Idx → Elt F .f32) (fi : S1048576.Idx → Elt F .i32)
    (fo : S1048576x16.Idx → Elt F .f32) (hpre : InRange fi)
    (O : CellTallies nD τ sig (HIx 1)) (W : Waits sig (HIx 1)) (hO : ∀ g, O g none = 0)
    {rest : PUnit → Prog (TpuEff nD τ sig (Elt F) Λ₀ (.scVector (cV L) (jV L))) PUnit} {Q : PUnit → sProp 𝕄}
    (h : ∀ u, (iprop(levAts (K (F := F)).L (K (F := F)).lev ∗ Inv d L q fx fi fo O W (r.val + 1)) : sProp 𝕄)
      ⊢ wp frame (wpE (defs₀ (F := F)) 𝒱₀ (V d (cV L) (jV L)) none) Set.univ (rest u) Q) :
    (iprop(levAts (K (F := F)).L (K (F := F)).lev ∗ Inv d L q fx fi fo O W r.val) : sProp 𝕄)
      ⊢ wp frame (wpE (defs₀ (F := F)) 𝒱₀ (V d (cV L) (jV L)) none) Set.univ (chunkOf (F := F) L r >>= rest) Q := by
  rw [wp_bind]
  iintro ⟨#Hlv, H⟩
  iapply (wp_wand frame _ _) $$ [H]
  · iapply (wp_chunkOf (F := F) d L r q fx fi fo hpre O W hO)
    isplitr; · iexact Hlv
    iexact H
  iintro %u H
  iapply (h u)
  isplitr; · iexact Hlv
  iexact H

/-- The subcore's task. -/
theorem wp_task (hF : (K (F := F)).Facts) (q : PosShare TreeShare) (fx : S65536x16.Idx → Elt F .f32) (fi : S1048576.Idx → Elt F .i32)
    (fo : S1048576x16.Idx → Elt F .f32) (hpre : InRange fi)
    (O : CellTallies nD τ sig (HIx 1)) (W : Waits sig (HIx 1)) (hO : ∀ g, O g none = 0) :
    (iprop(levAts (K (F := F)).L (K (F := F)).lev ∗ emp ∗ task d L q fx fi fo
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_gather_k (F := F) L xV (Memref.isWhole_whole _) iV (Memref.isWhole_whole _) oV (Memref.isWhole_whole _) sV (Memref.isWhole_whole _) rV (Memref.isWhole_whole _)
            cc0_scratch2 cc0_scoped0 cc0_scoped1 cc0_scoped2 cc0_scoped3 cc0_scoped4 cc0_scoped5 cc0_scoped6 cc0_scoped7 cc0_scoped8 cc0_scoped9 cc0_scoped10
            cc0_scoped11 cc0_scoped12 cc0_scoped13 cc0_scoped14 cc0_scoped15)
          fun _ => iprop(task d L q fx fi (gathered fx fi)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), body_eq]
  have h8 : Inv d L q fx fi fo O W 8 = iprop(task d L q fx fi (gathered fx fi) ∗ ownBufs (V d (cV L) (jV L)) ∗ ownSems0 (V d (cV L) (jV L))
      ∗ ∃ W', ⌜∀ p ∈ W', p ∈ W ∨ p.2 = none⌝ ∗ owes (V d (cV L) (jV L)) O W') := by
    unfold Inv
    rw [bigSep_congr (s := Finset.univ) (Φ := fun r : Fin 8 => oPts d L r (upTo 8 (gathered fx fi) fo r)) (Ψ := fun r : Fin 8 => oPts d L r (gathered fx fi))
      (fun s _ => by rw [upTo_eight])]
  have h0 : (iprop(levAts (K (F := F)).L (K (F := F)).lev ∗ emp ∗ task d L q fx fi fo
        ∗ ownBufs (V d (cV L) (jV L)) ∗ ownSems0 (V d (cV L) (jV L)) ∗ owes (V d (cV L) (jV L)) O W) : sProp 𝕄)
      ⊢ iprop(levAts (K (F := F)).L (K (F := F)).lev ∗ Inv d L q fx fi fo O W 0) := by
    unfold Inv
    rw [bigSep_congr (s := Finset.univ) (Φ := fun r : Fin 8 => oPts d L r (upTo 0 (gathered fx fi) fo r)) (Ψ := fun r : Fin 8 => oPts d L r fo)
      (fun s _ => by rw [upTo_zero])]
    iintro ⟨#Hlv, -, Ht, Hb, Hs, HO⟩
    isplitr; · iexact Hlv
    isplitl [Ht]; · iexact Ht
    isplitl [Hb]; · iexact Hb
    isplitl [Hs]; · iexact Hs
    iexists W; isplitr
    · ipureintro; exact fun p hp => .inl hp
    · iexact HO
  rw [← h8]
  refine h0.trans ?_
  exact wp_then d L 0 q fx fi fo hpre O W hO fun _ =>
    wp_then d L 1 q fx fi fo hpre O W hO fun _ =>
    wp_then d L 2 q fx fi fo hpre O W hO fun _ =>
    wp_then d L 3 q fx fi fo hpre O W hO fun _ =>
    wp_then d L 4 q fx fi fo hpre O W hO fun _ =>
    wp_then d L 5 q fx fi fo hpre O W hO fun _ =>
    wp_then d L 6 q fx fi fo hpre O W hO fun _ =>
    wp_chunkOf d L 7 q fx fi fo hpre O W hO

end Task

end Cert.Proof.Rows

end
-- ==== Proof.Launch.lean ====
/-
  The launch of the row gather: the two host reshapes, the call over two SparseCores of sixteen vector subcores each, and
  what the run leaves: the arguments as they were, the result the gathered array, every semaphore at zero.
-/
module

public import proofs.«01_k».proof.Proof.Subcore

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-! ## The subcores' coordinates, and the chunks of all of them -/

def at_ (c : Fin 2) (s : Fin 16) : grid0.Coords :=
  fun | 0 => c | 1 => s | ⟨_ + 2, h⟩ => absurd h (Nat.not_lt.2 (Nat.le_add_left _ _))

theorem hi : 256 ∣ S1048576.size 0 := ⟨4096, rfl⟩
theorem ho : 256 ∣ S1048576x16.size 0 := ⟨4096, rfl⟩

/-- The number of chunk `r` of subcore `s` of SparseCore `c` among all. -/
def num (x : Fin 2 × Fin 16 × Fin 8) : Fin 256 := ⟨16 * x.2.1.val + 8 * x.1.val + x.2.2.val, by have := x.1.isLt; have := x.2.1.isLt; have := x.2.2.isLt; omega⟩

def numEquiv : Fin 2 × Fin 16 × Fin 8 ≃ Fin 256 where
  toFun := num
  invFun n := (⟨n.val / 8 % 2, by omega⟩, ⟨n.val / 16, by have := n.isLt; omega⟩, ⟨n.val % 8, by omega⟩)
  left_inv x := by
    obtain ⟨c, s, r⟩ := x
    have := c.isLt; have := s.isLt; have := r.isLt
    refine Prod.ext (Fin.ext ?_) (Prod.ext (Fin.ext ?_) (Fin.ext ?_)) <;> simp only [num] <;> omega
  right_inv n := by
    apply Fin.ext
    simp only [num]; omega

theorem iRect_eq (c : Fin 2) (s : Fin 16) (r : Fin 8) : iRect (at_ c s) r = Rect.part (s := S1048576) (a₀ := 0) hi (num (c, s, r)) := by
  unfold iRect Rect.part Rect.block
  congr 1 <;> funext a
  · rw [k0_off1_eq]
    match a with
    | 0 =>
      simp only [Shape.partIx, Shape.partSize, num, at_]
      show _ = _ * 4096
      simp; omega
  · match a with
    | 0 => simp [Shape.partSize]

theorem oRect_eq (c : Fin 2) (s : Fin 16) (r : Fin 8) : oRect (at_ c s) r = Rect.part (s := S1048576x16) (a₀ := 0) ho (num (c, s, r)) := by
  unfold oRect Rect.part Rect.block
  congr 1 <;> funext a
  · rw [k0_off2_eq]
    match a with
    | 0 =>
      simp only [Shape.partIx, Shape.partSize, num, at_]
      show _ = _ * 4096
      simp; omega
    | 1 => simp [Shape.partIx, Shape.partSize]
  · match a with
    | 0 => simp [Shape.partSize]
    | 1 => simp [Shape.partSize]

theorem iSet_eq (c : Fin 2) (s : Fin 16) (r : Fin 8) : (iCh (at_ c s) r).view.set = (Rect.part (s := S1048576) (a₀ := 0) hi (num (c, s, r))).set := by
  show ((View.whole (main_v1_scv : Ref sig .scVector)).slice (iRect (at_ c s) r)).set = _
  rw [View.set_slice, ← iRect_eq]; exact Finset.map_refl

theorem oSet_eq (c : Fin 2) (s : Fin 16) (r : Fin 8) : (oCh (at_ c s) r).view.set = (Rect.part (s := S1048576x16) (a₀ := 0) ho (num (c, s, r))).set := by
  show ((View.whole (main_v2_scv : Ref sig .scVector)).slice (oRect (at_ c s) r)).set = _
  rw [View.set_slice, ← oRect_eq]; exact Finset.map_refl

/-- All the row numbers are the subcores' chunks of them. -/
theorem i_all (d : Dev nD) (f : S1048576.Idx → Elt F .i32) :
    (iLoc d ↦{fullShare} f : sProp 𝕄)
      = bigSep Finset.univ fun c : Fin 2 => bigSep Finset.univ fun s : Fin 16 => bigSep Finset.univ fun r : Fin 8 => iPts d (at_ c s) r f := by
  have h : (iLoc d ↦{fullShare} f : sProp 𝕄) = bigSep Finset.univ fun n : Fin 256 => iLoc d ↦[(Rect.part (s := S1048576) (a₀ := 0) hi n).set]{fullShare} f := by
    rw [← pointsTo_biUnion Finset.univ (ℓ := iLoc d) (fun n : Fin 256 => (Rect.part (s := S1048576) (a₀ := 0) hi n).set)
      (fun _ _ _ _ h => Rect.part_disjoint hi h), Rect.biUnion_part hi]
  rw [h, bigSep_univ_equiv numEquiv, bigSep_univ_prod]
  refine bigSep_congr fun c _ => ?_
  rw [bigSep_univ_prod]
  refine bigSep_congr fun s _ => bigSep_congr fun r _ => ?_
  unfold iPts
  rw [iSet_eq]
  rfl

/-- All the output rows are the subcores' chunks of them. -/
theorem o_all (d : Dev nD) (f : S1048576x16.Idx → Elt F .f32) :
    (oLoc d ↦{fullShare} f : sProp 𝕄)
      = bigSep Finset.univ fun c : Fin 2 => bigSep Finset.univ fun s : Fin 16 => bigSep Finset.univ fun r : Fin 8 => oPts d (at_ c s) r f := by
  have h : (oLoc d ↦{fullShare} f : sProp 𝕄) = bigSep Finset.univ fun n : Fin 256 => oLoc d ↦[(Rect.part (s := S1048576x16) (a₀ := 0) ho n).set]{fullShare} f := by
    rw [← pointsTo_biUnion Finset.univ (ℓ := oLoc d) (fun n : Fin 256 => (Rect.part (s := S1048576x16) (a₀ := 0) ho n).set)
      (fun _ _ _ _ h => Rect.part_disjoint ho h), Rect.biUnion_part ho]
  rw [h, bigSep_univ_equiv numEquiv, bigSep_univ_prod]
  refine bigSep_congr fun c _ => ?_
  rw [bigSep_univ_prod]
  refine bigSep_congr fun s _ => bigSep_congr fun r _ => ?_
  unfold oPts
  rw [oSet_eq]
  rfl

/-! ## Shares of the table -/

/-- The full share is cut in half again and again: share `k` is the left half of what is left after `k` cuts. -/
def rest : ℕ → PosShare TreeShare
  | 0 => fullShare
  | k + 1 => (rest k).right

/-- Share `k` of `n + 1`: the last is all that is left. -/
def cut (n k : ℕ) : PosShare TreeShare := if k < n then (rest k).left else rest n

theorem swap (A B C : sProp 𝕄) : iprop((A ∗ B) ∗ C) = iprop(B ∗ A ∗ C) := by
  have h1 : iprop((A ∗ B) ∗ C) ⊢ iprop(B ∗ A ∗ C) := by
    iintro ⟨⟨HA, HB⟩, HC⟩
    isplitl [HB]; · iexact HB
    isplitl [HA] <;> iassumption
  have h2 : iprop(B ∗ A ∗ C) ⊢ iprop((A ∗ B) ∗ C) := by
    iintro ⟨HB, HA, HC⟩
    isplitl [HA HB]; · isplitl [HA] <;> iassumption
    iexact HC
  exact BI.Entails.antisymm h1 h2

/-- The table whole is one share of it for each of `n + 1` readers. -/
theorem x_cut (d : Dev nD) (f : S65536x16.Idx → Elt F .f32) (n : ℕ) :
    (xLoc d ↦{fullShare} f : sProp 𝕄) = bigSep (Finset.range (n + 1)) fun k => xLoc d ↦{cut n k} f := by
  induction n with
  | zero =>
    rw [Finset.range_one, bigSep_singleton]
    rfl
  | succ n ih =>
    rw [ih, Finset.range_add_one (n := n + 1), SparseCore.bigSep_insert' Finset.notMem_range_self, Finset.range_add_one (n := n),
      SparseCore.bigSep_insert' Finset.notMem_range_self, SparseCore.bigSep_insert' Finset.notMem_range_self]
    have e1 : cut n n = rest n := if_neg (lt_irrefl _)
    have e2 : cut (n + 1) n = (rest n).left := if_pos (Nat.lt_succ_self _)
    have e3 : cut (n + 1) (n + 1) = (rest n).right := if_neg (lt_irrefl _)
    rw [e1, e2, e3, BI.Entails.antisymm (pointsTo_share (PosShare.mem_left_op_right (rest n))).1 (pointsTo_share (PosShare.mem_left_op_right (rest n))).2,
      bigSep_congr (s := Finset.range n) (Φ := fun k => (xLoc d ↦{cut n k} f : sProp 𝕄)) (Ψ := fun k => xLoc d ↦{cut (n + 1) k} f)
        (fun k hk => by
          have hk' := Finset.mem_range.mp hk
          rw [show cut n k = (rest k).left from if_pos hk', show cut (n + 1) k = (rest k).left from if_pos (by omega)])]
    exact swap _ _ _

/-- The share of subcore `s` of SparseCore `c`. -/
def share (c : Fin 2) (s : Fin 16) : PosShare TreeShare := cut 31 (s.val + 16 * c.val)

theorem x_all (d : Dev nD) (f : S65536x16.Idx → Elt F .f32) :
    (xLoc d ↦{fullShare} f : sProp 𝕄) = bigSep Finset.univ fun c : Fin 2 => bigSep Finset.univ fun s : Fin 16 => xLoc d ↦{share c s} f := by
  have h : (bigSep (Finset.range 32) fun k => (xLoc d ↦{cut 31 k} f : sProp 𝕄)) = bigSep Finset.univ fun k : Fin (2 * 16) => xLoc d ↦{cut 31 k.val} f := by
    rw [← Nat.Iio_eq_range, ← Fin.map_valEmbedding_univ, bigSep_map]
    rfl
  rw [x_cut d f 31, h, bigSep_univ_equiv finProdFinEquiv, bigSep_univ_prod]
  rfl

/-- Table, row numbers and output whole are what the subcores are handed. -/
theorem all_tasks (d : Dev nD) (fx : S65536x16.Idx → Elt F .f32) (fi : S1048576.Idx → Elt F .i32) (fo : S1048576x16.Idx → Elt F .f32) :
    (bigSep Finset.univ fun c : Fin 2 => bigSep Finset.univ fun s : Fin 16 => task d (at_ c s) (share c s) fx fi fo)
      = (iprop((iLoc d ↦{fullShare} fi) ∗ (xLoc d ↦{fullShare} fx) ∗ oLoc d ↦{fullShare} fo) : sProp 𝕄) := by
  rw [i_all, x_all, o_all]
  simp only [bigSep_sep']

/-! ## What the handshakes carry -/

section Run

variable (m : (ℓ : Loc nD τ sig) → Buf (Elt F) ℓ) (ρ : Dev nD → PrngReg)

variable [FloatOps F]

abbrev a0' : DevRef τ sig := Proc.devRef .tc (main_arg0 : Ref sig .tc)
abbrev a1' : DevRef τ sig := Proc.devRef .tc (main_arg1 : Ref sig .tc)
abbrev x' : DevRef τ sig := Proc.devRef .tc (main_v0 : Ref sig .tc)
abbrev i' : DevRef τ sig := Proc.devRef .tc (main_v1 : Ref sig .tc)
abbrev o' : DevRef τ sig := Proc.devRef .tc (main_v2 : Ref sig .tc)

abbrev op0 : HloOp τ sig (Elt F) := StableHlo.reshape main_arg0 main_v0 (rfl : (.f32 : EltTy) = .f32) shapeCasts_S64x1024x16_S65536x16
abbrev op1 : HloOp τ sig (Elt F) := StableHlo.reshape main_arg1 main_v1 (rfl : (.i32 : EltTy) = .i32) shapeCasts_S64x1024x16_S1048576

/-- The arrays at the launch, and after the two reshapes. -/
def V0 (d : Dev nD) : Valuation τ sig (Elt F) := fun b => m (d, b)
def V2 (d : Dev nD) : Valuation τ sig (Elt F) := (op1 (F := F)).result ((op0 (F := F)).result (V0 m d))

abbrev fx (d : Dev nD) : S65536x16.Idx → Elt F .f32 := V2 m d x'
abbrev fi (d : Dev nD) : S1048576.Idx → Elt F .i32 := V2 m d i'
abbrev fo (d : Dev nD) : S1048576x16.Idx → Elt F .f32 := V2 m d o'

/-- Each subcore is handed its task and hands it back with its rows gathered; a SparseCore the tasks of its subcores. -/
def P : (K (F := F)).Pay (nD := nD) (Val := Elt F) (Name := ℕ) (U := UU) where
  st := fun q d c => match q with | 0 => bigSep Finset.univ fun s : Fin 16 => task d (at_ c s) (share c s) (fx m d) (fi m d) (fo m d)
  dn := fun q d c => match q with | 0 => bigSep Finset.univ fun s : Fin 16 => task d (at_ c s) (share c s) (fx m d) (fi m d) (gathered (fx m d) (fi m d))
  go := fun q d c s => match q with | 0 => task d (at_ c s) (share c s) (fx m d) (fi m d) (fo m d)
  td := fun q d c s => match q with | 0 => task d (at_ c s) (share c s) (fx m d) (fi m d) (gathered (fx m d) (fi m d))
  x := fun _ _ => iprop(emp)

instance P_storable : (P (F := F) m).IsStorable where
  st q d c := match q with
    | 0 => (inferInstance : BI.Storable (upEmb : UEmb _ 𝕄)
      (bigSep Finset.univ fun s : Fin 16 => task d (at_ c s) (share c s) (fx m d) (fi m d) (fo m d)))
  dn q d c := match q with
    | 0 => (inferInstance : BI.Storable (upEmb : UEmb _ 𝕄)
      (bigSep Finset.univ fun s : Fin 16 => task d (at_ c s) (share c s) (fx m d) (fi m d) (gathered (fx m d) (fi m d))))
  go q d c s := match q with
    | 0 => (inferInstance : BI.Storable (upEmb : UEmb _ 𝕄) (task d (at_ c s) (share c s) (fx m d) (fi m d) (fo m d)))
  td q d c s := match q with
    | 0 => (inferInstance : BI.Storable (upEmb : UEmb _ 𝕄) (task d (at_ c s) (share c s) (fx m d) (fi m d) (gathered (fx m d) (fi m d))))

/-- Every row number of every device names a row. -/
def PreOK : Prop := ∀ d : Dev nD, InRange (fi m d)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem defs₀_vector (c : Fin τ.nSC) (s : Fin τ.nSub) :
    defs₀ (F := F) (.scVector c s) 0 ()
      = SparseCore.onTile hcore0 hsub0 (fun c s => cc0_gather_k (at_ c s)
          xV (Memref.isWhole_whole _) iV (Memref.isWhole_whole _) oV (Memref.isWhole_whole _)
          sV (Memref.isWhole_whole _) rV (Memref.isWhole_whole _)
            cc0_scratch2 cc0_scoped0 cc0_scoped1 cc0_scoped2 cc0_scoped3 cc0_scoped4 cc0_scoped5 cc0_scoped6 cc0_scoped7 cc0_scoped8 cc0_scoped9 cc0_scoped10
            cc0_scoped11 cc0_scoped12 cc0_scoped13 cc0_scoped14 cc0_scoped15) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (wp_task d (at_ ⟨_, hci.1⟩ ⟨_, hci.2⟩) hF (share c i) (fx m d) (fi m d) (fo m d) (hpre d) O W hO).trans (wp_mono frame _ _ fun _ => obl_post)

theorem vecSplit : (K (F := F)).VecSplit' (P m) 0 := by
  intro d c
  show (bigSep Finset.univ fun s : Fin 16 => task d (at_ c s) (share c s) (fx m d) (fi m d) (fo m d)) ⊢ |={Set.univ}=> iprop(
      (bigSep Finset.univ fun s : Fin 16 => task d (at_ c s) (share c s) (fx m d) (fi m d) (fo m d))
      ∗ ((bigSep Finset.univ fun s : Fin 16 => task d (at_ c s) (share c s) (fx m d) (fi m d) (gathered (fx m d) (fi m d)))
        -∗ (bigSep Finset.univ fun s : Fin 16 => task d (at_ c s) (share c s) (fx m d) (fi m d) (gathered (fx m d) (fi m d)))))
  iintro H; imodintro
  isplitl [H]; · iexact H
  iintro H
  iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's part -/

/-- The five arrays of the host's program. -/
abbrev S5 : Finset (DevRef τ sig) := {a0', a1', x', i', o'}

abbrev aLoc (d : Dev nD) : Loc nD τ sig := (SparseCore.T d).loc main_arg0
abbrev bLoc (d : Dev nD) : Loc nD τ sig := (SparseCore.T d).loc main_arg1

omit [FloatOps F] in
theorem held_S5 (d : Dev nD) (W : Valuation τ sig (Elt F)) :
    (held (T d) S5 W : sProp 𝕄) = iprop((aLoc d ↦{fullShare} W a0') ∗ (bLoc d ↦{fullShare} W a1') ∗ (xLoc d ↦{fullShare} W x')
      ∗ (iLoc d ↦{fullShare} W i') ∗ oLoc d ↦{fullShare} W o') := by
  unfold held S5
  rw [SparseCore.bigSep_insert' (by decide), SparseCore.bigSep_insert' (by decide), SparseCore.bigSep_insert' (by decide), SparseCore.bigSep_insert' (by decide), bigSep_singleton]

omit [FloatOps F] in
theorem unscoped_held (d : Dev nD) : (unscopedBufs d (fun b => m ((SparseCore.T d).loc b)) : sProp 𝕄) = held (T d) S5 (V0 m d) := by
  rw [held_S5]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide), SparseCore.bigSep_insert' (by decide), bigSep_singleton]
  rfl

theorem V2_a0 (d : Dev nD) : V2 m d a0' = m (aLoc d) := by
  unfold V2
  rw [(op1 (F := F)).result_of_not_mem _ (show a0' ∉ ({i'} : Finset (DevRef τ sig)) by decide),
    (op0 (F := F)).result_of_not_mem _ (show a0' ∉ ({x'} : Finset (DevRef τ sig)) by decide)]
  rfl

theorem V2_a1 (d : Dev nD) : V2 m d a1' = m (bLoc d) := by
  unfold V2
  rw [(op1 (F := F)).result_of_not_mem _ (show a1' ∉ ({i'} : Finset (DevRef τ sig)) by decide),
    (op0 (F := F)).result_of_not_mem _ (show a1' ∉ ({x'} : Finset (DevRef τ sig)) by decide)]
  rfl

theorem h_op0 : (op0 (F := F)).bufs ⊆ S5 := show ({a0', x'} : Finset (DevRef τ sig)) ⊆ S5 by decide
theorem h_op1 : (op1 (F := F)).bufs ⊆ S5 := show ({a1', i'} : Finset (DevRef τ sig)) ⊆ S5 by decide

theorem st0_eq (d : Dev nD) : (bigSep Finset.univ fun c : Fin ((K (F := F)).nCore 0) => (P m).st 0 d c)
    = iprop((iLoc d ↦{fullShare} fi m d) ∗ (xLoc d ↦{fullShare} fx m d) ∗ oLoc d ↦{fullShare} fo m d) :=
  all_tasks d (fx m d) (fi m d) (fo m d)
theorem dn0_eq (d : Dev nD) : (bigSep Finset.univ fun c : Fin ((K (F := F)).nCore 0) => (P m).dn 0 d c)
    = iprop((iLoc d ↦{fullShare} fi m d) ∗ (xLoc d ↦{fullShare} fx m d) ∗ oLoc d ↦{fullShare} gathered (fx m d) (fi m d)) :=
  all_tasks d (fx m d) (fi m d) (gathered (fx m d) (fi m d))

/-- What the host's program ends with: the arguments as they were, and the result. -/
abbrev FIN (d : Dev nD) : sProp 𝕄 :=
  iprop((aLoc d ↦{fullShare} m (aLoc d)) ∗ (bLoc d ↦{fullShare} m (bLoc d)) ∗ oLoc d ↦{fullShare} gathered (fx m d) (fi m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S5) h_op0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S5) h_op1 (V := (op0 (F := F)).result (V0 m d))) $$ [Hb Hheld]
  · isplitl [Hb] <;> iassumption
  iintro ⟨Hb, Hheld⟩
  rw [wp_ret]; imodintro
  ihave Hh := (Entails.of_eq (show (held (T d) S5 ((op1 (F := F)).result ((op0 (F := F)).result (V0 m d))) : sProp 𝕄) = _ from held_S5 (F := F) d (V2 m d))) $$ Hheld
  rw [V2_a0, V2_a1]
  icases Hh with ⟨Ha, Hb1, Hx, Hi, Ho⟩
  iapply ((K (F := F)).wp_run (D (F := F)) 𝒱 (EH := EH) (P := P m) κ d 0) $$ [Hst Hi Hx Ho Hb Ha Hb1 Hts]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨-, -, Ho⟩
  imodintro
  isplitl [Hst]; · iexact Hst
  isplitr [Hb Hts]
  · isplitl [Ha]; · iexact Ha
    isplitl [Hb1]; · iexact Hb1
    iexact Ho
  isplitl [Hb] <;> iassumption

/-- What the final memory holds on device `d`. -/
def fq (d : Dev nD) (s' : Phys nD τ sig (Elt F)) : Prop :=
  s'.mem.mem (aLoc d) = m (aLoc d) ∧ s'.mem.mem (bLoc d) = m (bLoc d) ∧ s'.mem.mem (oLoc d) = gathered (fx m d) (fi m d)

set_option maxRecDepth 16384 in
theorem hfin (d : Dev nD) (s' : Phys nD τ sig (Elt F)) : iprop(FIN m d ∗ SI s') ⊢ (⌜fq m d s'⌝ : sProp 𝕄) := by
  iintro ⟨⟨Ha, Hb, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oLoc d) (I := Finset.univ) (q := fullShare) (f := gathered (fx m d) (fi m d))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The run -/

def QC : PUnit × MemSt nD τ sig (Elt F) → Prop := fun r =>
  (∀ c : Dev nD, r.2.mem (aLoc c) = m (aLoc c) ∧ r.2.mem (bLoc c) = m (bLoc c) ∧ r.2.mem (oLoc c) = gathered (fx m c) (fi m c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Run

end Cert.Proof.Rows

end
-- ==== Proof.Value.lean ====
/-
  What the row gather computes and what its reference computes. The call's table and list are the two arguments read at
  other shapes; the precondition says that every index of the list names a row of the table; and over such a list the
  reference's gather, whose negative indices would count from the end, is the same array.
-/
module

public import proofs.«01_k».proof.Proof.Launch
public import proofs.«01_k».proof.Proof.Gen.Reference.Run
public import proofs.«01_k».proof.Proof.Gen.ReferenceIdeal.Run
public import proofs.«01_k».proof.Proof.Gen.Pre_in_range
public import Idealize.ShloMosaic.Lib.Routing.Ops
public import Idealize.ShloMosaic.Lib.ReduceAll

@[expose] public section

noncomputable section

namespace Cert.Proof.Rows

open Cert.KernelIdeal Cert.KernelIdeal.Gen

open Idealize.ShloMosaic Idealize.SL.Sem
open Idealize.ShloMosaic.ValueIdx
open Idealize.ShloMosaic.Routing (shape1 shape2)

variable {F : FTy → Type} [FloatOps F]

/-! ## The call's operands -/

theorem fx_eq (m : (ℓ : Loc nD τ sig) → Buf (Elt F) ℓ) (d : Dev nD) : fx m d = shapeCast _ (m (aLoc d)) shapeCasts_S64x1024x16_S65536x16 := by
  show (op1 (F := F)).result ((op0 (F := F)).result (V0 m d)) x' = _
  rw [(op1 (F := F)).result_of_not_mem _ (show x' ∉ ({i'} : Finset (DevRef τ sig)) by decide)]
  exact StableHlo.reshape_result' ..

theorem fi_eq (m : (ℓ : Loc nD τ sig) → Buf (Elt F) ℓ) (d : Dev nD) : fi m d = shapeCast _ (m (bLoc d)) shapeCasts_S64x1024x16_S1048576 := by
  show (op1 (F := F)).result ((op0 (F := F)).result (V0 m d)) i' = _
  refine (StableHlo.reshape_result' ..).trans ?_
  rw [(op0 (F := F)).result_of_not_mem _ (show a1' ∉ ({x'} : Finset (DevRef τ sig)) by decide)]
  rfl

/-! ## The precondition -/

/-- A word that is at least 0 and less than 65536 as a signed number is less than 65536 as an unsigned one. -/
theorem small_of_cmp (w : BitVec 32) (h : IntOp.andi (IntOp.cmpi .sge w 0#32) (IntOp.cmpi .slt w 65536#32) = 1#1) : w.toNat < 65536 := by
  obtain ⟨h0, h1⟩ := IntOp.andi_eq_one.1 h
  have h0' : (0#32).sle w = true := (StableHlo.Predicate.ofBool_eq_one_iff _).1 h0
  have h1' : w.slt 65536#32 = true := (StableHlo.Predicate.ofBool_eq_one_iff _).1 h1
  have e0 : (0 : ℤ) ≤ w.toInt := by simpa [BitVec.sle] using h0'
  have e1 : w.toInt < 65536 := by simpa [BitVec.slt] using h1'
  rw [BitVec.toInt_eq_toNat_cond] at e0 e1
  have := w.isLt
  split at e0 <;> split at e1 <;> omega

instance : Subsingleton (Cert.Pre_in_range.S_ : Shape).Idx := ⟨fun a b => funext fun k => k.elim0⟩

/-- The precondition, entry by entry. -/
theorem small_of_pre (a0 : Vec F S64x1024x16 .f32) (a1 : IVec S64x1024x16 32)
    (h : Cert.Pre_in_range.fn (F := F) a0 a1 = fun _ => 1#1) (j : S64x1024x16.Idx) : (a1 j).toNat < 65536 := by
  have h1 := Host.reduce_andi_all _ _ _ _ (fun k => k.elim0) (congrFun h (fun k => k.elim0)) j
  exact small_of_cmp _ h1

theorem inRange_cast (a1 : IVec S64x1024x16 32) (h : ∀ j, (a1 j).toNat < 65536) : InRange (F := F) (shapeCast S1048576 a1 shapeCasts_S64x1024x16_S1048576) :=
  fun _ => h _

theorem preOK (m : (ℓ : Loc nD τ sig) → Buf (Elt F) ℓ)
    (h : ∀ c : Dev nD, Cert.Pre_in_range.fn (F := F) (m (aLoc c)) (m (bLoc c)) = fun _ => 1#1) : PreOK m := fun d => by
  rw [fi_eq]
  exact inRange_cast (F := F) _ (small_of_pre _ _ (h d))

/-! ## The reference -/

/-- A word below 65536 isn't negative. -/
theorem not_neg (w : BitVec 32) (h : w.toNat < 65536) : IntOp.cmpi .slt w 0#32 ≠ 1#1 := fun e => by
  have h1 : w.slt 0#32 = true := (StableHlo.Predicate.ofBool_eq_one_iff _).1 e
  have e1 : w.toInt < 0 := by simpa [BitVec.slt] using h1
  rw [StableHlo.Predicate.toInt_eq_toNat_of_lt (by omega)] at e1
  omega

/-- The reference's gather over a list that names rows: row `i` of the result is the row of the table that entry `i` names. -/
theorem ref_rows (d : GatherDims (shape2 65536 16) (shape2 1048576 1) (shape2 1048576 16)) (hoff : d.offsetDims = [1])
    (hcoll : d.collapsedSliceDims = [0]) (hob : d.operandBatchingDims = []) (hsim : d.startIndexMap = [0]) (hivd : d.indexVectorDim = 1)
    (tab : S65536x16.Idx → Elt F .f32) (idx : S1048576.Idx → Elt F .i32) (jdx : IVec (shape2 1048576 1) 32) (hr : InRange idx)
    (hj : ∀ c : Fin 1048576, jdx (ix2 c (0 : Fin 1)) = idx (ix1 c)) : Host.gather d tab jdx = gathered tab idx := by
  funext x
  have hx : x = ix2 (x 0 : Fin 1048576) (x 1 : Fin 16) := by
    funext a; match a with | ⟨0, _⟩ => rfl | ⟨1, _⟩ => rfl
  conv_lhs => rw [hx]
  refine Routing.gather_row d hoff hcoll hob hsim hivd tab jdx (x 0) (x 1) (rowAt (idx (ix1 (x 0)))) ?_ (by norm_num)
  refine (hj (x 0)).trans ?_
  apply BitVec.eq_of_toNat_eq
  have := hr (ix1 (x 0))
  show _ = (BitVec.ofNat 32 ((idx (ix1 (x 0)) : BitVec 32).toNat % 65536)).toNat
  rw [Nat.mod_eq_of_lt this, BitVec.toNat_ofNat]
  exact (Nat.mod_eq_of_lt (lt_trans this (by norm_num))).symm

/-- The start indices: an index that isn't negative is kept. -/
theorem start_row (idx : IVec S1048576 32) (hr : ∀ j, (idx j).toNat < 65536) (z n : IVec S1048576 32) (hz : ∀ j, z j = 0#32)
    (hb : S1048576.BroadcastsInDim (shape2 1048576 1) ![0]) (c : Fin 1048576) :
    broadcastInDim (shape2 1048576 1) ![0] hb (select (cmpi .slt idx z) (addi idx n) idx) (ix2 c (0 : Fin 1)) = idx (ix1 c) := by
  have e : ∀ j, (select (cmpi .slt idx z) (addi idx n) idx) j = idx j := fun j => by
    show (if IntOp.cmpi .slt (idx j) (z j) = 1#1 then _ else _) = _
    rw [hz j, if_neg (not_neg _ (hr j))]
  show (select (cmpi .slt idx z) (addi idx n) idx) _ = _
  rw [e]
  refine congrArg idx (funext fun a => ?_)
  match a with
  | ⟨0, _⟩ => exact Fin.ext (by first | rfl | simp)

/-! ## The reference's runs -/

theorem ref_run (m : (ℓ : Loc Cert.Reference.nD Cert.Reference.τ Cert.Reference.sig) → Buf (Elt F) ℓ) (ρ : Dev Cert.Reference.nD → PrngReg) :
    θ_run (Cert.Reference.defs (F := F)) (onTc (τ := Cert.Reference.τ) (Cert.Reference.main (F := F))) ⟨m, fun _ => 0, ρ⟩ fun r =>
      (∀ c : Dev Cert.Reference.nD,
        ((∀ j : S64x1024x16.Idx, (m ((c.tc : Thread Cert.Reference.nD Cert.Reference.τ).loc Cert.Reference.main_arg1) j : BitVec 32).toNat < 65536) →
          r.2.mem ((c.tc : Thread Cert.Reference.nD Cert.Reference.τ).loc Cert.Reference.main_v8)
          = gathered (shapeCast S65536x16 (m ((c.tc : Thread Cert.Reference.nD Cert.Reference.τ).loc Cert.Reference.main_arg0)) shapeCasts_S64x1024x16_S65536x16)
              (shapeCast S1048576 (m ((c.tc : Thread Cert.Reference.nD Cert.Reference.τ).loc Cert.Reference.main_arg1)) shapeCasts_S64x1024x16_S1048576))
        ∧ r.2.mem ((c.tc : Thread Cert.Reference.nD Cert.Reference.τ).loc Cert.Reference.main_arg0) = m ((c.tc : Thread Cert.Reference.nD Cert.Reference.τ).loc Cert.Reference.main_arg0)
        ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0 :=
  (θ_run Cert.Reference.defs _ _).mono (fun r hr => ⟨fun c => ⟨fun h => (hr c).1.trans (ref_rows _ rfl rfl rfl rfl rfl _ _ _ (inRange_cast (F := F) _ h)
      (start_row _ (inRange_cast (F := F) _ h) _ _ (fun _ => rfl) _)), (hr c).2⟩, sem_eq_zero_of_no_sems rfl r.2⟩)
    (Cert.Reference.Value.run m ρ)

theorem refIdeal_run (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r =>
      (∀ c : Dev Cert.ReferenceIdeal.nD,
        ((∀ j : S64x1024x16.Idx, (m ((c.tc : Thread Cert.ReferenceIdeal.nD Cert.ReferenceIdeal.τ).loc Cert.ReferenceIdeal.main_arg1) j : BitVec 32).toNat < 65536) →
          r.2.mem ((c.tc : Thread Cert.ReferenceIdeal.nD Cert.ReferenceIdeal.τ).loc Cert.ReferenceIdeal.main_v8)
          = gathered (shapeCast S65536x16 (m ((c.tc : Thread Cert.ReferenceIdeal.nD Cert.ReferenceIdeal.τ).loc Cert.ReferenceIdeal.main_arg0)) shapeCasts_S64x1024x16_S65536x16)
              (shapeCast S1048576 (m ((c.tc : Thread Cert.ReferenceIdeal.nD Cert.ReferenceIdeal.τ).loc Cert.ReferenceIdeal.main_arg1)) shapeCasts_S64x1024x16_S1048576))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0 :=
  (θ_run Cert.ReferenceIdeal.defs _ _).mono (fun r hr => ⟨fun c => ⟨fun h => (hr c).1.trans (ref_rows _ rfl rfl rfl rfl rfl _ _ _ (inRange_cast (F := F) _ h)
      (start_row _ (inRange_cast (F := F) _ h) _ _ (fun _ => rfl) _)), (hr c).2⟩, sem_eq_zero_of_no_sems rfl r.2⟩)
    (Cert.ReferenceIdeal.Value.run m ρ)

end Cert.Proof.Rows

end
-- ==== Proof.FinalPairs.lean ====
module
public import proofs.«01_k».proof.Proof.Gen.FinalIdeal.Value
public import proofs.«01_k».proof.Proof.Gen.FinalReferenceIdeal.Run
public import Idealize.ShloMosaic.Lib.Pointwise
public import Idealize.ShloMosaic.Lib.IdealHost
/-!
# The last call's second result: the sum over the pairs of centroids

The kernel and the reference both take, for each pair of centroids, what their distance falls short of the margin, and
add up the squares. They differ in how the squared distance is written. The kernel takes the product of the centred
centroids with themselves, reads the squared lengths off its diagonal and forms `|u|² + |v|² - 2 u·v`. The reference
pads the centred rows by their squared lengths and by ones, so that one product of length 258 gives the same number.
Both are the same real number where the centroids are finite.
-/

@[expose] public section
noncomputable section
namespace Cert.Proof.Final
open Idealize.ShloMosaic
set_option maxRecDepth 16384

/-! ## Numbers -/

/-- A sum of real numbers read as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem bits_two : Ideal.ofBits .f32 0x40000000#32 = ((2 : ℝ) : EReal) := by
  simp [Ideal.ofBits, Ideal.ieee, -EReal.coe_mul]; norm_num

theorem bits_neg_two : Ideal.ofBits .f32 0xC0000000#32 = ((-2 : ℝ) : EReal) := by
  simp [Ideal.ofBits, Ideal.ieee, -EReal.coe_mul, -EReal.coe_neg]; norm_num

theorem bits_eight : Ideal.ofBits .f32 0x41000000#32 = ((8 : ℝ) : EReal) := by
  simp [Ideal.ofBits, Ideal.ieee, -EReal.coe_mul]; norm_num

/-- Division by one changes nothing. -/
theorem div_one' (x : EReal) : Ideal.div x 1 = x := by
  rw [← EReal.coe_one, Ideal.div_coe one_ne_zero]; simp

/-! ## Sums of the host down to one number -/

theorem scalar_idx (i : (⟨0, ![]⟩ : Shape).Idx) : i = ix0 := funext fun a => a.elim0

/-- A sum over no axis at all adds the starting value. -/
theorem reduce_none (x : FVec Ideal ⟨0, ![]⟩ .f32) (h : (⟨0, ![]⟩ : Shape).ReducesTo [] ⟨0, ![]⟩) (c : EReal)
    (j : (⟨0, ![]⟩ : Shape).Idx) : Ideal.hostReduceAdd h x c j = c + x ix0 := by
  rw [Ideal.hostReduceAdd_total h (fun b => b.elim0)]
  congr 1
  haveI : Unique (⟨0, ![]⟩ : Shape).Idx := ⟨⟨ix0⟩, scalar_idx⟩
  rw [Fintype.sum_unique]
  exact congrArg x (scalar_idx _)

/-! ## The two sides' mask of equal indices -/

theorem cmpi_eye (i j : Fin 8) :
    IntOp.cmpi CmpIPredicate.eq (BitVec.ofNat 32 i.val) (BitVec.ofNat 32 j.val) = if i = j then 1#1 else 0#1 := by
  revert i j; decide

theorem cmpi_eye' (i j : Fin 8) :
    IntOp.cmpi CmpIPredicate.eq (IntOp.addi (BitVec.ofNat 32 i.val) 0#32) (BitVec.ofNat 32 j.val) = if i = j then 1#1 else 0#1 := by
  revert i j; decide

theorem select_eye (i j : Fin 8) (u v : EReal) :
    Scalar.select (IntOp.cmpi CmpIPredicate.eq (BitVec.ofNat 32 i.val) (BitVec.ofNat 32 j.val)) u v = if i = j then u else v := by
  rw [cmpi_eye]; by_cases h : i = j <;> simp [h, Scalar.select]

theorem uitofp_eye (i j : Fin 8) :
    (FloatOps.uitofp FTy.f32 (IntOp.cmpi CmpIPredicate.eq (IntOp.addi (BitVec.ofNat 32 i.val) 0#32) (BitVec.ofNat 32 j.val)) : Ideal .f32)
      = if i = j then (1 : EReal) else 0 := by
  rw [cmpi_eye']
  by_cases h : i = j
  · rw [if_pos h, if_pos h]
    show (((1#1).toNat : ℝ) : EReal) = 1
    simp
  · rw [if_neg h, if_neg h]
    show (((0#1).toNat : ℝ) : EReal) = 0
    simp

/-! ## What both sides compute -/

/-- The centred rows. -/
def centred (x : Fin 8 → Fin 256 → ℝ) (i : Fin 8) (k : Fin 256) : ℝ := x i k - (∑ i, x i k) * (1 / 8)

/-- The product of two rows. -/
def prods (r : Fin 8 → Fin 256 → ℝ) (i j : Fin 8) : ℝ := ∑ k, r i k * r j k

/-- What a pair falls short of the margin. -/
def short (r : Fin 8 → Fin 256 → ℝ) (i j : Fin 8) : EReal :=
  max 0 (1 - (if i = j then (1 : EReal) else 0)
    - Ideal.sqrt (max (Ideal.ofBits FTy.f32 228737632#32) ((prods r i i + prods r j j - 2 * prods r i j : ℝ) : EReal)))

/-- The sum of the squares over all pairs. -/
def pairs (r : Fin 8 → Fin 256 → ℝ) : EReal := ∑ i, ∑ j, short r i j * short r i j

/-- The centring step at finite entries. -/
theorem centred_apply (a : Fin 8 → Fin 256 → EReal) (x : Fin 8 → Fin 256 → ℝ) (hx : ∀ i k, a i k = x i k) (i : Fin 8) (k : Fin 256) :
    a i k - Ideal.div (∑ i, a i k) (Ideal.ofBits FTy.f32 1090519040#32) = (centred x i k : EReal) := by
  rw [bits_eight]
  simp only [hx]
  rw [coe_sum, Ideal.div_coe (by norm_num), ← EReal.coe_mul, ← EReal.coe_sub]; rfl

/-! ## The kernel -/

theorem kernel_pairs (a0 a1 : Vec Ideal Cert.FinalIdeal.S1024x128 .f32) (a2 : Vec Ideal Cert.FinalIdeal.S8x256 .f32)
    (x : Fin 8 → Fin 256 → ℝ) (hx : ∀ i k, a2 (ix2 i k) = (x i k : EReal)) :
    Cert.FinalIdeal.Value.G4 a0 a1 a2 (ix2 0 0) = pairs (centred x) := by
  pointwise [Cert.FinalIdeal.Value.G4, Cert.FinalIdeal.Gen.k0_pay1, Cert.FinalIdeal.Gen.k0_pay40, Cert.FinalIdeal.Gen.k0_pay41, Cert.FinalIdeal.Gen.k0_pay42, Cert.FinalIdeal.Gen.k0_pay43]
  have hc : ∀ i k, a2 (ix2 i k) - Ideal.div (∑ i, a2 (ix2 i k)) (Ideal.ofBits FTy.f32 1090519040#32) = (centred x i k : EReal) :=
    centred_apply (fun i k => a2 (ix2 i k)) x hx
  simp only [hc, select_eye, bits_two, Finset.sum_ite_eq, Finset.sum_ite_eq', Finset.mem_univ, if_true, ← EReal.coe_mul, coe_sum, ← EReal.coe_add, ← EReal.coe_sub]
  rfl

/-! ## The reference -/

section
open Cert.FinalReferenceIdeal Cert.FinalReferenceIdeal.Gen

/-- The reference's centroids with their mean row taken away. -/
def refCentered (a2 : FVec Ideal S8x256 .f32) : FVec Ideal S8x256 .f32 :=
  subf a2 (broadcastInDim S8x256 ![0, 1] bcast_S1x256_S8x256_0_1 (Host.divf (broadcastInDim S1x256 ![1] bcast_S256_S1x256_1 (Host.reduceAdd a2 (constant S_ .f32 0x00000000#32) reducesTo_S8x256_S256_d0 h_S_)) (broadcastInDim S1x256 ![] bcast_S_S1x256 (constant S_ .f32 0x41000000#32))))

/-- The squared length of each of the rows, as a column. -/
def refNorms (x : FVec Ideal S8x256 .f32) : FVec Ideal S8x1 .f32 :=
  broadcastInDim S8x1 ![0] bcast_S8_S8x1_0 (Host.reduceAdd (mulf x x) (constant S_ .f32 0x00000000#32) reducesTo_S8x256_S8_d1 h_S_)

/-- A column of ones. -/
def refOnes : FVec Ideal S8x1 .f32 := broadcastInDim S8x1 ![] bcast_S_S8x1 (constant S_ .f32 0x3F800000#32)

/-- The squared distances, as the product of the two padded arrays. -/
def refSquares (x : FVec Ideal S8x256 .f32) : FVec Ideal S8x8 .f32 :=
  Host.dotGeneral dot_S8x258_S258x8_S8x8_1_0_0_1_n_n none
    (concatenate S8x258 1 [⟨S8x256, mulf (broadcastInDim S8x256 ![] bcast_S_S8x256 (constant S_ .f32 0xC0000000#32)) x⟩, ⟨S8x1, refNorms x⟩, ⟨S8x1, refOnes⟩] concatenates_S8x256_S8x1_S8x1_S8x258_d1 : FVec Ideal S8x258 .f32)
    (transpose S258x8 [1, 0] (concatenate S8x258 1 [⟨S8x256, x⟩, ⟨S8x1, refOnes⟩, ⟨S8x1, refNorms x⟩] concatenates_S8x256_S8x1_S8x1_S8x258_d1 : FVec Ideal S8x258 .f32) transposes_S8x258_S258x8_1_0 : FVec Ideal S258x8 .f32)

/-- How far each pair of rows falls short of the margin, from the squared distances. -/
def refShort (q : FVec Ideal S8x8 .f32) : FVec Ideal S8x8 .f32 :=
  maximumf (broadcastInDim S8x8 ![] bcast_S_S8x8 (id (constant S_ .f32 0x00000000#32))) (subf (mulf (subf (broadcastInDim S8x8 ![] bcast_S_S8x8 (constant S_ .f32 0x3F800000#32)) (uitofp .f32 (cmpi .eq (addi (iotaInDim S8x8 32 0) (broadcastInDim S8x8 ![] bcast_S_S8x8 (constantI S_ 32 0#32))) (iotaInDim S8x8 32 1)))) (broadcastInDim S8x8 ![] bcast_S_S8x8 (constant S_ .f32 0x3F800000#32))) (Host.sqrt (maximumf (broadcastInDim S8x8 ![] bcast_S_S8x8 (id (constant S_ .f32 0x0DA24260#32))) q)))

/-- The mean over one scalar of the sum of all entries, as the reference takes it. -/
def refTotal (y : FVec Ideal S8x8 .f32) : FVec Ideal S1x1 .f32 :=
  shapeCast _ (Host.divf (Host.reduceAdd (Host.reduceAdd (Host.reduceAdd y (constant S_ .f32 0x00000000#32) reducesTo_S8x8_S8_d1 h_S_) (constant S_ .f32 0x00000000#32) reducesTo_S8_S_d0 h_S_) (constant S_ .f32 0x00000000#32) reducesTo_S_S_d h_S_) (constant S_ .f32 0x3F800000#32)) shapeCasts_S_S1x1

theorem refCentered_apply (a2 : FVec Ideal S8x256 .f32) (x : Fin 8 → Fin 256 → ℝ) (hx : ∀ i k, a2 (ix2 i k) = (x i k : EReal))
    (i : Fin 8) (k : Fin 256) : refCentered a2 (ix2 i k) = (centred x i k : EReal) := by
  pointwise [refCentered]
  exact centred_apply (fun i k => a2 (ix2 i k)) x hx i k

theorem refSquares_apply (a : FVec Ideal S8x256 .f32) (r : Fin 8 → Fin 256 → ℝ) (hr : ∀ i k, a (ix2 i k) = (r i k : EReal))
    (i j : Fin 8) : refSquares a (ix2 i j) = ((prods r i i + prods r j j - 2 * prods r i j : ℝ) : EReal) := by
  pointwise [refSquares, refNorms, refOnes]
  simp only [hr, bits_neg_two, ← EReal.coe_mul, coe_sum, ← EReal.coe_one]
  rw [Fin.sum_univ_castSucc, Fin.sum_univ_castSucc]
  have h1 : ∀ k : Fin 256, ((Fin.castSucc (Fin.castSucc k) : Fin 258) : ℕ) = k.val := fun k => rfl
  have h2 : ((Fin.castSucc (Fin.last 256) : Fin 258) : ℕ) = 256 := rfl
  have h3 : ((Fin.last 257 : Fin 258) : ℕ) = 257 := rfl
  simp only [h1, h2, h3, Fin.is_lt, dif_pos, Nat.lt_irrefl, dif_neg, not_false_eq_true, Nat.sub_self, Nat.zero_lt_one, Fin.eta,
    show ¬ (257 < 256) by decide, show ¬ (257 - 256 < 1) by decide, ← EReal.coe_mul, coe_sum, ← EReal.coe_add]
  congr 1
  have h : ∑ k : Fin 256, -2 * r i k * r j k = -2 * prods r i j := by
    rw [prods, Finset.mul_sum]; exact Finset.sum_congr rfl fun k _ => mul_assoc _ _ _
  rw [h]
  show -2 * prods r i j + prods r i i * 1 + 1 * prods r j j = _
  ring

theorem refShort_apply (q : FVec Ideal S8x8 .f32) (i j : Fin 8) : refShort q (ix2 i j) =
    max 0 (1 - (if i = j then (1 : EReal) else 0) - Ideal.sqrt (max (Ideal.ofBits FTy.f32 228737632#32) (q (ix2 i j)))) := by
  pointwise [refShort]
  rw [uitofp_eye]
  show max (Ideal.ofBits FTy.f32 0#32) _ = _
  rw [Ideal.ofBits_zero_f32]; rfl

theorem refTotal_apply (y : FVec Ideal S8x8 .f32) : refTotal y (ix2 0 0) = ∑ i, ∑ j, y (ix2 i j) := by
  pointwise [refTotal]
  rw [reduce_none]
  pointwise []
  rw [div_one']

/-- The reference's second result is the last of these. -/
theorem reference_text (m) (c) : Cert.FinalReferenceIdeal.Value.res_main_v66 (F := Ideal) m c =
    refTotal (mulf (refShort (refSquares (refCentered (m (c.tc.loc main_arg2))))) (refShort (refSquares (refCentered (m (c.tc.loc main_arg2)))))) := by
  unfold Cert.FinalReferenceIdeal.Value.res_main_v66
  rfl

theorem reference_pairs (m) (c) (x : Fin 8 → Fin 256 → ℝ) (hx : ∀ i k, m (c.tc.loc main_arg2) (ix2 i k) = (x i k : EReal)) :
    Cert.FinalReferenceIdeal.Value.res_main_v66 (F := Ideal) m c (ix2 0 0) = pairs (centred x) := by
  refine (congrFun (reference_text m c) _).trans ((refTotal_apply _).trans ?_)
  refine Finset.sum_congr rfl fun i _ => Finset.sum_congr rfl fun j _ => ?_
  have h : refShort (refSquares (refCentered (m (c.tc.loc main_arg2)))) (ix2 i j) = short (centred x) i j := by
    rw [refShort_apply, refSquares_apply _ _ (refCentered_apply _ x hx)]; rfl
  show refShort _ (ix2 i j) * refShort _ (ix2 i j) = _
  rw [h]

end
end Cert.Proof.Final
-- ==== Proof.FinalShares.lean ====
module
public import proofs.«01_k».proof.Proof.FinalPairs
/-!
# The last call's first result: the divergence of the shares from the other array

For each sample the 128 columns are 16 groups of eight. The softmax of a group of counts over 64 gives eight shares `p`;
the result is the mean over the samples of the sum of `p (log p - q / 64)`. The reference writes that in this order. The
kernel goes through the groups one after another, keeps the sums of `p log p` and of `p q` apart, and scales the two
totals by `1 / 1024` and `1 / 65536`. For finite counts the shares are positive real numbers, so the two are one number.
-/

@[expose] public section
noncomputable section
namespace Cert.Proof.Final
open Idealize.ShloMosaic
set_option maxRecDepth 16384

/-! ## Numbers -/

theorem bits_64th : Ideal.ofBits .f32 0x3C800000#32 = ((1 / 64 : ℝ) : EReal) := by
  simp [Ideal.ofBits, Ideal.ieee, -EReal.coe_mul]; norm_num

theorem bits_1024th : Ideal.ofBits .f32 0x3A800000#32 = ((1 / 1024 : ℝ) : EReal) := by
  simp [Ideal.ofBits, Ideal.ieee, -EReal.coe_mul]; norm_num

theorem bits_65536th : Ideal.ofBits .f32 0x37800000#32 = ((1 / 65536 : ℝ) : EReal) := by
  simp [Ideal.ofBits, Ideal.ieee, -EReal.coe_mul]; norm_num

theorem bits_64 : Ideal.ofBits .f32 0x42800000#32 = ((64 : ℝ) : EReal) := by
  simp [Ideal.ofBits, Ideal.ieee, -EReal.coe_mul]; norm_num

theorem bits_1024 : Ideal.ofBits .f32 0x44800000#32 = ((1024 : ℝ) : EReal) := by
  simp [Ideal.ofBits, Ideal.ieee, -EReal.coe_mul]; norm_num

theorem bits_bot : Ideal.ofBits .f32 0xFF800000#32 = (⊥ : EReal) := by
  simp [Ideal.ofBits, Ideal.ieee]

/-! ## The softmax of eight real numbers -/

/-- The greatest of finitely many real numbers, started from minus infinity, is minus infinity or a real number. -/
theorem fold_real (f : Fin 8 → ℝ) (s : Finset (Fin 8)) :
    Finset.fold max (⊥ : EReal) (fun x => ((f x : ℝ) : EReal)) s = ⊥ ∧ s = ∅
      ∨ ∃ M : ℝ, Finset.fold max (⊥ : EReal) (fun x => ((f x : ℝ) : EReal)) s = M := by
  classical
  induction s using Finset.induction_on with
  | empty => exact .inl ⟨by simp, rfl⟩
  | insert a s h ih =>
    refine .inr ?_
    rw [Finset.fold_insert h]
    rcases ih with ⟨e, _⟩ | ⟨M, e⟩
    · exact ⟨f a, by rw [e]; simp⟩
    · exact ⟨max (f a) M, by rw [e]; exact (EReal.coe_strictMono.monotone.map_max (a := f a) (b := M)).symm⟩

/-- The greatest of eight real numbers. -/
def top (f : Fin 8 → ℝ) : ℝ := (Finset.fold max (⊥ : EReal) (fun x => ((f x : ℝ) : EReal)) Finset.univ).toReal

theorem fold_top (f : Fin 8 → ℝ) : Finset.fold max (⊥ : EReal) (fun x => ((f x : ℝ) : EReal)) Finset.univ = (top f : EReal) := by
  rcases fold_real f Finset.univ with ⟨_, e⟩ | ⟨M, e⟩
  · exact absurd e (by decide)
  · rw [top, e, EReal.toReal_coe]

/-- The sum of the exponentials. -/
def weight (f : Fin 8 → ℝ) : ℝ := ∑ x, Real.exp (f x - top f)

theorem weight_pos (f : Fin 8 → ℝ) : 0 < weight f := Finset.sum_pos (fun _ _ => Real.exp_pos _) ⟨0, Finset.mem_univ _⟩

/-- A share. -/
def prob (f : Fin 8 → ℝ) (c : Fin 8) : ℝ := Real.exp (f c - top f) * (1 / weight f)

theorem prob_pos (f : Fin 8 → ℝ) (c : Fin 8) : 0 < prob f c := mul_pos (Real.exp_pos _) (one_div_pos.mpr (weight_pos f))

theorem exp_real (r : ℝ) : Ideal.exp (r : EReal) = (Real.exp r : EReal) := rfl

theorem log_real {r : ℝ} (h : 0 < r) : Ideal.log (r : EReal) = (Real.log r : EReal) := by
  show (if r ≤ 0 then (⊥ : EReal) else _) = _
  rw [if_neg (not_le.mpr h)]

/-- The softmax as both sides write it, at real entries. -/
theorem softmax_real (g : Fin 8 → EReal) (f : Fin 8 → ℝ) (h : ∀ x, g x = f x) (c : Fin 8) :
    Ideal.div (Ideal.exp (g c - Finset.fold max (Ideal.ofBits FTy.f32 4286578688#32) (fun x => g x) Finset.univ))
      (∑ x, Ideal.exp (g x - Finset.fold max (Ideal.ofBits FTy.f32 4286578688#32) (fun x => g x) Finset.univ)) = (prob f c : EReal) := by
  simp only [h, bits_bot, fold_top, ← EReal.coe_sub, exp_real, coe_sum]
  exact (Ideal.div_coe (weight_pos f).ne' _).trans (EReal.coe_mul _ _).symm

/-! ## What both sides compute -/

/-- A group of eight columns over 64. -/
def group (x : Fin 1024 → ℕ → ℝ) (s : Fin 1024) (k : ℕ) (c : Fin 8) : ℝ := x s (k * 8 + c) * (1 / 64)

/-- One group's sum of `p log p`. -/
def entropy (x : Fin 1024 → ℕ → ℝ) (s : Fin 1024) (k : ℕ) : ℝ :=
  ∑ c, prob (group x s k) c * Real.log (prob (group x s k) c)

/-- One group's sum of `p q`. -/
def cross (x y : Fin 1024 → ℕ → ℝ) (s : Fin 1024) (k : ℕ) : ℝ := ∑ c : Fin 8, prob (group x s k) c * y s (k * 8 + c)

/-- The first result. -/
def divergence (x y : Fin 1024 → ℕ → ℝ) : ℝ :=
  (∑ s, ∑ k ∈ Finset.range 16, entropy x s k) * (1 / 1024) - (∑ s, ∑ k ∈ Finset.range 16, cross x y s k) * (1 / 65536)

/-! ## The kernel -/

section
open Cert.FinalIdeal Cert.FinalIdeal.Gen

/-- One group's shares on the vector unit: the softmax of the eight scaled columns. -/
def share (v : Vec Ideal S1024x8 .f32) : FVec Ideal S1024x8 .f32 := k0_pay2 v

/-- The running sum of `p log p`, one group further. -/
def step1 (t : FVec Ideal S1024x1 .f32) (v : Vec Ideal S1024x8 .f32) : FVec Ideal S1024x1 .f32 :=
  addf t (shapeCast S1024x1 (multiReduction .add [1] S1024 (mulf (share v) (log (share v))) 0x00000000#32 reduces_S1024x8_S1024 (.inl rfl) rfl) shapeCasts_S1024_S1024x1)

/-- The running sum of the shares' products with the other array, one group further. -/
def step2 (t : FVec Ideal S1024x1 .f32) (v w : Vec Ideal S1024x8 .f32) : FVec Ideal S1024x1 .f32 :=
  addf t (shapeCast S1024x1 (multiReduction .add [1] S1024 (mulf (share v) w) 0x00000000#32 reduces_S1024x8_S1024 (.inl rfl) rfl) shapeCasts_S1024_S1024x1)

def zeroCol : FVec Ideal S1024x1 .f32 := broadcast S1024x1 (Scalar.ofBits .f32 0x00000000#32)

def total (t : FVec Ideal S1024x1 .f32) : Ideal .f32 :=
  extractAt ![0, 0, 0] (shapeCast S1x1x1 (multiReduction .add [1, 2] S1 (shapeCast S1x1024x1 t shapeCasts_S1024x1_S1x1024x1) 0x00000000#32 reduces_S1x1024x1_S1 (.inl rfl) rfl) shapeCasts_S1_S1x1x1) inpos_S1x1x1_p0_0_0

def finish (t1 t2 : FVec Ideal S1024x1 .f32) : FVec Ideal S1x1 .f32 :=
  broadcast S1x1 (Scalar.subf (Scalar.mulf (total t1) (Scalar.ofBits .f32 0x3A800000#32)) (Scalar.mulf (total t2) (Scalar.ofBits .f32 0x37800000#32)))

def sum1 (a0 : Vec Ideal S1024x128 .f32) : FVec Ideal S1024x1 .f32 :=
  step1 (step1 (step1 (step1 (step1 (step1 (step1 (step1 (step1 (step1 (step1 (step1 (step1 (step1 (step1 (step1 zeroCol
    (View.ld a0 r0_0)) (View.ld a0 r0_1)) (View.ld a0 r0_2)) (View.ld a0 r0_3)) (View.ld a0 r0_4)) (View.ld a0 r0_5))
    (View.ld a0 r0_6)) (View.ld a0 r0_7)) (View.ld a0 r0_8)) (View.ld a0 r0_9)) (View.ld a0 r0_10)) (View.ld a0 r0_11))
    (View.ld a0 r0_12)) (View.ld a0 r0_13)) (View.ld a0 r0_14)) (View.ld a0 r0_15)

def sum2 (a0 a1 : Vec Ideal S1024x128 .f32) : FVec Ideal S1024x1 .f32 :=
  step2 (step2 (step2 (step2 (step2 (step2 (step2 (step2 (step2 (step2 (step2 (step2 (step2 (step2 (step2 (step2 zeroCol
    (View.ld a0 r0_0) (View.ld a1 r0_0)) (View.ld a0 r0_1) (View.ld a1 r0_1)) (View.ld a0 r0_2) (View.ld a1 r0_2))
    (View.ld a0 r0_3) (View.ld a1 r0_3)) (View.ld a0 r0_4) (View.ld a1 r0_4)) (View.ld a0 r0_5) (View.ld a1 r0_5))
    (View.ld a0 r0_6) (View.ld a1 r0_6)) (View.ld a0 r0_7) (View.ld a1 r0_7)) (View.ld a0 r0_8) (View.ld a1 r0_8))
    (View.ld a0 r0_9) (View.ld a1 r0_9)) (View.ld a0 r0_10) (View.ld a1 r0_10)) (View.ld a0 r0_11) (View.ld a1 r0_11))
    (View.ld a0 r0_12) (View.ld a1 r0_12)) (View.ld a0 r0_13) (View.ld a1 r0_13)) (View.ld a0 r0_14) (View.ld a1 r0_14))
    (View.ld a0 r0_15) (View.ld a1 r0_15)

theorem kernel_text (a0 a1 : Vec Ideal S1024x128 .f32) (a2 : Vec Ideal S8x256 .f32) :
    Cert.FinalIdeal.Value.G3 a0 a1 a2 = finish (sum1 a0) (sum2 a0 a1) := rfl

theorem share_real (v : Vec Ideal S1024x8 .f32) (x : Fin 1024 → ℕ → ℝ) (s : Fin 1024) (k : ℕ)
    (hv : ∀ c : Fin 8, v (ix2 s c) = (x s (k * 8 + c) : EReal)) (c : Fin 8) : share v (ix2 s c) = (prob (group x s k) c : EReal) := by
  pointwise [share, k0_pay2]
  exact softmax_real (fun c => v (ix2 s c) * Ideal.ofBits FTy.f32 1015021568#32) (group x s k)
    (fun c => by rw [hv, bits_64th, ← EReal.coe_mul]; rfl) c

theorem step1_real (t : FVec Ideal S1024x1 .f32) (v : Vec Ideal S1024x8 .f32) (x : Fin 1024 → ℕ → ℝ) (s : Fin 1024) (k : ℕ) (T : ℝ)
    (ht : t (ix2 s 0) = (T : EReal)) (hv : ∀ c : Fin 8, v (ix2 s c) = (x s (k * 8 + c) : EReal)) :
    step1 t v (ix2 s 0) = ((T + entropy x s k : ℝ) : EReal) := by
  pointwise [step1]
  simp only [ht, share_real v x s k hv, log_real (prob_pos _ _), ← EReal.coe_mul, coe_sum, ← EReal.coe_add]
  rfl

theorem step2_real (t : FVec Ideal S1024x1 .f32) (v w : Vec Ideal S1024x8 .f32) (x y : Fin 1024 → ℕ → ℝ) (s : Fin 1024) (k : ℕ) (T : ℝ)
    (ht : t (ix2 s 0) = (T : EReal)) (hv : ∀ c : Fin 8, v (ix2 s c) = (x s (k * 8 + c) : EReal))
    (hw : ∀ c : Fin 8, w (ix2 s c) = (y s (k * 8 + c) : EReal)) :
    step2 t v w (ix2 s 0) = ((T + cross x y s k : ℝ) : EReal) := by
  pointwise [step2]
  simp only [ht, hw, share_real v x s k hv, ← EReal.coe_mul, coe_sum, ← EReal.coe_add]
  rfl

theorem zeroCol_real (s : Fin 1024) : zeroCol (ix2 s 0) = ((0 : ℝ) : EReal) := by
  pointwise [zeroCol]
  rfl

theorem finish_real (t u : FVec Ideal S1024x1 .f32) (T U : Fin 1024 → ℝ) (ht : ∀ s, t (ix2 s 0) = (T s : EReal))
    (hu : ∀ s, u (ix2 s 0) = (U s : EReal)) :
    finish t u (ix2 0 0) = (((∑ s, T s) * (1 / 1024) - (∑ s, U s) * (1 / 65536) : ℝ) : EReal) := by
  pointwise [finish, total]
  simp only [ht, hu, bits_1024th, bits_65536th, Finset.univ_unique, Finset.sum_singleton, coe_sum, ← EReal.coe_mul, ← EReal.coe_sub]

section
variable (a : Vec Ideal S1024x128 .f32) (x : Fin 1024 → ℕ → ℝ) (h : ∀ (s : Fin 1024) (j : Fin 128), a (ix2 s j) = (x s j : EReal))
  (s : Fin 1024) (c : Fin 8)
include h
theorem ld0 : View.ld a r0_0 (ix2 s c) = (x s (0 * 8 + c) : EReal) := by
  pointwise []
  rw [h]
theorem ld1 : View.ld a r0_1 (ix2 s c) = (x s (1 * 8 + c) : EReal) := by
  pointwise []
  exact h s _
theorem ld2 : View.ld a r0_2 (ix2 s c) = (x s (2 * 8 + c) : EReal) := by
  pointwise []
  exact h s _
theorem ld3 : View.ld a r0_3 (ix2 s c) = (x s (3 * 8 + c) : EReal) := by
  pointwise []
  exact h s _
theorem ld4 : View.ld a r0_4 (ix2 s c) = (x s (4 * 8 + c) : EReal) := by
  pointwise []
  exact h s _
theorem ld5 : View.ld a r0_5 (ix2 s c) = (x s (5 * 8 + c) : EReal) := by
  pointwise []
  exact h s _
theorem ld6 : View.ld a r0_6 (ix2 s c) = (x s (6 * 8 + c) : EReal) := by
  pointwise []
  exact h s _
theorem ld7 : View.ld a r0_7 (ix2 s c) = (x s (7 * 8 + c) : EReal) := by
  pointwise []
  exact h s _
theorem ld8 : View.ld a r0_8 (ix2 s c) = (x s (8 * 8 + c) : EReal) := by
  pointwise []
  exact h s _
theorem ld9 : View.ld a r0_9 (ix2 s c) = (x s (9 * 8 + c) : EReal) := by
  pointwise []
  exact h s _
theorem ld10 : View.ld a r0_10 (ix2 s c) = (x s (10 * 8 + c) : EReal) := by
  pointwise []
  exact h s _
theorem ld11 : View.ld a r0_11 (ix2 s c) = (x s (11 * 8 + c) : EReal) := by
  pointwise []
  exact h s _
theorem ld12 : View.ld a r0_12 (ix2 s c) = (x s (12 * 8 + c) : EReal) := by
  pointwise []
  exact h s _
theorem ld13 : View.ld a r0_13 (ix2 s c) = (x s (13 * 8 + c) : EReal) := by
  pointwise []
  exact h s _
theorem ld14 : View.ld a r0_14 (ix2 s c) = (x s (14 * 8 + c) : EReal) := by
  pointwise []
  exact h s _
theorem ld15 : View.ld a r0_15 (ix2 s c) = (x s (15 * 8 + c) : EReal) := by
  pointwise []
  exact h s _
end

theorem sum1_real (a : Vec Ideal S1024x128 .f32) (x : Fin 1024 → ℕ → ℝ)
    (h : ∀ (s : Fin 1024) (j : Fin 128), a (ix2 s j) = (x s j : EReal)) (s : Fin 1024) :
    sum1 a (ix2 s 0) = ((∑ k ∈ Finset.range 16, entropy x s k : ℝ) : EReal) := by
  iterate 16 rw [Finset.sum_range_succ]
  rw [Finset.sum_range_zero]
  exact step1_real _ _ x s 15 _ (step1_real _ _ x s 14 _ (step1_real _ _ x s 13 _ (step1_real _ _ x s 12 _ (step1_real
    _ _ x s 11 _ (step1_real _ _ x s 10 _ (step1_real _ _ x s 9 _ (step1_real _ _ x s 8 _ (step1_real _ _ x s 7 _
    (step1_real _ _ x s 6 _ (step1_real _ _ x s 5 _ (step1_real _ _ x s 4 _ (step1_real _ _ x s 3 _ (step1_real _
    _ x s 2 _ (step1_real _ _ x s 1 _ (step1_real _ _ x s 0 _ (zeroCol_real s) (ld0 a x h s)) (ld1 a x h s)) (ld2
    a x h s)) (ld3 a x h s)) (ld4 a x h s)) (ld5 a x h s)) (ld6 a x h s)) (ld7 a x h s)) (ld8 a x h s)) (ld9 a x h
    s)) (ld10 a x h s)) (ld11 a x h s)) (ld12 a x h s)) (ld13 a x h s)) (ld14 a x h s)) (ld15 a x h s)

theorem sum2_real (a b : Vec Ideal S1024x128 .f32) (x y : Fin 1024 → ℕ → ℝ)
    (h : ∀ (s : Fin 1024) (j : Fin 128), a (ix2 s j) = (x s j : EReal))
    (h' : ∀ (s : Fin 1024) (j : Fin 128), b (ix2 s j) = (y s j : EReal)) (s : Fin 1024) :
    sum2 a b (ix2 s 0) = ((∑ k ∈ Finset.range 16, cross x y s k : ℝ) : EReal) := by
  iterate 16 rw [Finset.sum_range_succ]
  rw [Finset.sum_range_zero]
  exact step2_real _ _ _ x y s 15 _ (step2_real _ _ _ x y s 14 _ (step2_real _ _ _ x y s 13 _ (step2_real _ _ _ x y s
    12 _ (step2_real _ _ _ x y s 11 _ (step2_real _ _ _ x y s 10 _ (step2_real _ _ _ x y s 9 _ (step2_real _ _ _ x
    y s 8 _ (step2_real _ _ _ x y s 7 _ (step2_real _ _ _ x y s 6 _ (step2_real _ _ _ x y s 5 _ (step2_real _ _ _
    x y s 4 _ (step2_real _ _ _ x y s 3 _ (step2_real _ _ _ x y s 2 _ (step2_real _ _ _ x y s 1 _ (step2_real _ _
    _ x y s 0 _ (zeroCol_real s) (ld0 a x h s) (ld0 b y h' s)) (ld1 a x h s) (ld1 b y h' s)) (ld2 a x h s) (ld2 b
    y h' s)) (ld3 a x h s) (ld3 b y h' s)) (ld4 a x h s) (ld4 b y h' s)) (ld5 a x h s) (ld5 b y h' s)) (ld6 a x h
    s) (ld6 b y h' s)) (ld7 a x h s) (ld7 b y h' s)) (ld8 a x h s) (ld8 b y h' s)) (ld9 a x h s) (ld9 b y h' s))
    (ld10 a x h s) (ld10 b y h' s)) (ld11 a x h s) (ld11 b y h' s)) (ld12 a x h s) (ld12 b y h' s)) (ld13 a x h s)
    (ld13 b y h' s)) (ld14 a x h s) (ld14 b y h' s)) (ld15 a x h s) (ld15 b y h' s)

theorem kernel_divergence (a0 a1 : Vec Ideal S1024x128 .f32) (a2 : Vec Ideal S8x256 .f32) (x y : Fin 1024 → ℕ → ℝ)
    (hx : ∀ (s : Fin 1024) (j : Fin 128), a0 (ix2 s j) = (x s j : EReal))
    (hy : ∀ (s : Fin 1024) (j : Fin 128), a1 (ix2 s j) = (y s j : EReal)) :
    Cert.FinalIdeal.Value.G3 a0 a1 a2 (ix2 0 0) = (divergence x y : EReal) := by
  rw [kernel_text]
  exact finish_real _ _ _ _ (sum1_real a0 x hx) (sum2_real a0 a1 x y hx hy)

end

/-! ## The reference -/

section
open Cert.FinalReferenceIdeal Cert.FinalReferenceIdeal.Gen

/-- An array in 16 groups of eight columns, divided by 64. -/
def refScaled (a : FVec Ideal S1024x128 .f32) : FVec Ideal S1024x16x8 .f32 :=
  Host.divf (shapeCast S1024x16x8 a shapeCasts_S1024x128_S1024x16x8) (broadcastInDim S1024x16x8 ![] bcast_S_S1024x16x8 (constant S_ .f32 0x42800000#32))

/-- Each entry's exponential over its group's greatest. -/
def refExp (y : FVec Ideal S1024x16x8 .f32) : FVec Ideal S1024x16x8 .f32 :=
  Host.exp (subf y (broadcastInDim S1024x16x8 ![0, 1, 2] bcast_S1024x16x1_S1024x16x8_0_1_2 (broadcastInDim S1024x16x1 ![0, 1] bcast_S1024x16_S1024x16x1_0_1 (maximumf (broadcastInDim S1024x16 ![] bcast_S_S1024x16 (constant S_ .f32 0xFF800000#32)) (Host.reduce FloatOps.maximumf y (constant S_ .f32 0xFF800000#32) reducesTo_S1024x16x8_S1024x16_d2 h_S_)))))

/-- The reference's softmax. -/
def refShare (y : FVec Ideal S1024x16x8 .f32) : FVec Ideal S1024x16x8 .f32 :=
  Host.divf (refExp y) (broadcastInDim S1024x16x8 ![0, 1, 2] bcast_S1024x16x1_S1024x16x8_0_1_2 (broadcastInDim S1024x16x1 ![0, 1] bcast_S1024x16_S1024x16x1_0_1 (Host.reduceAdd (refExp y) (constant S_ .f32 0x00000000#32) reducesTo_S1024x16x8_S1024x16_d2 h_S_)))

def refMean (z : FVec Ideal S1024x16x8 .f32) : FVec Ideal S1x1 .f32 :=
  shapeCast _ (Host.divf (Host.reduceAdd (Host.reduceAdd (Host.reduceAdd z (constant S_ .f32 0x00000000#32) reducesTo_S1024x16x8_S1024x16_d2 h_S_) (constant S_ .f32 0x00000000#32) reducesTo_S1024x16_S1024_d1 h_S_) (constant S_ .f32 0x00000000#32) reducesTo_S1024_S_d0 h_S_) (constant S_ .f32 0x44800000#32)) shapeCasts_S_S1x1

def refL1 (a0 a1 : FVec Ideal S1024x128 .f32) : FVec Ideal S1x1 .f32 :=
  refMean (mulf (refShare (refScaled a0)) (subf (Host.log (refShare (refScaled a0))) (refScaled a1)))

theorem refScaled_real (a : FVec Ideal S1024x128 .f32) (x : Fin 1024 → ℕ → ℝ)
    (h : ∀ (s : Fin 1024) (j : Fin 128), a (ix2 s j) = (x s j : EReal)) (s : Fin 1024) (k : Fin 16) (c : Fin 8) :
    refScaled a (ix3 s k c) = (group x s k c : EReal) := by
  pointwise [refScaled]
  rw [h, bits_64, Ideal.div_coe (by norm_num), ← EReal.coe_mul]
  rfl

theorem refShare_real (v : FVec Ideal S1024x16x8 .f32) (s : Fin 1024) (k : Fin 16) (f : Fin 8 → ℝ)
    (h : ∀ c : Fin 8, v (ix3 s k c) = (f c : EReal)) (c : Fin 8) : refShare v (ix3 s k c) = (prob f c : EReal) := by
  pointwise [refShare, refExp]
  have hm : ∀ z : EReal, max (Ideal.ofBits FTy.f32 4286578688#32) z = z := fun z => by rw [bits_bot]; simp
  simp only [hm]
  exact softmax_real (fun c => v (ix3 s k c)) f h c

theorem refMean_real (z : FVec Ideal S1024x16x8 .f32) (w : Fin 1024 → Fin 16 → Fin 8 → ℝ)
    (h : ∀ s k c, z (ix3 s k c) = (w s k c : EReal)) :
    refMean z (ix2 0 0) = (((∑ s, ∑ k, ∑ c, w s k c) * (1 / 1024) : ℝ) : EReal) := by
  pointwise [refMean]
  simp only [h, coe_sum]
  rw [bits_1024, Ideal.div_coe (by norm_num), ← EReal.coe_mul]

theorem refLog_apply (u w : FVec Ideal S1024x16x8 .f32) (i : S1024x16x8.Idx) :
    mulf u (subf (Host.log u) w) i = u i * (Ideal.log (u i) - w i) := rfl

theorem reference_divergence (a0 a1 : FVec Ideal S1024x128 .f32) (x y : Fin 1024 → ℕ → ℝ)
    (hx : ∀ (s : Fin 1024) (j : Fin 128), a0 (ix2 s j) = (x s j : EReal))
    (hy : ∀ (s : Fin 1024) (j : Fin 128), a1 (ix2 s j) = (y s j : EReal)) :
    refL1 a0 a1 (ix2 0 0) = (divergence x y : EReal) := by
  refine (refMean_real _ (fun s k c => prob (group x s k) c * (Real.log (prob (group x s k) c) - group y s k c)) fun s k c => ?_).trans ?_
  · rw [refLog_apply, refShare_real _ s k _ (refScaled_real a0 x hx s k), refScaled_real a1 y hy, log_real (prob_pos _ _),
      ← EReal.coe_sub, ← EReal.coe_mul]
  · congr 1
    have e1 : ∀ s : Fin 1024, ∑ k : Fin 16, ∑ c, prob (group x s k) c * (Real.log (prob (group x s k) c) - group y s k c)
        = ∑ k ∈ Finset.range 16, entropy x s k - (∑ k ∈ Finset.range 16, cross x y s k) * (1 / 64) := fun s => by
      rw [Finset.sum_range, Finset.sum_range, Finset.sum_mul, ← Finset.sum_sub_distrib]
      refine Finset.sum_congr rfl fun k _ => ?_
      rw [entropy, cross, Finset.sum_mul, ← Finset.sum_sub_distrib]
      refine Finset.sum_congr rfl fun c _ => ?_
      rw [mul_sub, mul_assoc]; rfl
    rw [Finset.sum_congr rfl fun s _ => e1 s, Finset.sum_sub_distrib, ← Finset.sum_mul, divergence]
    ring

end
end Cert.Proof.Final
-- ==== Proof.FinalValue.lean ====
module
public import proofs.«01_k».proof.Defs
public import proofs.«01_k».proof.Proof.FinalShares
public import proofs.«01_k».proof.Proof.Gen.Pre_finite
public import Idealize.ShloMosaic.Lib.StableHlo.Predicate
public import Idealize.ShloMosaic.Lib.ReduceAll
/-!
# The last call: the kernel's two results are the reference's

The precondition says that the entries of the three arguments are real numbers. Over them `FinalShares` and `FinalPairs`
give both sides' results.
-/

@[expose] public section
noncomputable section
namespace Cert.Proof.Final
open Idealize.ShloMosaic

/-- A value whose absolute value is below infinity is a real number. -/
theorem real_of_cmp (x : Ideal .f32)
    (h : FloatOps.cmpf .olt (FloatOps.hostAbsf x) (FloatOps.ofBits (F := Ideal) .f32 0x7F800000#32) = 1#1) : ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have h2 : max (x : EReal) (-(x : EReal)) < ⊤ := of_decide_eq_true ((StableHlo.Predicate.ofBool_eq_one_iff _).1 h')
  obtain ⟨ha, hb⟩ := max_lt_iff.1 h2
  refine ⟨EReal.toReal x, (EReal.coe_toReal ha.ne fun e => ?_).symm⟩
  rw [e] at hb
  simp at hb

instance : Subsingleton (Cert.Pre_finite.S_ : Shape).Idx := ⟨fun a b => funext fun k => k.elim0⟩

/-- The precondition, entry by entry. -/
theorem real_of_pre [Cert.Pre_finite.Facts] (a0 a1 : FVec Ideal Cert.Pre_finite.S1024x128 .f32) (a2 : FVec Ideal Cert.Pre_finite.S8x256 .f32)
    (h : Cert.Pre_finite.fn (F := Ideal) a0 a1 a2 = fun _ => 1#1) :
    (∀ j, ∃ r : ℝ, a0 j = (r : EReal)) ∧ (∀ j, ∃ r : ℝ, a1 j = (r : EReal)) ∧ ∀ j, ∃ r : ℝ, a2 j = (r : EReal) := by
  obtain ⟨h01, h2⟩ := IntOp.andi_eq_one.1 (congrFun h (fun k => k.elim0))
  obtain ⟨h0, h1⟩ := IntOp.andi_eq_one.1 h01
  exact ⟨fun j => real_of_cmp _ (Host.reduce_andi_all _ _ _ _ (fun k => k.elim0) h0 j),
    fun j => real_of_cmp _ (Host.reduce_andi_all _ _ _ _ (fun k => k.elim0) h1 j),
    fun j => real_of_cmp _ (Host.reduce_andi_all _ _ _ _ (fun k => k.elim0) h2 j)⟩

/-- An array of 128 columns of real numbers, its columns counted by any natural number. -/
theorem columns (a : FVec Ideal ⟨2, ![1024, 128]⟩ .f32) (h : ∀ j, ∃ r : ℝ, a j = (r : EReal)) :
    ∃ x : Fin 1024 → ℕ → ℝ, ∀ (s : Fin 1024) (j : Fin 128), a (ix2 s j) = (x s j : EReal) := by
  choose r hr using h
  exact ⟨fun s j => if hj : j < 128 then r (ix2 s ⟨j, hj⟩) else 0, fun s j => by show _ = ((if hj : j.val < 128 then r (ix2 s ⟨j, hj⟩) else 0 : ℝ) : EReal); rw [dif_pos j.isLt, hr]⟩

/-- An array with one entry is known by that entry. -/
theorem one_entry (a b : FVec Ideal ⟨2, ![1, 1]⟩ .f32) (h : a (ix2 0 0) = b (ix2 0 0)) : a = b := by
  funext i
  have e : i = ix2 0 0 := by
    funext k
    match k with
    | ⟨0, _⟩ => exact Subsingleton.elim (α := Fin 1) _ _
    | ⟨1, _⟩ => exact Subsingleton.elim (α := Fin 1) _ _
  rw [e, h]

section
variable (a0 a1 : FVec Ideal ⟨2, ![1024, 128]⟩ .f32) (a2 : FVec Ideal ⟨2, ![8, 256]⟩ .f32)
  (h0 : ∀ j, ∃ r : ℝ, a0 j = (r : EReal)) (h1 : ∀ j, ∃ r : ℝ, a1 j = (r : EReal)) (h2 : ∀ j, ∃ r : ℝ, a2 j = (r : EReal))
include h0 h1

theorem first_result : (refL1 a0 a1 : FVec Ideal ⟨2, ![1, 1]⟩ .f32) = Cert.FinalIdeal.Value.G3 (F := Ideal) a0 a1 a2 := by
  obtain ⟨x, hx⟩ := columns a0 h0
  obtain ⟨y, hy⟩ := columns a1 h1
  exact one_entry _ _ ((reference_divergence a0 a1 x y hx hy).trans (kernel_divergence a0 a1 a2 x y hx hy).symm)

omit h0 h1
include h2

theorem second_result (m : (ℓ : Loc Cert.FinalReferenceIdeal.nD Cert.FinalReferenceIdeal.τ Cert.FinalReferenceIdeal.sig) → Buf (Elt Ideal) ℓ)
    (c : Dev Cert.FinalReferenceIdeal.nD) (e : m (c.tc.loc Cert.FinalReferenceIdeal.main_arg2) = a2) :
    Cert.FinalReferenceIdeal.Value.res_main_v66 m c = Cert.FinalIdeal.Value.G4 a0 a1 a2 := by
  choose r hr using h2
  have hx : ∀ (i : Fin 8) (k : Fin 256), a2 (ix2 i k) = (r (ix2 i k) : EReal) := fun i k => hr _
  exact one_entry _ _ ((reference_pairs m c (fun i k => r (ix2 i k)) (fun i k => (congrFun e _).trans (hx i k))).trans
    (kernel_pairs a0 a1 a2 (fun i k => r (ix2 i k)) hx).symm)

end

/-- Both sides run and leave the same two numbers. -/
theorem value : Cert.algebraic_FinalIdeal_FinalReferenceIdeal_pre_finite (hFinalIdeal := Cert.FinalIdeal.Gen.facts)
    (hFinalReferenceIdeal := Cert.FinalReferenceIdeal.Gen.facts) (hPre_finite := Cert.Pre_finite.Gen.facts) := fun m ρ m' ρ' hp hm =>
  ⟨fun c => Cert.FinalIdeal.Value.G3 (m (c.tc.loc Cert.FinalIdeal.main_arg0)) (m (c.tc.loc Cert.FinalIdeal.main_arg1)) (m (c.tc.loc Cert.FinalIdeal.main_arg2)),
    fun c => Cert.FinalIdeal.Value.G4 (m (c.tc.loc Cert.FinalIdeal.main_arg0)) (m (c.tc.loc Cert.FinalIdeal.main_arg1)) (m (c.tc.loc Cert.FinalIdeal.main_arg2)),
    Cert.FinalIdeal.Value.run (F := Ideal) m ρ,
    (θ_run Cert.FinalReferenceIdeal.defs _ _).mono (fun r h c => by
      obtain ⟨e0, e1, e2⟩ := hm c
      obtain ⟨f0, f1, f2⟩ := @real_of_pre Cert.Pre_finite.Gen.facts _ _ _ (hp c)
      refine ⟨(h c).1.trans ?_, (h c).2.1.trans (second_result _ _ _ f2 m' c e2), (h c).2.2⟩
      rw [e0, e1]
      exact first_result _ _ _ f0 f1) (Cert.FinalReferenceIdeal.Value.run (F := Ideal) m' ρ')⟩

end Cert.Proof.Final
-- ==== Proof.ReduceGather.lean ====
module
public import proofs.«01_k».proof.Proof.Gen.ReduceReferenceIdeal.Run
public import Idealize.ShloMosaic.Lib.Pointwise
public import Idealize.ShloMosaic.Lib.IdealHost
public import Idealize.ShloMosaic.Lib.StableHlo.Predicate
/-!
# The reference's first result of the reducing call

For each sensor the reference looks up the sixteen rows that the sensor's list names, adds them up, and divides every
group of twelve entries by the sum of the sixteen weights of its class, or by one where that sum is zero.
-/

@[expose] public section
noncomputable section
namespace Cert.Proof.Reduce
open Idealize.ShloMosaic
set_option maxRecDepth 16384

/-- The row that a word names. -/
def rowOf (w : BitVec 32) : Fin 1024 := ⟨w.toNat % 1024, Nat.mod_lt _ (by norm_num)⟩

/-- A word below 1024 is the number of its row. -/
theorem rowOf_word (w : BitVec 32) (h : w.toNat < 1024) : w = BitVec.ofNat 32 (rowOf w).val := by
  apply BitVec.eq_of_toNat_eq
  show _ = (BitVec.ofNat 32 (w.toNat % 1024)).toNat
  rw [Nat.mod_eq_of_lt h, BitVec.toNat_ofNat]
  exact (Nat.mod_eq_of_lt (lt_trans h (by norm_num))).symm

/-- The divisor that stands for a sum of weights. -/
def filled (x : EReal) : EReal := if x = 0 then 1 else x

/-- One entry of the first result: the sum of the sixteen rows, over the sum of the weights. -/
def quotient (q : Fin 1024 → Fin 96 → EReal) (idx : Fin 16 → BitVec 32) (r : Fin 16 → Fin 8 → EReal) (j : Fin 96) : EReal :=
  Ideal.div (∑ k, q (rowOf (idx k)) j) (filled (∑ k, r k ⟨j.val / 12, by omega⟩))

section
open Cert.ReduceReferenceIdeal Cert.ReduceReferenceIdeal.Gen

/-- The lookup of the rows, in one of the sixty-four tables. -/
theorem lookup (q : FVec Ideal S64x1024x96 .f32) (jdx : IVec S64x1024x16x1 32) (b : Fin 64) (s : Fin 1024) (k : Fin 16) (j : Fin 96)
    (row : Fin 1024) (h : jdx (ix4 b s k (0 : Fin 1)) = BitVec.ofNat 32 row.val) :
    Host.gather gather_S64x1024x96_S64x1024x16x1_S64x1024x16x96_3_1_0_0_1_3_1196 q jdx (ix4 b s k j) = q (ix3 b row j) := by
  unfold Host.gather
  refine congrArg q (funext fun a => Fin.ext ?_)
  match a with
  | ⟨0, _⟩ => show 0 + b.val + 0 = b.val; omega
  | ⟨1, _⟩ =>
    have e : (gather_S64x1024x96_S64x1024x16x1_S64x1024x16x96_3_1_0_0_1_3_1196).siIdx (ix4 b s k j) ⟨0, by decide⟩ = ix4 b s k (0 : Fin 1) := by
      funext a; match a with | ⟨0, _⟩ => rfl | ⟨1, _⟩ => rfl | ⟨2, _⟩ => rfl | ⟨3, _⟩ => rfl
    show min (jdx ((gather_S64x1024x96_S64x1024x16x1_S64x1024x16x96_3_1_0_0_1_3_1196).siIdx (ix4 b s k j) ⟨0, _⟩)).toInt.toNat 1023 + 0 + 0 = row.val
    have hr := row.isLt
    rw [e, h, StableHlo.Predicate.toInt_ofNat_small _ (by omega)]
    omega
  | ⟨2, _⟩ => show 0 + 0 + j.val = j.val; omega

/-- The list with its negative entries counted from the end. -/
def refList (i : IVec S64x1024x16 32) : IVec S64x1024x16x1 32 :=
  broadcastInDim S64x1024x16x1 ![0, 1, 2] bcast_S64x1024x16_S64x1024x16x1_0_1_2 (select (cmpi .slt i (broadcastInDim S64x1024x16 ![] bcast_S_S64x1024x16 (constantI S_ 32 0#32))) (addi i (broadcastInDim S64x1024x16 ![] bcast_S_S64x1024x16 (constantI S_ 32 1024#32))) i)

/-- The sums of the rows. -/
def refSums (q : FVec Ideal S64x1024x96 .f32) (i : IVec S64x1024x16x1 32) : FVec Ideal S64x1024x96 .f32 :=
  Host.reduceAdd (Host.gather gather_S64x1024x96_S64x1024x16x1_S64x1024x16x96_3_1_0_0_1_3_1196 q i) (constant S_ .f32 0x00000000#32) reducesTo_S64x1024x16x96_S64x1024x96_d2 h_S_

/-- The weights without the lanes that pad them. -/
def refWeights (r : FVec Ideal S64x1024x256 .f32) : FVec Ideal S64x1024x16x8 .f32 :=
  extractStridedSlice S64x1024x16x8 ![0, 0, 0, 0] (shapeCast S64x1024x16x16 r shapeCasts_S64x1024x256_S64x1024x16x16) slices_S64x1024x16x16_S64x1024x16x8_0_0_0_0

/-- The sums of the weights. -/
def refCounts (w : FVec Ideal S64x1024x16x8 .f32) : FVec Ideal S64x1024x8 .f32 :=
  Host.reduceAdd w (constant S_ .f32 0x00000000#32) reducesTo_S64x1024x16x8_S64x1024x8_d2 h_S_

/-- The divisors, with one for zero, repeated over their twelve entries. -/
def refDivisors (n : FVec Ideal S64x1024x8 .f32) : FVec Ideal S64x1024x8x12 .f32 :=
  broadcastInDim S64x1024x8x12 ![0, 1, 2, 3] bcast_S64x1024x8x1_S64x1024x8x12_0_1_2_3 (broadcastInDim S64x1024x8x1 ![0, 1, 2] bcast_S64x1024x8_S64x1024x8x1_0_1_2 (select (cmpf .oeq n (broadcastInDim S64x1024x8 ![] bcast_S_S64x1024x8 (constant S_ .f32 0x00000000#32))) (broadcastInDim S64x1024x8 ![] bcast_S_S64x1024x8 (id (constant S_ .f32 0x3F800000#32))) n))

/-- The reference's first result. -/
def refUpdate (q : FVec Ideal S64x1024x96 .f32) (i : IVec S64x1024x16 32) (r : FVec Ideal S64x1024x256 .f32) : FVec Ideal S64x1024x96 .f32 :=
  shapeCast S64x1024x96 (Host.divf (shapeCast S64x1024x8x12 (refSums q (refList i)) shapeCasts_S64x1024x96_S64x1024x8x12) (refDivisors (refCounts (refWeights r)))) shapeCasts_S64x1024x8x12_S64x1024x96

/-- A word below 1024 isn't negative. -/
theorem not_neg (w : BitVec 32) (h : w.toNat < 1024) : IntOp.cmpi .slt w 0#32 ≠ 1#1 := fun e => by
  have h1 : w.slt 0#32 = true := (StableHlo.Predicate.ofBool_eq_one_iff _).1 e
  have e1 : w.toInt < 0 := by simpa [BitVec.slt] using h1
  rw [StableHlo.Predicate.toInt_eq_toNat_of_lt (by omega)] at e1
  omega

theorem refList_apply (i : IVec S64x1024x16 32) (b : Fin 64) (s : Fin 1024) (k : Fin 16) (h : (i (ix3 b s k)).toNat < 1024) :
    refList i (ix4 b s k (0 : Fin 1)) = i (ix3 b s k) := by
  pointwise [refList]
  exact if_neg (not_neg _ h)

theorem refSums_apply (q : FVec Ideal S64x1024x96 .f32) (i : IVec S64x1024x16 32) (hi : ∀ b s k, (i (ix3 b s k)).toNat < 1024)
    (b : Fin 64) (s : Fin 1024) (j : Fin 96) :
    refSums q (refList i) (ix3 b s j) = ∑ k, q (ix3 b (rowOf (i (ix3 b s k))) j) := by
  pointwise [refSums]
  refine Finset.sum_congr rfl fun k _ => lookup q _ b s k j _ ?_
  rw [refList_apply i b s k (hi b s k)]
  exact rowOf_word _ (hi b s k)

theorem refCounts_apply (r : FVec Ideal S64x1024x256 .f32) (b : Fin 64) (s : Fin 1024) (c : Fin 8) :
    refCounts (refWeights r) (ix3 b s c) = ∑ k : Fin 16, r (ix3 b s (⟨k.val * 16 + c.val, by omega⟩ : Fin 256)) := by
  pointwise [refCounts, refWeights]

theorem refUpdate_apply (q : FVec Ideal S64x1024x96 .f32) (i : IVec S64x1024x16 32) (r : FVec Ideal S64x1024x256 .f32)
    (hi : ∀ b s k, (i (ix3 b s k)).toNat < 1024) (b : Fin 64) (s : Fin 1024) (j : Fin 96) :
    refUpdate q i r (ix3 b s j) = quotient (fun s j => q (ix3 b s j)) (fun k => i (ix3 b s k))
      (fun k c => r (ix3 b s (⟨k.val * 16 + c.val, by omega⟩ : Fin 256))) j := by
  pointwise [refUpdate, refDivisors]
  rw [refSums_apply q i hi, refCounts_apply]
  show Ideal.div _ (if _ then Ideal.ofBits FTy.f32 0x3F800000#32 else _) = _
  rw [Ideal.ofBits_one_f32]
  rfl

end
end Cert.Proof.Reduce
-- ==== Proof.ReduceChunk.lean ====
module
public import proofs.«01_k».proof.Proof.Gen.ReduceIdeal
public import proofs.«01_k».proof.Proof.ReduceGather
/-!
# What the reducing kernel computes for 128 sensors at a time

The kernel never looks a row up. For each sensor it counts how often each of the 1024 rows is named by the sensor's list
and multiplies the table by the counts. The steps are named here as the kernel takes them, and each is read at an index.
-/

@[expose] public section
noncomputable section
namespace Cert.Proof.Reduce
open Idealize.ShloMosaic
set_option maxRecDepth 16384

open Cert.ReduceIdeal Cert.ReduceIdeal.Gen

variable {F : FTy → Type} [FloatOps F]

theorem column_ok : ∀ k : Fin 16, S128x16.Slices ![0, k.val] S128x1 := by decide
theorem group_ok : ∀ k : Fin 16, S128x256.Slices ![0, 16 * k.val] S128x8 := by decide
theorem lane_ok : ∀ k : Fin 8, S128x8.Slices ![0, k.val] S128x1 := by decide

/-! ## The steps -/

/-- One where the sensor's list names the row at place `k`, zero elsewhere. -/
def hit (v : IVec S128x16 32) (k : Fin 16) : FVec F S128x1024 .f32 :=
  select (cmpi .eq (broadcastTo S128x1024 (extractStridedSlice S128x1 ![0, k.val] v (column_ok k)) broadcasts_S128x1_S128x1024) (iota .tc S128x1024 32 [1] iota_S128x1024_d1_w32))
    (broadcast S128x1024 (Scalar.ofBits .f32 0x3F800000#32)) (broadcast S128x1024 (Scalar.ofBits .f32 0x00000000#32))

/-- How often the first `n + 1` entries of the list name each row. -/
def tally (v : IVec S128x16 32) : (n : ℕ) → n < 16 → FVec F S128x1024 .f32
  | 0, h => hit v ⟨0, h⟩
  | n + 1, h => addf (tally v n (Nat.lt_of_succ_lt h)) (hit v ⟨n + 1, h⟩)

/-- The eight weights of neighbour `k`. -/
def group (v : FVec F S128x256 .f32) (k : Fin 16) : FVec F S128x8 .f32 := extractStridedSlice S128x8 ![0, 16 * k.val] v (group_ok k)

/-- The sums of the weights of the first `n + 1` neighbours. -/
def weigh (v : FVec F S128x256 .f32) : (n : ℕ) → n < 16 → FVec F S128x8 .f32
  | 0, h => group v ⟨0, h⟩
  | n + 1, h => addf (weigh v n (Nat.lt_of_succ_lt h)) (group v ⟨n + 1, h⟩)

/-- The divisors: the sums, with one for zero. -/
def divisors (x : FVec F S128x8 .f32) : FVec F S128x8 .f32 :=
  select (cmpf .oeq x (broadcast S128x8 (Scalar.ofBits .f32 0x00000000#32))) (broadcast S128x8 (Scalar.ofBits .f32 0x3F800000#32)) x

/-- One divisor repeated over its twelve entries. -/
def spread (x : FVec F S128x8 .f32) (k : Fin 8) : FVec F S128x12 .f32 :=
  broadcastTo S128x12 (shapeCast S128x1 (extractStridedSlice S128x1 ![0, k.val] x (lane_ok k)) shapeCasts_S128x1_S128x1) broadcasts_S128x1_S128x12

/-- All divisors side by side. -/
def wide (x : FVec F S128x8 .f32) : FVec F S128x96 .f32 :=
  concatenate S128x96 1 [⟨S128x12, spread x 0⟩, ⟨S128x12, spread x 1⟩, ⟨S128x12, spread x 2⟩, ⟨S128x12, spread x 3⟩, ⟨S128x12, spread x 4⟩, ⟨S128x12, spread x 5⟩, ⟨S128x12, spread x 6⟩, ⟨S128x12, spread x 7⟩] concatenates_S128x12_S128x12_S128x12_S128x12_S128x12_S128x12_S128x12_S128x12_S128x96_d1

/-- What the kernel stores for 128 sensors. -/
def updated (q : Vec F S1x1024x96 .f32) (i : Vec F S1x128x16 .i32) (r : Vec F S1x128x256 .f32) : FVec F S1x128x96 .f32 :=
  shapeCast S1x128x96 (divf (matmul dot_S128x1024_S1024x96_S128x96_1_0_0_1_n_n none (tally (shapeCast S128x16 i shapeCasts_S1x128x16_S128x16) 15 (by decide)) (shapeCast S1024x96 q shapeCasts_S1x1024x96_S1024x96) (constant S128x96 .f32 0x00000000#32) : FVec F S128x96 .f32)
    (wide (divisors (weigh (shapeCast S128x256 r shapeCasts_S1x128x256_S128x256) 15 (by decide))))) shapeCasts_S128x96_S1x128x96

/-! ## The steps at an index -/

/-- Sixteen numbers added one after the other are their sum. -/
theorem sixteen (f : Fin 16 → EReal) :
    f 0 + f 1 + f 2 + f 3 + f 4 + f 5 + f 6 + f 7 + f 8 + f 9 + f 10 + f 11 + f 12 + f 13 + f 14 + f 15 = ∑ k, f k := by
  simp only [Fin.sum_univ_castSucc, Fin.sum_univ_zero, zero_add]
  rfl

theorem hit_apply (v : IVec S128x16 32) (k : Fin 16) (s : Fin 128) (j : Fin 1024) :
    hit (F := Ideal) v k (ix2 s j) = if v (ix2 s k) = BitVec.ofNat 32 j.val then (1 : EReal) else 0 := by
  pointwise [hit]
  show (if _ = 1#1 then _ else _) = _
  simp only [IntOp.cmpi, StableHlo.Predicate.ofBool_eq_one_iff, beq_iff_eq]

theorem tally_apply (v : IVec S128x16 32) (s : Fin 128) (j : Fin 1024) :
    tally (F := Ideal) v 15 (by decide) (ix2 s j) = ∑ k : Fin 16, (if v (ix2 s k) = BitVec.ofNat 32 j.val then (1 : EReal) else 0) := by
  pointwise [tally]
  simp only [hit_apply]
  exact sixteen fun k : Fin 16 => if v (ix2 s k) = BitVec.ofNat 32 j.val then (1 : EReal) else 0

theorem weigh_apply (v : FVec Ideal S128x256 .f32) (s : Fin 128) (c : Fin 8) :
    weigh (F := Ideal) v 15 (by decide) (ix2 s c) = ∑ k : Fin 16, v (ix2 s (⟨k.val * 16 + c.val, by omega⟩ : Fin 256)) := by
  pointwise [weigh, group]
  refine Eq.trans ?_ (sixteen fun k : Fin 16 => v (ix2 s (⟨k.val * 16 + c.val, by omega⟩ : Fin 256)))
  have h : (⟨c.val, by omega⟩ : Fin 256) = ⟨0 * 16 + c.val, by omega⟩ := Fin.ext (by show c.val = 0 * 16 + c.val; omega)
  rw [h]
  rfl

theorem wide_apply (x : FVec Ideal S128x8 .f32) (s : Fin 128) (j : Fin 96) : wide x (ix2 s j) = x (ix2 s (⟨j.val / 12, by omega⟩ : Fin 8)) := by
  pointwise [wide, spread]
  split_ifs <;> refine congrArg (fun k : Fin 8 => x (ix2 s k)) (Fin.ext ?_)
  · show (0 : ℕ) = j.val / 12; omega
  · show (1 : ℕ) = j.val / 12; omega
  · show (2 : ℕ) = j.val / 12; omega
  · show (3 : ℕ) = j.val / 12; omega
  · show (4 : ℕ) = j.val / 12; omega
  · show (5 : ℕ) = j.val / 12; omega
  · show (6 : ℕ) = j.val / 12; omega
  · show (7 : ℕ) = j.val / 12; omega

/-- Counting a row as often as it is named and looking each name up add up to the same. -/
theorem count_rows (w : Fin 16 → BitVec 32) (hw : ∀ k, (w k).toNat < 1024) (g : Fin 1024 → EReal) :
    ∑ j : Fin 1024, (∑ k, (if w k = BitVec.ofNat 32 j.val then (1 : EReal) else 0)) * g j = ∑ k, g (rowOf (w k)) := by
  have h1 : ∀ j : Fin 1024, (∑ k, (if w k = BitVec.ofNat 32 j.val then (1 : EReal) else 0)) * g j
      = ∑ k, (if rowOf (w k) = j then g j else 0) := fun j => by
    have h2 : ∀ k, (if w k = BitVec.ofNat 32 j.val then (1 : EReal) else 0) * g j = if rowOf (w k) = j then g j else 0 := fun k => by
      have h3 : w k = BitVec.ofNat 32 j.val ↔ rowOf (w k) = j := by
        constructor
        · intro h
          apply Fin.ext
          show (w k).toNat % 1024 = _
          rw [h, BitVec.toNat_ofNat]
          have := j.isLt
          omega
        · intro h; rw [← h]; exact rowOf_word _ (hw k)
      by_cases h : rowOf (w k) = j
      · rw [if_pos h, if_pos (h3.2 h), one_mul]
      · rw [if_neg h, if_neg (fun e => h (h3.1 e)), zero_mul]
    have h4 : ∀ s : Finset (Fin 16), (∑ k ∈ s, (if w k = BitVec.ofNat 32 j.val then (1 : EReal) else 0)) * g j
        = ∑ k ∈ s, (if w k = BitVec.ofNat 32 j.val then (1 : EReal) else 0) * g j := fun s => by
      classical
      induction s using Finset.induction_on with
      | empty => simp
      | insert a s ha ih =>
        rw [Finset.sum_insert ha, Finset.sum_insert ha, EReal.right_distrib_of_nonneg, ih]
        · split_ifs <;> simp
        · exact Finset.sum_nonneg fun k _ => by split_ifs <;> simp
    rw [h4]
    exact Finset.sum_congr rfl fun k _ => h2 k
  rw [Finset.sum_congr rfl fun j _ => h1 j, Finset.sum_comm]
  exact Finset.sum_congr rfl fun k _ => by rw [Finset.sum_ite_eq]; simp

theorem updated_apply (q : Vec Ideal S1x1024x96 .f32) (i : Vec Ideal S1x128x16 .i32) (r : Vec Ideal S1x128x256 .f32)
    (hi : ∀ s k, (i (ix3 0 s k) : BitVec 32).toNat < 1024) (s : Fin 128) (j : Fin 96) :
    updated q i r (ix3 0 s j) = quotient (fun s j => q (ix3 0 s j)) (fun k => i (ix3 0 s k))
      (fun k c => r (ix3 0 s (⟨k.val * 16 + c.val, by omega⟩ : Fin 256))) j := by
  pointwise [updated, divisors]
  rw [wide_apply]
  simp only [tally_apply]
  pointwise []
  rw [weigh_apply]
  pointwise []
  rw [count_rows (fun k => i (ix3 0 s k)) (hi s) (fun x => q (ix3 0 x j))]
  rfl

end Cert.Proof.Reduce
-- ==== Proof.ReduceMargin.lean ====
module
public import proofs.«01_k».proof.Proof.ReduceGather
public import proofs.«01_k».proof.Proof.Gen.ReduceReferenceIdeal.Run
/-!
# The reference's second result of the reducing call

For each sensor and each pair of its sixteen neighbours, the reference takes what the distance of their weights falls
short of the margin, and it averages the squares over the sensors. A pair of equal neighbours has the margin zero.
-/

@[expose] public section
noncomputable section
namespace Cert.Proof.Reduce
open Idealize.ShloMosaic
set_option maxRecDepth 16384

/-! ## Numbers -/

/-- A sum of real numbers read as extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem word_two : Ideal.ofBits .f32 0x40000000#32 = ((2 : ℝ) : EReal) := by
  simp [Ideal.ofBits, Ideal.ieee, -EReal.coe_mul]; norm_num

theorem word_neg_two : Ideal.ofBits .f32 0xC0000000#32 = ((-2 : ℝ) : EReal) := by
  simp [Ideal.ofBits, Ideal.ieee, -EReal.coe_mul, -EReal.coe_neg]; norm_num

theorem word_sixteen : Ideal.ofBits .f32 0x41800000#32 = ((16 : ℝ) : EReal) := by
  simp [Ideal.ofBits, Ideal.ieee, -EReal.coe_mul]; norm_num

theorem word_sixteenth : Ideal.ofBits .f32 0x3D800000#32 = ((1 / 16 : ℝ) : EReal) := by
  simp [Ideal.ofBits, Ideal.ieee, -EReal.coe_mul]; norm_num

theorem word_sensors : Ideal.ofBits .f32 0x47800000#32 = ((65536 : ℝ) : EReal) := by
  simp [Ideal.ofBits, Ideal.ieee, -EReal.coe_mul]; norm_num

theorem word_share : Ideal.ofBits .f32 0x38000000#32 = ((2 / 65536 : ℝ) : EReal) := by
  simp [Ideal.ofBits, Ideal.ieee, -EReal.coe_mul]; norm_num

theorem word_tiny : Ideal.ofBits .f32 0x0DA24260#32 = ((10633824 / 2 ^ 123 : ℝ) : EReal) := by
  simp [Ideal.ofBits, Ideal.ieee, -EReal.coe_mul]; norm_num

/-! ## What both sides compute -/

/-- The distance that belongs to a squared distance, which is kept away from zero. -/
def apart (x : ℝ) : ℝ := Real.sqrt (max (10633824 / 2 ^ 123) x)

theorem coe_max (x y : ℝ) : max (x : EReal) (y : EReal) = ((max x y : ℝ) : EReal) :=
  (EReal.coe_strictMono.monotone.map_max).symm

theorem apart_coe (x : ℝ) : Ideal.sqrt (max (Ideal.ofBits FTy.f32 0x0DA24260#32) (x : EReal)) = (apart x : EReal) := by
  rw [word_tiny, coe_max, Ideal.sqrt_coe, if_neg]
  · rfl
  · exact not_lt.2 (le_max_of_le_left (by positivity))

/-- The weights with their mean taken away. -/
def centre (x : Fin 16 → Fin 8 → ℝ) (i : Fin 16) (k : Fin 8) : ℝ := x i k - (∑ i, x i k) * (1 / 16)

/-- The product of the weights of two neighbours. -/
def product (r : Fin 16 → Fin 8 → ℝ) (i j : Fin 16) : ℝ := ∑ k, r i k * r j k

/-- The squared distance of two neighbours. -/
def squared (r : Fin 16 → Fin 8 → ℝ) (i j : Fin 16) : ℝ := product r i i + product r j j - 2 * product r i j

/-- The square of what a distance falls short of `t`. -/
def lack (t x : ℝ) : ℝ := max 0 (t - apart x) * max 0 (t - apart x)

/-- The mean at finite weights. -/
theorem centre_coe (a : Fin 16 → Fin 8 → EReal) (x : Fin 16 → Fin 8 → ℝ) (hx : ∀ i k, a i k = x i k) (i : Fin 16) (k : Fin 8) :
    a i k - Ideal.div (∑ i, a i k) ((16 : ℝ) : EReal) = (centre x i k : EReal) := by
  simp only [hx]
  rw [sum_coe, Ideal.div_coe (by norm_num), ← EReal.coe_mul, ← EReal.coe_sub]; rfl

/-- One where two places are the same, zero elsewhere. -/
theorem same_word (i j : Fin 16) :
    (FloatOps.uitofp FTy.f32 (IntOp.cmpi CmpIPredicate.eq (IntOp.addi (BitVec.ofNat 32 i.val) 0#32) (BitVec.ofNat 32 j.val)) : Ideal .f32)
      = if i = j then (1 : EReal) else 0 := by
  have e : IntOp.cmpi CmpIPredicate.eq (IntOp.addi (BitVec.ofNat 32 i.val) 0#32) (BitVec.ofNat 32 j.val) = if i = j then 1#1 else 0#1 := by
    revert i j; decide
  rw [e]
  by_cases h : i = j
  · rw [if_pos h, if_pos h]
    show (((1#1).toNat : ℝ) : EReal) = 1
    simp
  · rw [if_neg h, if_neg h]
    show (((0#1).toNat : ℝ) : EReal) = 0
    simp

section
open Cert.ReduceReferenceIdeal Cert.ReduceReferenceIdeal.Gen

/-- The reference's weights with their mean taken away. -/
def refCentre (w : FVec Ideal S64x1024x16x8 .f32) : FVec Ideal S64x1024x16x8 .f32 :=
  subf w (broadcastInDim S64x1024x16x8 ![0, 1, 2, 3] bcast_S64x1024x1x8_S64x1024x16x8_0_1_2_3 (Host.divf (broadcastInDim S64x1024x1x8 ![0, 1, 3] bcast_S64x1024x8_S64x1024x1x8_0_1_3 (Host.reduceAdd w (constant S_ .f32 0x00000000#32) reducesTo_S64x1024x16x8_S64x1024x8_d2 h_S_)) (broadcastInDim S64x1024x1x8 ![] bcast_S_S64x1024x1x8 (constant S_ .f32 0x41800000#32))))

/-- The squared lengths, as a column. -/
def refLengths (x : FVec Ideal S64x1024x16x8 .f32) : FVec Ideal S64x1024x16x1 .f32 :=
  broadcastInDim S64x1024x16x1 ![0, 1, 2] bcast_S64x1024x16_S64x1024x16x1_0_1_2 (Host.reduceAdd (mulf x x) (constant S_ .f32 0x00000000#32) reducesTo_S64x1024x16x8_S64x1024x16_d3 h_S_)

/-- A column of ones. -/
def refUnit : FVec Ideal S64x1024x16x1 .f32 := broadcastInDim S64x1024x16x1 ![] bcast_S_S64x1024x16x1 (constant S_ .f32 0x3F800000#32)

/-- The squared distances, as the products of two padded arrays. -/
def refSquared (x : FVec Ideal S64x1024x16x8 .f32) : FVec Ideal S64x1024x16x16 .f32 :=
  Host.dotGeneral dot_S64x1024x16x10_S64x1024x10x16_S64x1024x16x16_3_2_2_3_01_01 none
    (concatenate S64x1024x16x10 3 [⟨S64x1024x16x8, mulf (broadcastInDim S64x1024x16x8 ![] bcast_S_S64x1024x16x8 (constant S_ .f32 0xC0000000#32)) x⟩, ⟨S64x1024x16x1, refLengths x⟩, ⟨S64x1024x16x1, refUnit⟩] concatenates_S64x1024x16x8_S64x1024x16x1_S64x1024x16x1_S64x1024x16x10_d3 : FVec Ideal S64x1024x16x10 .f32)
    (transpose S64x1024x10x16 [0, 1, 3, 2] (concatenate S64x1024x16x10 3 [⟨S64x1024x16x8, x⟩, ⟨S64x1024x16x1, refUnit⟩, ⟨S64x1024x16x1, refLengths x⟩] concatenates_S64x1024x16x8_S64x1024x16x1_S64x1024x16x1_S64x1024x16x10_d3 : FVec Ideal S64x1024x16x10 .f32) transposes_S64x1024x16x10_S64x1024x10x16_0_1_3_2 : FVec Ideal S64x1024x10x16 .f32)

/-- The margins: zero for a pair of equal neighbours, one for every other pair. -/
def refTarget : FVec Ideal S16x16 .f32 :=
  mulf (subf (broadcastInDim S16x16 ![] bcast_S_S16x16 (constant S_ .f32 0x3F800000#32)) (uitofp .f32 (cmpi .eq (addi (iotaInDim S16x16 32 0) (broadcastInDim S16x16 ![] bcast_S_S16x16 (constantI S_ 32 0#32))) (iotaInDim S16x16 32 1)))) (broadcastInDim S16x16 ![] bcast_S_S16x16 (constant S_ .f32 0x3F800000#32))

/-- What each pair falls short of its margin, from the squared distances. -/
def refLack (q : FVec Ideal S64x1024x16x16 .f32) : FVec Ideal S64x1024x16x16 .f32 :=
  maximumf (broadcastInDim S64x1024x16x16 ![] bcast_S_S64x1024x16x16 (id (constant S_ .f32 0x00000000#32))) (subf (broadcastInDim S64x1024x16x16 ![0, 1, 2, 3] bcast_S1x1x16x16_S64x1024x16x16_0_1_2_3 (broadcastInDim S1x1x16x16 ![2, 3] bcast_S16x16_S1x1x16x16_2_3 refTarget)) (Host.sqrt (maximumf (broadcastInDim S64x1024x16x16 ![] bcast_S_S64x1024x16x16 (id (constant S_ .f32 0x0DA24260#32))) q)))

theorem refCentre_apply (w : FVec Ideal S64x1024x16x8 .f32) (b : Fin 64) (s : Fin 1024) (x : Fin 16 → Fin 8 → ℝ)
    (hx : ∀ i k, w (ix4 b s i k) = (x i k : EReal)) (i : Fin 16) (k : Fin 8) : refCentre w (ix4 b s i k) = (centre x i k : EReal) := by
  pointwise [refCentre]
  rw [word_sixteen]
  exact centre_coe (fun i k => w (ix4 b s i k)) x hx i k

theorem refSquared_apply (a : FVec Ideal S64x1024x16x8 .f32) (b : Fin 64) (s : Fin 1024) (r : Fin 16 → Fin 8 → ℝ)
    (hr : ∀ i k, a (ix4 b s i k) = (r i k : EReal)) (i j : Fin 16) : refSquared a (ix4 b s i j) = (squared r i j : EReal) := by
  pointwise [refSquared, refLengths, refUnit]
  simp only [hr, word_neg_two, ← EReal.coe_mul, sum_coe, ← EReal.coe_one]
  rw [Fin.sum_univ_castSucc, Fin.sum_univ_castSucc]
  have h1 : ∀ k : Fin 8, ((Fin.castSucc (Fin.castSucc k) : Fin 10) : ℕ) = k.val := fun _ => rfl
  have h2 : ((Fin.castSucc (Fin.last 8) : Fin 10) : ℕ) = 8 := rfl
  have h3 : ((Fin.last 9 : Fin 10) : ℕ) = 9 := rfl
  simp only [h1, h2, h3, Fin.is_lt, dif_pos, Nat.lt_irrefl, dif_neg, not_false_eq_true, Nat.sub_self, Nat.zero_lt_one, Fin.eta,
    show ¬ (9 < 8) by decide, show ¬ (9 - 8 < 1) by decide, ← EReal.coe_mul, sum_coe, ← EReal.coe_add]
  congr 1
  simp only [squared, product, Finset.mul_sum]
  rw [show (∑ k, -2 * r i k * r j k) = - ∑ k, 2 * (r i k * r j k) by rw [← Finset.sum_neg_distrib]; exact Finset.sum_congr rfl fun k _ => by ring]
  simp only [one_mul, mul_one]
  ring

theorem refLack_apply (q : FVec Ideal S64x1024x16x16 .f32) (b : Fin 64) (s : Fin 1024) (i j : Fin 16) (x : ℝ)
    (h : q (ix4 b s i j) = (x : EReal)) :
    refLack q (ix4 b s i j) = ((max 0 ((if i = j then 0 else 1) - apart x) : ℝ) : EReal) := by
  pointwise [refLack, refTarget]
  rw [same_word]
  show max (Ideal.ofBits FTy.f32 0#32) (_ - Ideal.sqrt (max (Ideal.ofBits FTy.f32 0x0DA24260#32) _)) = _
  rw [h, apart_coe, Ideal.ofBits_zero_f32]
  have e : (1 : EReal) - (if i = j then (1 : EReal) else 0) = (((if i = j then 0 else 1) : ℝ) : EReal) := by
    by_cases e : i = j
    · rw [if_pos e, if_pos e, ← EReal.coe_one, ← EReal.coe_sub, sub_self]
    · rw [if_neg e, if_neg e, sub_zero, EReal.coe_one]
  rw [e, ← EReal.coe_sub, ← EReal.coe_zero, coe_max]

/-- The mean over the sensors of the sums of the squares. -/
def refMargin (y : FVec Ideal S64x1024x16x16 .f32) : FVec Ideal S1x1 .f32 :=
  shapeCast _ (Host.divf (Host.reduceAdd (Host.reduceAdd (Host.reduceAdd (mulf y y) (constant S_ .f32 0x00000000#32) reducesTo_S64x1024x16x16_S64x1024x16_d3 h_S_) (constant S_ .f32 0x00000000#32) reducesTo_S64x1024x16_S64x1024_d2 h_S_) (constant S_ .f32 0x00000000#32) reducesTo_S64x1024_S_d0_1 h_S_) (constant S_ .f32 0x47800000#32)) shapeCasts_S_S1x1

/-- The weights of the sixteen neighbours, cut out of their rows. -/
def refWeight (r : FVec Ideal S64x1024x256 .f32) : FVec Ideal S64x1024x16x8 .f32 :=
  extractStridedSlice S64x1024x16x8 ![0, 0, 0, 0] (shapeCast _ r shapeCasts_S64x1024x256_S64x1024x16x16) slices_S64x1024x16x16_S64x1024x16x8_0_0_0_0

theorem refWeight_apply (r : FVec Ideal S64x1024x256 .f32) (b : Fin 64) (s : Fin 1024) (i : Fin 16) (k : Fin 8) :
    refWeight r (ix4 b s i k) = r (ix3 b s ⟨i.val * 16 + k.val, by omega⟩) := by
  pointwise [refWeight]

theorem refMargin_apply (y : FVec Ideal S64x1024x16x16 .f32) (z : Fin 64 → Fin 1024 → Fin 16 → Fin 16 → ℝ)
    (h : ∀ b s i j, y (ix4 b s i j) = (z b s i j : EReal)) :
    refMargin y (ix2 0 0) = (((∑ b, ∑ s, ∑ i, ∑ j, z b s i j * z b s i j) * (1 / 65536) : ℝ) : EReal) := by
  pointwise [refMargin]
  rw [word_sensors]
  simp only [h, ← EReal.coe_mul, sum_coe]
  rw [Ideal.div_coe (by norm_num), ← EReal.coe_mul]

/-- The mean over the sensors of what all pairs fall short of their margins, squared. -/
def margin (w : Fin 64 → Fin 1024 → Fin 16 → Fin 8 → ℝ) : ℝ :=
  (∑ b, ∑ s, ∑ i, ∑ j, lack (if i = j then 0 else 1) (squared (centre (w b s)) i j)) * (1 / 65536)

/-- The reference's second result at finite weights. -/
theorem refMargin_value (r : FVec Ideal S64x1024x256 .f32) (w : Fin 64 → Fin 1024 → Fin 16 → Fin 8 → ℝ)
    (h : ∀ (b : Fin 64) (s : Fin 1024) (i : Fin 16) (k : Fin 8), r (ix3 b s ⟨i.val * 16 + k.val, by omega⟩) = (w b s i k : EReal)) :
    refMargin (refLack (refSquared (refCentre (refWeight r)))) (ix2 0 0) = (margin w : EReal) :=
  refMargin_apply _ (fun b s i j => max 0 ((if i = j then 0 else 1) - apart (squared (centre (w b s)) i j))) fun b s i j =>
    refLack_apply _ b s i j _ (refSquared_apply _ b s _ (fun i k => refCentre_apply _ b s (w b s) (fun i k => (refWeight_apply r b s i k).trans (h b s i k)) i k) i j)

/-- The reference's second result, from the rows of the weights. -/
theorem refMargin_text (m : (ℓ : Loc nD τ sig) → Buf (Elt Ideal) ℓ) (c : Dev nD) :
    Cert.ReduceReferenceIdeal.Value.res_main_v62 m c = refMargin (refLack (refSquared (refCentre (refWeight (m ((c.tc : Thread nD τ).loc main_arg2)))))) := by
  unfold Cert.ReduceReferenceIdeal.Value.res_main_v62
  rfl

end
end Cert.Proof.Reduce
-- ==== Proof.ReducePairs.lean ====
module
public import proofs.«01_k».proof.Proof.Gen.ReduceIdeal.Value
public import proofs.«01_k».proof.Proof.ReduceChunk
public import proofs.«01_k».proof.Proof.ReduceMargin
/-!
# What the reducing kernel adds up for 128 sensors at a time

The kernel takes each pair of two different neighbours once, and doubles the total at the end. The steps are named here as
the kernel takes them, and each is read at an index.
-/

@[expose] public section
noncomputable section
namespace Cert.Proof.Reduce
open Idealize.ShloMosaic
set_option maxRecDepth 16384
open Cert.ReduceIdeal Cert.ReduceIdeal.Gen
variable {F : FTy → Type} [FloatOps F]

/-- The mean of the weights over the neighbours. -/
def mean (v : FVec F S128x256 .f32) : FVec F S128x8 .f32 :=
  mulf (weigh v 15 (by decide)) (broadcast S128x8 (Scalar.ofBits .f32 0x3D800000#32))

/-- The weights of neighbour `k` with their mean taken away. -/
def less (v : FVec F S128x256 .f32) (k : Fin 16) : FVec F S128x8 .f32 := subf (group v k) (mean v)

/-- The products of the weights of two neighbours, as a column. -/
def times (v : FVec F S128x256 .f32) (k l : Fin 16) : FVec F S128x1 .f32 :=
  shapeCast S128x1 (multiReduction .add [1] S128 (mulf (less v k) (less v l)) 0x00000000#32 reduces_S128x8_S128 (.inl rfl) rfl) shapeCasts_S128_S128x1

/-- What the distance of two neighbours falls short of one. -/
def short (v : FVec F S128x256 .f32) (k l : Fin 16) : FVec F S128x1 .f32 :=
  maximumf (broadcast S128x1 (Scalar.ofBits .f32 0x00000000#32)) (subf (broadcast S128x1 (Scalar.ofBits .f32 0x3F800000#32))
    (sqrt (maximumf (broadcast S128x1 (Scalar.ofBits .f32 0x0DA24260#32))
      (subf (addf (times v k k) (times v l l)) (mulf (broadcast S128x1 (Scalar.ofBits .f32 0x40000000#32)) (times v k l))))))

/-- Place `n` among sixteen. -/
def place (n : ℕ) : Fin 16 := ⟨n % 16, Nat.mod_lt _ (by decide)⟩

/-- The squares of neighbour `k` with the `n` neighbours after it, added to `a`. -/
def row (v : FVec F S128x256 .f32) (k : ℕ) (a : FVec F S128x1 .f32) : ℕ → FVec F S128x1 .f32
  | 0 => a
  | n + 1 => addf (row v k a n) (mulf (short v (place k) (place (k + n + 1))) (short v (place k) (place (k + n + 1))))

/-- The squares of the first `n` neighbours with all neighbours after them. -/
def rows (v : FVec F S128x256 .f32) : ℕ → FVec F S128x1 .f32
  | 0 => broadcast S128x1 (Scalar.ofBits .f32 0x00000000#32)
  | n + 1 => row v n (rows v n) (15 - n)

/-- The total of 128 sensors. -/
def total (r : Vec F S1x128x256 .f32) : FVec F S1x1 .f32 :=
  broadcast S1x1 (extractAt ![0, 0, 0] (shapeCast S1x1x1 (multiReduction .add [1, 2] S1 (shapeCast S1x128x1 (rows (shapeCast S128x256 r shapeCasts_S1x128x256_S128x256) 16) shapeCasts_S128x1_S1x128x1) 0x00000000#32 reduces_S1x128x1_S1 (.inl rfl) rfl) shapeCasts_S1_S1x1x1) inpos_S1x1x1_p0_0_0)

/-- What the last store leaves, from what is there before and the eight parts of the weights. -/
def grown (a : Vec F S1x1 .f32) (r : Fin 8 → Vec F S1x128x256 .f32) : FVec F S1x1 .f32 :=
  addf (shapeCast S1x1 a shapeCasts_S1x1_S1x1) (mulf (addf (addf (addf (addf (addf (addf (addf (addf (broadcast S1x1 (Scalar.ofBits .f32 0x00000000#32)) (total (r 0))) (total (r 1))) (total (r 2))) (total (r 3))) (total (r 4))) (total (r 5))) (total (r 6))) (total (r 7))) (broadcast S1x1 (Scalar.ofBits .f32 0x38000000#32)))

/-! ## The steps at an index -/

variable (v : FVec Ideal S128x256 .f32) (s : Fin 128) (w : Fin 16 → Fin 8 → ℝ)

theorem less_apply (h : ∀ (k : Fin 16) (c : Fin 8), v (ix2 s ⟨k.val * 16 + c.val, by omega⟩) = (w k c : EReal)) (k : Fin 16) (c : Fin 8) :
    less (F := Ideal) v k (ix2 s c) = (centre w k c : EReal) := by
  pointwise [less, group, mean]
  rw [weigh_apply, word_sixteenth]
  have e : (⟨16 * k.val + c.val, by omega⟩ : Fin 256) = ⟨k.val * 16 + c.val, by omega⟩ := Fin.ext (by show 16 * k.val + c.val = k.val * 16 + c.val; omega)
  rw [e]
  simp only [h]
  rw [sum_coe, ← EReal.coe_mul, ← EReal.coe_sub]
  rfl

theorem times_apply (h : ∀ (k : Fin 16) (c : Fin 8), v (ix2 s ⟨k.val * 16 + c.val, by omega⟩) = (w k c : EReal)) (k l : Fin 16) :
    times (F := Ideal) v k l (ix2 s 0) = (product (centre w) k l : EReal) := by
  pointwise [times]
  simp only [less_apply v s w h, ← EReal.coe_mul, sum_coe]
  rfl

theorem short_apply (h : ∀ (k : Fin 16) (c : Fin 8), v (ix2 s ⟨k.val * 16 + c.val, by omega⟩) = (w k c : EReal)) (k l : Fin 16) :
    short (F := Ideal) v k l (ix2 s 0) = ((max 0 (1 - apart (squared (centre w) k l)) : ℝ) : EReal) := by
  pointwise [short]
  rw [times_apply v s w h, times_apply v s w h, times_apply v s w h, word_two, ← EReal.coe_mul, ← EReal.coe_add, ← EReal.coe_sub, apart_coe,
    ← EReal.coe_one, ← EReal.coe_sub, ← EReal.coe_zero, coe_max]
  rfl

/-- The squares of neighbour `k` with the `n` neighbours after it. -/
def after (w : Fin 16 → Fin 8 → ℝ) (k n : ℕ) : ℝ := ∑ l ∈ Finset.range n, lack 1 (squared (centre w) (place k) (place (k + l + 1)))

theorem row_apply (h : ∀ (k : Fin 16) (c : Fin 8), v (ix2 s ⟨k.val * 16 + c.val, by omega⟩) = (w k c : EReal)) (k : ℕ) (a : FVec Ideal S128x1 .f32) (x : ℝ)
    (ha : a (ix2 s 0) = (x : EReal)) : ∀ n, row (F := Ideal) v k a n (ix2 s 0) = ((x + after w k n : ℝ) : EReal)
  | 0 => by rw [after, Finset.range_zero, Finset.sum_empty, add_zero]; exact ha
  | n + 1 => by
    have e := row_apply h k a x ha n
    pointwise [row]
    rw [e, short_apply v s w h, ← EReal.coe_mul, ← EReal.coe_add, after, after, Finset.sum_range_succ, add_assoc]
    rfl

theorem rows_apply (h : ∀ (k : Fin 16) (c : Fin 8), v (ix2 s ⟨k.val * 16 + c.val, by omega⟩) = (w k c : EReal)) :
    ∀ n, rows (F := Ideal) v n (ix2 s 0) = ((∑ k ∈ Finset.range n, after w k (15 - k) : ℝ) : EReal)
  | 0 => by
    pointwise [rows]
    simp
  | n + 1 => by
    rw [Finset.sum_range_succ]
    exact row_apply v s w h n _ _ (rows_apply h n) (15 - n)

/-- Each pair of different neighbours taken once. -/
def once (w : Fin 16 → Fin 8 → ℝ) : ℝ := ∑ k ∈ Finset.range 16, after w k (15 - k)

theorem total_apply (r : Vec Ideal S1x128x256 .f32) (w : Fin 128 → Fin 16 → Fin 8 → ℝ)
    (h : ∀ (s : Fin 128) (k : Fin 16) (c : Fin 8), r (ix3 0 s ⟨k.val * 16 + c.val, by omega⟩) = (w s k c : EReal)) :
    total (F := Ideal) r (ix2 0 0) = ((∑ s, once (w s) : ℝ) : EReal) := by
  pointwise [total]
  rw [← sum_coe]
  refine Finset.sum_congr rfl fun s _ => ?_
  rw [Finset.sum_const, Finset.card_univ, Fintype.card_fin, one_smul]
  refine rows_apply _ s (w s) (fun k c => ?_) 16
  refine Eq.trans ?_ (h s k c)
  pointwise []

theorem grown_apply (a : Vec Ideal S1x1 .f32) (x : ℝ) (ha : a (ix2 0 0) = (x : EReal)) (r : Fin 8 → Vec Ideal S1x128x256 .f32) (y : Fin 8 → ℝ)
    (h : ∀ i, total (F := Ideal) (r i) (ix2 0 0) = (y i : EReal)) :
    grown (F := Ideal) a r (ix2 0 0) = ((x + (∑ i, y i) * (2 / 65536) : ℝ) : EReal) := by
  pointwise [grown]
  rw [ha, h, h, h, h, h, h, h, h, word_share]
  simp only [← EReal.coe_add, ← EReal.coe_mul]
  congr 3
  simp only [Fin.sum_univ_castSucc, Fin.sum_univ_zero, zero_add]
  rfl

/-! ## Twice each pair is every pair -/

/-- The product does not depend on the order of the two neighbours. -/
theorem product_symm (r : Fin 16 → Fin 8 → ℝ) (i j : Fin 16) : product r i j = product r j i :=
  Finset.sum_congr rfl fun _ _ => mul_comm _ _

theorem squared_symm (r : Fin 16 → Fin 8 → ℝ) (i j : Fin 16) : squared r i j = squared r j i := by
  rw [squared, squared, product_symm r i j, add_comm (product r i i)]

/-- Nothing falls short of the margin zero. -/
theorem lack_zero (x : ℝ) : lack 0 x = 0 := by
  have h : max (0 : ℝ) (0 - apart x) = 0 := max_eq_left (by rw [zero_sub]; exact neg_nonpos.2 (Real.sqrt_nonneg _))
  rw [lack, h, mul_zero]

/-- Sixteen neighbours, every pair: those before the diagonal are those after it. -/
theorem pairs (f : Fin 16 → Fin 16 → ℝ) (hs : ∀ i j, f i j = f j i) :
    ∑ i, ∑ j, (if i = j then 0 else f i j) = 2 * ∑ k ∈ Finset.range 16, ∑ l ∈ Finset.range (15 - k), f (place k) (place (k + l + 1)) := by
  have e : ∀ g : Fin 16 → Fin 16 → ℝ, ∑ k ∈ Finset.range 16, ∑ l ∈ Finset.range (15 - k), g (place k) (place (k + l + 1)) = ∑ i, ∑ j, (if i < j then g i j else 0) := by
    intro g
    rw [Finset.sum_range]
    refine Finset.sum_congr rfl fun i _ => ?_
    rw [← Finset.sum_filter]
    refine Finset.sum_bij' (fun l _ => place (i.val + l + 1)) (fun j _ => j.val - i.val - 1) ?_ ?_ ?_ ?_ ?_
    · intro l hl
      have := Finset.mem_range.1 hl
      refine Finset.mem_filter.2 ⟨Finset.mem_univ _, Fin.lt_def.2 ?_⟩
      show i.val < (i.val + l + 1) % 16
      rw [Nat.mod_eq_of_lt (by omega)]; omega
    · intro j hj
      have := Fin.lt_def.1 (Finset.mem_filter.1 hj).2
      exact Finset.mem_range.2 (by omega)
    · intro l hl
      have := Finset.mem_range.1 hl
      show (i.val + l + 1) % 16 - i.val - 1 = l
      rw [Nat.mod_eq_of_lt (by omega)]; omega
    · intro j hj
      have := Fin.lt_def.1 (Finset.mem_filter.1 hj).2
      refine Fin.ext ?_
      show (i.val + (j.val - i.val - 1) + 1) % 16 = j.val
      rw [Nat.mod_eq_of_lt (by omega)]; omega
    · intro l _
      have : place i.val = i := Fin.ext (Nat.mod_eq_of_lt i.isLt)
      rw [this]
  rw [e, two_mul]
  have t : ∑ i : Fin 16, ∑ j, (if i < j then f i j else 0) = ∑ i : Fin 16, ∑ j, (if j < i then f i j else 0) := by
    rw [Finset.sum_comm]
    exact Finset.sum_congr rfl fun i _ => Finset.sum_congr rfl fun j _ => by rw [hs]
  conv_rhs => rw [t]
  conv_rhs => lhs; rw [← t]
  rw [← Finset.sum_add_distrib]
  refine Finset.sum_congr rfl fun i _ => ?_
  rw [← Finset.sum_add_distrib]
  refine Finset.sum_congr rfl fun j _ => ?_
  rcases lt_trichotomy i j with h | h | h
  · rw [if_neg (ne_of_lt h), if_pos h, if_neg (not_lt.2 h.le), add_zero]
  · subst h; simp
  · rw [if_neg (ne_of_gt h), if_neg (not_lt.2 h.le), if_pos h, zero_add]

/-- Every pair of one sensor's neighbours, by the pairs taken once. -/
theorem every (w : Fin 16 → Fin 8 → ℝ) : ∑ i, ∑ j, lack (if i = j then 0 else 1) (squared (centre w) i j) = 2 * once w := by
  rw [show once w = ∑ k ∈ Finset.range 16, ∑ l ∈ Finset.range (15 - k), lack 1 (squared (centre w) (place k) (place (k + l + 1))) from rfl]
  rw [← pairs (fun i j => lack 1 (squared (centre w) i j)) fun i j => by rw [squared_symm]]
  refine Finset.sum_congr rfl fun i _ => Finset.sum_congr rfl fun j _ => ?_
  by_cases h : i = j
  · rw [if_pos h, if_pos h, lack_zero]
  · rw [if_neg h, if_neg h]

end Cert.Proof.Reduce
-- ==== Proof.ReducePieces.lean ====
module
public import proofs.«01_k».proof.Proof.ReducePairs
public import Idealize.ShloMosaic.Lib.Pipeline.ReadBack
public import Idealize.ShloMosaic.Lib.WholeRead
/-!
# What one run of the reducing kernel's body stores

The body stores the updated features 128 sensors at a time, and it adds one number to the total that the run before left.
-/

@[expose] public section
noncomputable section
namespace Cert.Proof.Reduce
open Idealize.ShloMosaic
set_option maxRecDepth 16384
open Cert.ReduceIdeal Cert.ReduceIdeal.Gen

section
variable {F : FTy → Type} [FloatOps F]

/-- The table as the body loads it. -/
def tableOf (arg1 : Memref sig .tc .vmem S1x1024x96 .f32) (harg1 : arg1.IsWhole) (x0 : Vec F S1x1024x96 .f32) : Vec F S1x1024x96 .f32 :=
  View.readAt (Elt F) arg1.view (Rect.unit ![0, 0, 0] S1x1024x96.size inb_S1x1024x96_S1x1024x96_0_0_0 : Rect S1x1024x96).toLoadRect (harg1.unread x0)

/-- The lists of 128 sensors as the body loads them. -/
def listOf (arg2 : Memref sig .tc .vmem S1x1024x16 .i32) (harg2 : arg2.IsWhole) (x1 : Vec F S1x1024x16 .i32) (o : ℕ)
    (h : ∀ a, ![0, o, 0] a + S1x128x16.size a ≤ S1x1024x16.size a) : Vec F S1x128x16 .i32 :=
  View.readAt (Elt F) arg2.view (Rect.unit ![0, o, 0] S1x128x16.size h : Rect S1x1024x16).toLoadRect (harg2.unread x1)

/-- The weights of 128 sensors as the body loads them. -/
def weightOf (arg3 : Memref sig .tc .vmem S1x1024x256 .f32) (harg3 : arg3.IsWhole) (x2 : Vec F S1x1024x256 .f32) (o : ℕ)
    (h : ∀ a, ![0, o, 0] a + S1x128x256.size a ≤ S1x1024x256.size a) : Vec F S1x128x256 .f32 :=
  View.readAt (Elt F) arg3.view (Rect.unit ![0, o, 0] S1x128x256.size h : Rect S1x1024x256).toLoadRect (harg3.unread x2)

/-- The eight parts of the weights. -/
def weightsOf (arg3 : Memref sig .tc .vmem S1x1024x256 .f32) (harg3 : arg3.IsWhole) (x2 : Vec F S1x1024x256 .f32) : Fin 8 → Vec F S1x128x256 .f32 :=
  ![weightOf arg3 harg3 x2 0 inb_S1x1024x256_S1x128x256_0_0_0, weightOf arg3 harg3 x2 128 inb_S1x1024x256_S1x128x256_0_128_0, weightOf arg3 harg3 x2 256 inb_S1x1024x256_S1x128x256_0_256_0, weightOf arg3 harg3 x2 384 inb_S1x1024x256_S1x128x256_0_384_0, weightOf arg3 harg3 x2 512 inb_S1x1024x256_S1x128x256_0_512_0, weightOf arg3 harg3 x2 640 inb_S1x1024x256_S1x128x256_0_640_0, weightOf arg3 harg3 x2 768 inb_S1x1024x256_S1x128x256_0_768_0, weightOf arg3 harg3 x2 896 inb_S1x1024x256_S1x128x256_0_896_0]

/-- The eight stores of the updated features. -/
def stored (arg1 : Memref sig .tc .vmem S1x1024x96 .f32) (harg1 : arg1.IsWhole) (arg2 : Memref sig .tc .vmem S1x1024x16 .i32) (harg2 : arg2.IsWhole)
    (arg3 : Memref sig .tc .vmem S1x1024x256 .f32) (harg3 : arg3.IsWhole) (x0 : Vec F S1x1024x96 .f32) (x1 : Vec F S1x1024x16 .i32) (x2 : Vec F S1x1024x256 .f32) :
    List (View.Piece (Elt F) S1x1024x96 .f32) :=
  [⟨Rect.unit ![0, 896, 0] ![1, 128, 96] inb_S1x1024x96_S1x128x96_0_896_0, updated (tableOf arg1 harg1 x0) (listOf arg2 harg2 x1 896 inb_S1x1024x16_S1x128x16_0_896_0) (weightOf arg3 harg3 x2 896 inb_S1x1024x256_S1x128x256_0_896_0)⟩,
   ⟨Rect.unit ![0, 768, 0] ![1, 128, 96] inb_S1x1024x96_S1x128x96_0_768_0, updated (tableOf arg1 harg1 x0) (listOf arg2 harg2 x1 768 inb_S1x1024x16_S1x128x16_0_768_0) (weightOf arg3 harg3 x2 768 inb_S1x1024x256_S1x128x256_0_768_0)⟩,
   ⟨Rect.unit ![0, 640, 0] ![1, 128, 96] inb_S1x1024x96_S1x128x96_0_640_0, updated (tableOf arg1 harg1 x0) (listOf arg2 harg2 x1 640 inb_S1x1024x16_S1x128x16_0_640_0) (weightOf arg3 harg3 x2 640 inb_S1x1024x256_S1x128x256_0_640_0)⟩,
   ⟨Rect.unit ![0, 512, 0] ![1, 128, 96] inb_S1x1024x96_S1x128x96_0_512_0, updated (tableOf arg1 harg1 x0) (listOf arg2 harg2 x1 512 inb_S1x1024x16_S1x128x16_0_512_0) (weightOf arg3 harg3 x2 512 inb_S1x1024x256_S1x128x256_0_512_0)⟩,
   ⟨Rect.unit ![0, 384, 0] ![1, 128, 96] inb_S1x1024x96_S1x128x96_0_384_0, updated (tableOf arg1 harg1 x0) (listOf arg2 harg2 x1 384 inb_S1x1024x16_S1x128x16_0_384_0) (weightOf arg3 harg3 x2 384 inb_S1x1024x256_S1x128x256_0_384_0)⟩,
   ⟨Rect.unit ![0, 256, 0] ![1, 128, 96] inb_S1x1024x96_S1x128x96_0_256_0, updated (tableOf arg1 harg1 x0) (listOf arg2 harg2 x1 256 inb_S1x1024x16_S1x128x16_0_256_0) (weightOf arg3 harg3 x2 256 inb_S1x1024x256_S1x128x256_0_256_0)⟩,
   ⟨Rect.unit ![0, 128, 0] ![1, 128, 96] inb_S1x1024x96_S1x128x96_0_128_0, updated (tableOf arg1 harg1 x0) (listOf arg2 harg2 x1 128 inb_S1x1024x16_S1x128x16_0_128_0) (weightOf arg3 harg3 x2 128 inb_S1x1024x256_S1x128x256_0_128_0)⟩,
   ⟨Rect.unit ![0, 0, 0] ![1, 128, 96] inb_S1x1024x96_S1x128x96_0_0_0, updated (tableOf arg1 harg1 x0) (listOf arg2 harg2 x1 0 inb_S1x1024x16_S1x128x16_0_0_0) (weightOf arg3 harg3 x2 0 inb_S1x1024x256_S1x128x256_0_0_0)⟩]

theorem stored_A (c : Dev nD) (i : grid0.Coords) (arg1 : Memref sig .tc .vmem S1x1024x96 .f32) (harg1 : arg1.IsWhole) (arg2 : Memref sig .tc .vmem S1x1024x16 .i32) (harg2 : arg2.IsWhole) (arg3 : Memref sig .tc .vmem S1x1024x256 .f32) (harg3 : arg3.IsWhole) (arg4 : Memref sig .tc .vmem S1x1024x96 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x1 .f32) (harg7 : arg7.IsWhole) (hc : cond0_0 i)
    (x0 : Vec F S1x1024x96 .f32) (x1 : Vec F S1x1024x16 .i32) (x2 : Vec F S1x1024x256 .f32)  :
    (kernelRun0_A c i arg1 harg1 arg2 harg2 arg3 harg3 arg4 harg4 arg5 harg5 arg6 harg6 arg7 harg7 hc x0 x1 x2).1 = stored arg1 harg1 arg2 harg2 arg3 harg3 x0 x1 x2 := by
  unfold kernelRun0_A
  rfl

theorem stored_B (c : Dev nD) (i : grid0.Coords) (arg1 : Memref sig .tc .vmem S1x1024x96 .f32) (harg1 : arg1.IsWhole) (arg2 : Memref sig .tc .vmem S1x1024x16 .i32) (harg2 : arg2.IsWhole) (arg3 : Memref sig .tc .vmem S1x1024x256 .f32) (harg3 : arg3.IsWhole) (arg4 : Memref sig .tc .vmem S1x1024x96 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x1 .f32) (harg7 : arg7.IsWhole) (hc : ¬ cond0_0 i)
    (x0 : Vec F S1x1024x96 .f32) (x1 : Vec F S1x1024x16 .i32) (x2 : Vec F S1x1024x256 .f32) (x4 x5 : Vec F S1024x128 .f32) (x6 : Vec F S1x1 .f32) :
    (kernelRun0_B c i arg1 harg1 arg2 harg2 arg3 harg3 arg4 harg4 arg5 harg5 arg6 harg6 arg7 harg7 hc x0 x1 x2 x4 x5 x6).1 = stored arg1 harg1 arg2 harg2 arg3 harg3 x0 x1 x2 := by
  unfold kernelRun0_B
  rfl

/-- The total as the body finds it after it has set it to zero. -/
def zeroTotal : Vec F S1x1 .f32 := broadcast S1x1 (Scalar.ofBits .f32 0x00000000#32)

theorem off_zero : (![0, 0] : Fin 2 → ℕ) = fun _ => 0 := by decide

theorem grown_A (c : Dev nD) (i : grid0.Coords) (arg1 : Memref sig .tc .vmem S1x1024x96 .f32) (harg1 : arg1.IsWhole) (arg2 : Memref sig .tc .vmem S1x1024x16 .i32) (harg2 : arg2.IsWhole) (arg3 : Memref sig .tc .vmem S1x1024x256 .f32) (harg3 : arg3.IsWhole) (arg4 : Memref sig .tc .vmem S1x1024x96 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x1 .f32) (harg7 : arg7.IsWhole) (hc : cond0_0 i)
    (x0 : Vec F S1x1024x96 .f32) (x1 : Vec F S1x1024x16 .i32) (x2 : Vec F S1x1024x256 .f32) :
    out0_A_6 c i arg1 harg1 arg2 harg2 arg3 harg3 arg4 harg4 arg5 harg5 arg6 harg6 arg7 harg7 hc x0 x1 x2 = grown zeroTotal (weightsOf arg3 harg3 x2) := by
  unfold out0_A_6
  rw [View.read_writes_eq_canon _ _ _ (cover0_A_6 c i arg1 harg1 arg2 harg2 arg3 harg3 arg4 harg4 arg5 harg5 arg6 harg6 arg7 harg7 hc x0 x1 x2)]
  unfold kernelRun0_A
  dsimp only
  refine (View.canon_cons_unit_zero off_zero _ _ _).trans ?_
  sl_unfold_words
  rw [View.readCov_unit_zero _ off_zero]
  rfl

theorem grown_B (c : Dev nD) (i : grid0.Coords) (arg1 : Memref sig .tc .vmem S1x1024x96 .f32) (harg1 : arg1.IsWhole) (arg2 : Memref sig .tc .vmem S1x1024x16 .i32) (harg2 : arg2.IsWhole) (arg3 : Memref sig .tc .vmem S1x1024x256 .f32) (harg3 : arg3.IsWhole) (arg4 : Memref sig .tc .vmem S1x1024x96 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x1 .f32) (harg7 : arg7.IsWhole) (hc : ¬ cond0_0 i)
    (x0 : Vec F S1x1024x96 .f32) (x1 : Vec F S1x1024x16 .i32) (x2 : Vec F S1x1024x256 .f32) (x4 x5 : Vec F S1024x128 .f32) (x6 : Vec F S1x1 .f32) :
    out0_B_6 c i arg1 harg1 arg2 harg2 arg3 harg3 arg4 harg4 arg5 harg5 arg6 harg6 arg7 harg7 hc x0 x1 x2 x4 x5 x6 = grown x6 (weightsOf arg3 harg3 x2) := by
  unfold out0_B_6
  rw [View.read_writes_eq_canon _ _ _ (cover0_B_6 c i arg1 harg1 arg2 harg2 arg3 harg3 arg4 harg4 arg5 harg5 arg6 harg6 arg7 harg7 hc x0 x1 x2 x4 x5 x6)]
  unfold kernelRun0_B
  dsimp only
  refine (View.canon_cons_unit_zero off_zero _ _ _).trans ?_
  have e : View.readAt (Elt F) arg7.view (Rect.unit ![0, 0] ![1, 1] inb_S1x1_S1x1_0_0 : Rect S1x1).toLoadRect (harg7.unread x6) = x6 := by
    rw [View.readAt_eq_ld, Memref.IsWhole.read_unread]
    exact View.ld_unit_zero off_zero _ _
  rw [e]
  rfl
end

/-! ## The stores at an index -/

section
variable (arg1 : Memref sig .tc .vmem S1x1024x96 .f32) (harg1 : arg1.IsWhole) (arg2 : Memref sig .tc .vmem S1x1024x16 .i32) (harg2 : arg2.IsWhole)
  (arg3 : Memref sig .tc .vmem S1x1024x256 .f32) (harg3 : arg3.IsWhole) (x0 : Vec Ideal S1x1024x96 .f32) (x1 : Vec Ideal S1x1024x16 .i32) (x2 : Vec Ideal S1x1024x256 .f32)

theorem tableOf_apply (s : Fin 1024) (j : Fin 96) : tableOf arg1 harg1 x0 (ix3 0 s j) = x0 (ix3 0 s j) := by
  refine (harg1.readAt_unread x0 _ _).trans (congrArg x0 (funext fun a => ?_))
  fin_cases a <;> refine Fin.ext ?_
  · rfl
  · show 0 + 1 * s.val = s.val; omega
  · show 0 + 1 * j.val = j.val; omega

theorem listOf_apply (o : ℕ) (h) (s : Fin 128) (k : Fin 16) (ho : o + s.val < 1024) : listOf arg2 harg2 x1 o h (ix3 0 s k) = x1 (ix3 0 ⟨o + s.val, ho⟩ k) := by
  refine (harg2.readAt_unread x1 _ _).trans (congrArg x1 (funext fun a => ?_))
  fin_cases a <;> refine Fin.ext ?_
  · rfl
  · show o + 1 * s.val = o + s.val; omega
  · show 0 + 1 * k.val = k.val; omega

theorem weightOf_apply (o : ℕ) (h) (s : Fin 128) (k : Fin 256) (ho : o + s.val < 1024) : weightOf arg3 harg3 x2 o h (ix3 0 s k) = x2 (ix3 0 ⟨o + s.val, ho⟩ k) := by
  refine (harg3.readAt_unread x2 _ _).trans (congrArg x2 (funext fun a => ?_))
  fin_cases a <;> refine Fin.ext ?_
  · rfl
  · show o + 1 * s.val = o + s.val; omega
  · show 0 + 1 * k.val = k.val; omega

/-- The updated features of a block, entry by entry. -/
def features (y : S1x1024x96.Idx) : EReal :=
  quotient (fun s j => x0 (ix3 0 s j)) (fun k => x1 (ix3 0 (y 1) k)) (fun k c => x2 (ix3 0 (y 1) ⟨k.val * 16 + c.val, by omega⟩)) (y 2)

theorem store_apply (hi : ∀ s k, (x1 (ix3 0 s k) : BitVec 32).toNat < 1024) (o : ℕ) (h : ∀ a, ![0, o, 0] a + ![1, 128, 96] a ≤ S1x1024x96.size a) (h1) (h2)
    (x : (Rect.unit ![0, o, 0] ![1, 128, 96] h : Rect S1x1024x96).shape.Idx) :
    updated (tableOf arg1 harg1 x0) (listOf arg2 harg2 x1 o h1) (weightOf arg3 harg3 x2 o h2) x = features x0 x1 x2 ((Rect.unit ![0, o, 0] ![1, 128, 96] h : Rect S1x1024x96).emb x) := by
  obtain ⟨s, j, rfl⟩ : ∃ (s : Fin 128) (j : Fin 96), x = ix3 0 s j := ⟨x 1, x 2, by
    funext a; fin_cases a
    · exact Subsingleton.elim (α := Fin 1) _ _
    · rfl
    · rfl⟩
  have ho : ∀ s : Fin 128, o + s.val < 1024 := fun s => by
    have : o + 128 ≤ 1024 := h 1
    omega
  rw [updated_apply _ _ _ (fun s k => by rw [listOf_apply _ _ _ _ _ _ _ (ho s)]; exact hi _ _)]
  have e1 : (Rect.unit ![0, o, 0] ![1, 128, 96] h : Rect S1x1024x96).emb (ix3 0 s j) 1 = (⟨o + s.val, ho s⟩ : Fin 1024) := Fin.ext (by show o + 1 * s.val = o + s.val; omega)
  have e2 : (Rect.unit ![0, o, 0] ![1, 128, 96] h : Rect S1x1024x96).emb (ix3 0 s j) 2 = j := Fin.ext (by show 0 + 1 * j.val = j.val; omega)
  rw [features, e1, e2]
  simp only [tableOf_apply, listOf_apply _ _ _ _ _ _ _ (ho s), weightOf_apply _ _ _ _ _ _ _ (ho s)]

theorem stored_pieces (hi : ∀ s k, (x1 (ix3 0 s k) : BitVec 32).toNat < 1024) :
    View.PiecesOf (features x0 x1 x2) (stored arg1 harg1 arg2 harg2 arg3 harg3 x0 x1 x2) :=
  ⟨store_apply arg1 harg1 arg2 harg2 arg3 harg3 x0 x1 x2 hi 896 inb_S1x1024x96_S1x128x96_0_896_0 inb_S1x1024x16_S1x128x16_0_896_0 inb_S1x1024x256_S1x128x256_0_896_0, store_apply arg1 harg1 arg2 harg2 arg3 harg3 x0 x1 x2 hi 768 inb_S1x1024x96_S1x128x96_0_768_0 inb_S1x1024x16_S1x128x16_0_768_0 inb_S1x1024x256_S1x128x256_0_768_0,
   store_apply arg1 harg1 arg2 harg2 arg3 harg3 x0 x1 x2 hi 640 inb_S1x1024x96_S1x128x96_0_640_0 inb_S1x1024x16_S1x128x16_0_640_0 inb_S1x1024x256_S1x128x256_0_640_0, store_apply arg1 harg1 arg2 harg2 arg3 harg3 x0 x1 x2 hi 512 inb_S1x1024x96_S1x128x96_0_512_0 inb_S1x1024x16_S1x128x16_0_512_0 inb_S1x1024x256_S1x128x256_0_512_0,
   store_apply arg1 harg1 arg2 harg2 arg3 harg3 x0 x1 x2 hi 384 inb_S1x1024x96_S1x128x96_0_384_0 inb_S1x1024x16_S1x128x16_0_384_0 inb_S1x1024x256_S1x128x256_0_384_0, store_apply arg1 harg1 arg2 harg2 arg3 harg3 x0 x1 x2 hi 256 inb_S1x1024x96_S1x128x96_0_256_0 inb_S1x1024x16_S1x128x16_0_256_0 inb_S1x1024x256_S1x128x256_0_256_0,
   store_apply arg1 harg1 arg2 harg2 arg3 harg3 x0 x1 x2 hi 128 inb_S1x1024x96_S1x128x96_0_128_0 inb_S1x1024x16_S1x128x16_0_128_0 inb_S1x1024x256_S1x128x256_0_128_0, store_apply arg1 harg1 arg2 harg2 arg3 harg3 x0 x1 x2 hi 0 inb_S1x1024x96_S1x128x96_0_0_0 inb_S1x1024x16_S1x128x16_0_0_0 inb_S1x1024x256_S1x128x256_0_0_0, trivial⟩

/-- The total of all 1024 sensors of a block. -/
def blockSum (w : Fin 1024 → Fin 16 → Fin 8 → ℝ) : ℝ := ∑ s, once (w s)

theorem blockSum_parts (f : Fin 1024 → ℝ) : ∑ r : Fin 8, ∑ s : Fin 128, f ⟨128 * r.val + s.val, by omega⟩ = ∑ s, f s := by
  rw [← Finset.sum_product', Finset.univ_product_univ]
  refine Fintype.sum_equiv (finProdFinEquiv (m := 8) (n := 128)) _ _ fun p => congrArg f (Fin.ext ?_)
  show 128 * p.1.val + p.2.val = p.2.val + 128 * p.1.val
  omega

theorem grown_value (a : Vec Ideal S1x1 .f32) (x : ℝ) (ha : a (ix2 0 0) = (x : EReal)) (w : Fin 1024 → Fin 16 → Fin 8 → ℝ)
    (h : ∀ (s : Fin 1024) (k : Fin 16) (c : Fin 8), x2 (ix3 0 s ⟨k.val * 16 + c.val, by omega⟩) = (w s k c : EReal)) :
    grown a (weightsOf arg3 harg3 x2) (ix2 0 0) = ((x + blockSum w * (2 / 65536) : ℝ) : EReal) := by
  refine (grown_apply a x ha _ (fun r => ∑ s : Fin 128, once (w ⟨128 * r.val + s.val, by omega⟩)) fun r => ?_).trans ?_
  · refine total_apply _ (fun s => w ⟨128 * r.val + s.val, by omega⟩) fun s k c => ?_
    fin_cases r <;> exact (weightOf_apply arg3 harg3 x2 _ _ s _ (by omega)).trans (h _ k c)
  · rw [blockSum_parts fun s => once (w s)]; rfl
end

theorem features_A (c : Dev nD) (i : grid0.Coords) (arg1 : Memref sig .tc .vmem S1x1024x96 .f32) (harg1 : arg1.IsWhole) (arg2 : Memref sig .tc .vmem S1x1024x16 .i32) (harg2 : arg2.IsWhole) (arg3 : Memref sig .tc .vmem S1x1024x256 .f32) (harg3 : arg3.IsWhole) (arg4 : Memref sig .tc .vmem S1x1024x96 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x1 .f32) (harg7 : arg7.IsWhole) (hc : cond0_0 i)
    (x0 : Vec Ideal S1x1024x96 .f32) (x1 : Vec Ideal S1x1024x16 .i32) (x2 : Vec Ideal S1x1024x256 .f32)  (hi : ∀ s k, (x1 (ix3 0 s k) : BitVec 32).toNat < 1024) (y) :
    out0_A_3 c i arg1 harg1 arg2 harg2 arg3 harg3 arg4 harg4 arg5 harg5 arg6 harg6 arg7 harg7 hc x0 x1 x2 y = features x0 x1 x2 y := by
  unfold out0_A_3
  refine View.read_writes_apply_of_pieces _ _ (features x0 x1 x2) _ ?_ y (cover0_A_3 c i arg1 harg1 arg2 harg2 arg3 harg3 arg4 harg4 arg5 harg5 arg6 harg6 arg7 harg7 hc x0 x1 x2 y)
  rw [stored_A]
  exact (stored_pieces arg1 harg1 arg2 harg2 arg3 harg3 x0 x1 x2 hi).mem

theorem features_B (c : Dev nD) (i : grid0.Coords) (arg1 : Memref sig .tc .vmem S1x1024x96 .f32) (harg1 : arg1.IsWhole) (arg2 : Memref sig .tc .vmem S1x1024x16 .i32) (harg2 : arg2.IsWhole) (arg3 : Memref sig .tc .vmem S1x1024x256 .f32) (harg3 : arg3.IsWhole) (arg4 : Memref sig .tc .vmem S1x1024x96 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x1 .f32) (harg7 : arg7.IsWhole) (hc : ¬ cond0_0 i)
    (x0 : Vec Ideal S1x1024x96 .f32) (x1 : Vec Ideal S1x1024x16 .i32) (x2 : Vec Ideal S1x1024x256 .f32) (x4 x5 : Vec Ideal S1024x128 .f32) (x6 : Vec Ideal S1x1 .f32) (hi : ∀ s k, (x1 (ix3 0 s k) : BitVec 32).toNat < 1024) (y) :
    out0_B_3 c i arg1 harg1 arg2 harg2 arg3 harg3 arg4 harg4 arg5 harg5 arg6 harg6 arg7 harg7 hc x0 x1 x2 x4 x5 x6 y = features x0 x1 x2 y := by
  unfold out0_B_3
  refine View.read_writes_apply_of_pieces _ _ (features x0 x1 x2) _ ?_ y (cover0_B_3 c i arg1 harg1 arg2 harg2 arg3 harg3 arg4 harg4 arg5 harg5 arg6 harg6 arg7 harg7 hc x0 x1 x2 x4 x5 x6 y)
  rw [stored_B]
  exact (stored_pieces arg1 harg1 arg2 harg2 arg3 harg3 x0 x1 x2 hi).mem

end Cert.Proof.Reduce
-- ==== Proof.ReduceValue.lean ====
module
public import proofs.«01_k».proof.Proof.ReducePieces
public import Idealize.ShloMosaic.Lib.Pipeline.ValueKit
/-!
# What the reducing kernel leaves in its results
-/

@[expose] public section
noncomputable section
namespace Cert.Proof.Reduce
open Idealize.ShloMosaic
set_option maxRecDepth 16384
open Cert.ReduceIdeal Cert.ReduceIdeal.Gen

variable (m : (ℓ : Loc nD τ sig) → Buf (Elt Ideal) ℓ) (c : Dev nD)

theorem place0 : ∀ t : Fin cfg0.N, win0_0.index t = ![t.val, 0, 0] := (by decide +kernel : ∀ t : Fin grid0.N, win0_0.index t = ![t.val, 0, 0])
theorem place1 : ∀ t : Fin cfg0.N, win0_1.index t = ![t.val, 0, 0] := (by decide +kernel : ∀ t : Fin grid0.N, win0_1.index t = ![t.val, 0, 0])
theorem place2 : ∀ t : Fin cfg0.N, win0_2.index t = ![t.val, 0, 0] := (by decide +kernel : ∀ t : Fin grid0.N, win0_2.index t = ![t.val, 0, 0])
theorem place3 : ∀ t : Fin cfg0.N, win0_3.index t = ![t.val, 0, 0] := (by decide +kernel : ∀ t : Fin grid0.N, win0_3.index t = ![t.val, 0, 0])

theorem block0 (t : Fin cfg0.N) (s : Fin 1024) (j : Fin 96) : iblk m c 0 t (ix3 0 s j) = m ((c.tc : Thread nD τ).loc main_arg0) (ix3 (⟨t.val, t.isLt⟩ : Fin 64) s j) := by
  blk_simp [iblk]
  exact congrArg (m ((c.tc : Thread nD τ).loc main_arg0)) (by blk_ext [place0])

theorem block1 (t : Fin cfg0.N) (s : Fin 1024) (k : Fin 16) : iblk m c 1 t (ix3 0 s k) = m ((c.tc : Thread nD τ).loc main_arg1) (ix3 (⟨t.val, t.isLt⟩ : Fin 64) s k) := by
  blk_simp [iblk]
  exact congrArg (m ((c.tc : Thread nD τ).loc main_arg1)) (by blk_ext [place1])

theorem block2 (t : Fin cfg0.N) (s : Fin 1024) (k : Fin 256) : iblk m c 2 t (ix3 0 s k) = m ((c.tc : Thread nD τ).loc main_arg2) (ix3 (⟨t.val, t.isLt⟩ : Fin 64) s k) := by
  blk_simp [iblk]
  exact congrArg (m ((c.tc : Thread nD τ).loc main_arg2)) (by blk_ext [place2])

/-- The features that a point leaves. -/
theorem features_at (t : Fin cfg0.N) (hx : ∀ s k, (iblk m c 1 t (ix3 0 s k) : BitVec 32).toNat < 1024) (y : S1x1024x96.Idx) :
    (outsAt0 m c t.val t.isLt).1 y = features (iblk m c 0 t) (iblk m c 1 t) (iblk m c 2 t) y := by
  by_cases h0 : t.val % 64 = 0
  · simp only [outsAt0_A m c t h0]
    exact features_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) hx y
  · simp only [outsAt0_B m c t h0]
    exact features_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 hx y

/-- The total that the first point leaves. -/
theorem last_A (t : Fin cfg0.N) (h0 : t.val % 64 = 0) :
    (outsAt0 m c t.val t.isLt).2.2.2 = grown zeroTotal (weightsOf (ms0_2 t) (hs0_2 t) (iblk m c 2 t)) := by
  simp only [outsAt0_A m c t h0]
  exact grown_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)

/-- The total that a later point leaves. -/
theorem last_B (t : Fin cfg0.N) (h0 : ¬ t.val % 64 = 0) :
    (outsAt0 m c t.val t.isLt).2.2.2 = grown (outsAt0 m c (t.val - 1) (Nat.lt_of_le_of_lt (Nat.sub_le _ _) t.isLt)).2.2.2 (weightsOf (ms0_2 t) (hs0_2 t) (iblk m c 2 t)) := by
  simp only [outsAt0_B m c t h0]
  exact grown_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem quotient_congr {q q' : Fin 1024 → Fin 96 → EReal} {i i' : Fin 16 → BitVec 32} {r r' : Fin 16 → Fin 8 → EReal}
    (hq : q = q') (hi : i = i') (hr : r = r') (j : Fin 96) : quotient q i r j = quotient q' i' r' j := by
  rw [hq, hi, hr]

/-- The first result: the updated features of every sensor. -/
theorem features_result (hi : ∀ (b : Fin 64) (s : Fin 1024) (k : Fin 16), (m ((c.tc : Thread nD τ).loc main_arg1) (ix3 b s k) : BitVec 32).toNat < 1024) :
    (dats m 0 c).arrAt 3 cfg0.N = fun y : S64x1024x96.Idx => quotient (fun s j => m ((c.tc : Thread nD τ).loc main_arg0) (ix3 (y 0) s j)) (fun k => m ((c.tc : Thread nD τ).loc main_arg1) (ix3 (y 0) (y 1) k))
      (fun k c' => m ((c.tc : Thread nD τ).loc main_arg2) (ix3 (y 0) (y 1) ⟨k.val * 16 + c'.val, by omega⟩)) (y 2) := by
  refine (dats m 0 c).arrAt_eq_of_covers 3 _ (by decide +kernel) fun t hf y => ?_
  blk_simp
  rw [after0_3]
  have hx : ∀ s k, (iblk m c 1 t (ix3 0 s k) : BitVec 32).toNat < 1024 := fun s k => by rw [block1]; exact hi _ _ _
  refine (features_at m c t hx y).trans ?_
  have y0 : (win0_3.blk t).view.emb y 0 = (⟨t.val, t.isLt⟩ : Fin 64) := Fin.ext (by
    blk_simp [place3])
  have y1 : (win0_3.blk t).view.emb y 1 = (y 1 : Fin 1024) := Fin.ext (by blk_simp [place3])
  have y2 : (win0_3.blk t).view.emb y 2 = (y 2 : Fin 96) := Fin.ext (by blk_simp [place3])
  rw [y0, y1, y2, features]
  exact quotient_congr (funext fun s => funext fun j => block0 m c t s j) (funext fun k => block1 m c t (y 1) k) (funext fun k => funext fun c' => block2 m c t (y 1) _) _

/-- Place `n` among the 64 blocks. -/
def blockAt (n : ℕ) : Fin 64 := ⟨n % 64, Nat.mod_lt _ (by decide)⟩

/-- The total after block `n`, at finite weights. -/
theorem total_at (w : Fin 64 → Fin 1024 → Fin 16 → Fin 8 → ℝ)
    (h : ∀ (b : Fin 64) (s : Fin 1024) (i : Fin 16) (k : Fin 8), m ((c.tc : Thread nD τ).loc main_arg2) (ix3 b s ⟨i.val * 16 + k.val, by omega⟩) = (w b s i k : EReal)) :
    ∀ (n : ℕ) (hn : n < cfg0.N), (outsAt0 m c n hn).2.2.2 (ix2 0 0) = (((∑ b ∈ Finset.range (n + 1), blockSum (w (blockAt b))) * (2 / 65536) : ℝ) : EReal)
  | 0, hn => by
    refine (congrFun (last_A m c ⟨0, hn⟩ rfl) _).trans ?_
    refine (grown_value _ _ _ (zeroTotal (F := Ideal)) 0 ?_ (w (blockAt 0)) fun s k c' => (block2 m c ⟨0, hn⟩ s _).trans (h (blockAt 0) s k c')).trans ?_
    · pointwise [zeroTotal]
      simp
    · rw [Finset.sum_range_one, zero_add]
  | n + 1, hn => by
    have hN : n + 1 < 64 := hn
    refine (congrFun (last_B m c ⟨n + 1, hn⟩ (by show ¬ (n + 1) % 64 = 0; omega)) _).trans ?_
    refine (grown_value _ _ _ _ _ (total_at w h n (Nat.lt_of_succ_lt hn)) (w (blockAt (n + 1))) fun s k c' => (block2 m c ⟨n + 1, hn⟩ s _).trans ?_).trans ?_
    · have e : (⟨n + 1, hn⟩ : Fin 64) = blockAt (n + 1) := Fin.ext (Nat.mod_eq_of_lt hN).symm
      refine Eq.trans ?_ (h (blockAt (n + 1)) s k c')
      rw [← e]
    · rw [Finset.sum_range_succ _ (n + 1), add_mul]

/-- The total of the last point is the mean over the sensors. -/
theorem total_last (w : Fin 64 → Fin 1024 → Fin 16 → Fin 8 → ℝ)
    (h : ∀ (b : Fin 64) (s : Fin 1024) (i : Fin 16) (k : Fin 8), m ((c.tc : Thread nD τ).loc main_arg2) (ix3 b s ⟨i.val * 16 + k.val, by omega⟩) = (w b s i k : EReal))
    (t : Fin cfg0.N) (ht : t.val = 63) (z : S1x1.Idx) : (outsAt0 m c t.val t.isLt).2.2.2 z = (margin w : EReal) := by
  have e : z = ix2 0 0 := by
    funext a; fin_cases a
    · exact Subsingleton.elim (α := Fin 1) _ _
    · exact Subsingleton.elim (α := Fin 1) _ _
  rw [e, total_at m c w h t.val t.isLt, ht]
  congr 1
  rw [margin, Finset.sum_range]
  have e : ∀ b : Fin 64, (∑ s, ∑ i, ∑ j, lack (if i = j then 0 else 1) (squared (centre (w b s)) i j)) = 2 * blockSum (w (blockAt b.val)) := fun b => by
    have hb : blockAt b.val = b := Fin.ext (Nat.mod_eq_of_lt b.isLt)
    rw [hb, blockSum, Finset.mul_sum]
    exact Finset.sum_congr rfl fun s _ => every _
  rw [Finset.sum_congr rfl fun b _ => e b, ← Finset.mul_sum]
  ring

/-- The second result: the mean over the sensors, at finite weights. -/
theorem total_result (w : Fin 64 → Fin 1024 → Fin 16 → Fin 8 → ℝ)
    (h : ∀ (b : Fin 64) (s : Fin 1024) (i : Fin 16) (k : Fin 8), m ((c.tc : Thread nD τ).loc main_arg2) (ix3 b s ⟨i.val * 16 + k.val, by omega⟩) = (w b s i k : EReal)) :
    (dats m 0 c).arrAt 6 cfg0.N = fun _ : S1x1.Idx => (margin w : EReal) := by
  obtain ⟨t, ht, hw⟩ : ∃ t : Fin cfg0.N, t.val = 63 ∧ (cfg0.win 6).WholeAt t := ⟨⟨63, by decide⟩, rfl, by decide +kernel⟩
  refine (dats m 0 c).arrAt_eq_of_after_last 6 t hw _ fun y => ?_
  have e := after0_6 m c t
  blk_simp
  rw [e]
  exact total_last m c w h t ht _

end Cert.Proof.Reduce
-- ==== Proof.ReduceResults.lean ====
module
public import proofs.«01_k».proof.Defs
public import proofs.«01_k».proof.Proof.FinalValue
public import proofs.«01_k».proof.Proof.ReduceValue
public import proofs.«01_k».proof.Proof.Gen.Pre_sensors
/-!
# The reducing call: the kernel's results are the reference's

The precondition says that the lists name rows of the table and that the weights are real numbers. The updated features
need only the first, the mean needs only the second.
-/

@[expose] public section
noncomputable section
namespace Cert.Proof.Reduce
open Idealize.ShloMosaic
set_option maxRecDepth 16384

instance : Subsingleton (Cert.Pre_sensors.S_ : Shape).Idx := ⟨fun a b => funext fun k => k.elim0⟩

/-- A word that is at least zero and below 1024, both read with a sign, is below 1024. -/
theorem small_of_cmp (w : BitVec 32)
    (h : IntOp.andi (IntOp.cmpi .sge w 0#32) (IntOp.cmpi .slt w 1024#32) = 1#1) : w.toNat < 1024 := by
  obtain ⟨h1, h2⟩ := IntOp.andi_eq_one.1 h
  have e1 : (0#32).sle w = true := (StableHlo.Predicate.ofBool_eq_one_iff _).1 h1
  have e2 : w.slt 1024#32 = true := (StableHlo.Predicate.ofBool_eq_one_iff _).1 h2
  have f1 : (0 : Int) ≤ w.toInt := by simpa [BitVec.sle] using e1
  have f2 : w.toInt < 1024 := by simpa [BitVec.slt] using e2
  rw [BitVec.toInt_eq_toNat_cond] at f1 f2
  split at f1 <;> split at f2 <;> omega

/-- The precondition, entry by entry. -/
theorem of_pre [Cert.Pre_sensors.Facts] (a0 : FVec Ideal Cert.Pre_sensors.S64x1024x96 .f32) (a1 : IVec Cert.Pre_sensors.S64x1024x16 32)
    (a2 : FVec Ideal Cert.Pre_sensors.S64x1024x256 .f32) (h : Cert.Pre_sensors.fn (F := Ideal) a0 a1 a2 = fun _ => 1#1) :
    (∀ j, (a1 j).toNat < 1024) ∧ ∀ j, ∃ r : ℝ, a2 j = (r : EReal) := by
  obtain ⟨h0, h1⟩ := IntOp.andi_eq_one.1 (congrFun h (fun k => k.elim0))
  exact ⟨fun j => small_of_cmp _ (Host.reduce_andi_all _ _ _ _ (fun k => k.elim0) h0 j),
    fun j => Final.real_of_cmp _ (Host.reduce_andi_all _ _ _ _ (fun k => k.elim0) h1 j)⟩

/-- The reference's first result, from its own arguments. -/
theorem refUpdate_value (a0 : FVec Ideal Cert.Pre_sensors.S64x1024x96 .f32) (a1 : IVec Cert.Pre_sensors.S64x1024x16 32)
    (a2 : FVec Ideal Cert.Pre_sensors.S64x1024x256 .f32) (hi : ∀ j, (a1 j).toNat < 1024) :
    refUpdate a0 a1 a2 = fun y : Cert.ReduceIdeal.S64x1024x96.Idx => quotient (fun s j => a0 (ix3 (y 0) s j)) (fun k => a1 (ix3 (y 0) (y 1) k))
      (fun k c' => a2 (ix3 (y 0) (y 1) ⟨k.val * 16 + c'.val, by omega⟩)) (y 2) := by
  funext y
  obtain ⟨b, s, j, rfl⟩ : ∃ (b : Fin 64) (s : Fin 1024) (j : Fin 96), y = ix3 b s j := ⟨y 0, y 1, y 2, by
    funext a; fin_cases a <;> rfl⟩
  exact refUpdate_apply a0 a1 a2 (fun b s k => hi _) b s j

/-- The reference's second result, from its own arguments. -/
theorem refMargin_array (a2 : FVec Ideal Cert.Pre_sensors.S64x1024x256 .f32) (w : Fin 64 → Fin 1024 → Fin 16 → Fin 8 → ℝ)
    (h : ∀ (b : Fin 64) (s : Fin 1024) (i : Fin 16) (k : Fin 8), a2 (ix3 b s ⟨i.val * 16 + k.val, by omega⟩) = (w b s i k : EReal)) :
    refMargin (refLack (refSquared (refCentre (refWeight a2)))) = fun _ : Cert.ReduceIdeal.S1x1.Idx => (margin w : EReal) :=
  Final.one_entry _ _ (refMargin_value a2 w h)

open Cert.ReduceIdeal in
theorem value : Cert.algebraic_ReduceIdeal_ReduceReferenceIdeal_pre_sensors (hReduceIdeal := Cert.ReduceIdeal.Gen.facts)
    (hReduceReferenceIdeal := Cert.ReduceReferenceIdeal.Gen.facts) (hPre_sensors := Cert.Pre_sensors.Gen.facts) := fun m ρ m' ρ' hp hm => by
  have hi : ∀ c : Dev nD, ∀ j, (m ((c.tc : Thread nD τ).loc main_arg1) j : BitVec 32).toNat < 1024 := fun c => (@of_pre Cert.Pre_sensors.Gen.facts _ _ _ (hp c)).1
  have hr : ∀ c : Dev nD, ∀ j, ∃ r : ℝ, m ((c.tc : Thread nD τ).loc main_arg2) j = (r : EReal) := fun c => (@of_pre Cert.Pre_sensors.Gen.facts _ _ _ (hp c)).2
  choose r hr using hr
  have hw : ∀ (c : Dev nD) (b : Fin 64) (s : Fin 1024) (i : Fin 16) (k : Fin 8), m ((c.tc : Thread nD τ).loc main_arg2) (ix3 b s ⟨i.val * 16 + k.val, by omega⟩)
      = (r c (ix3 b s ⟨i.val * 16 + k.val, by omega⟩) : EReal) := fun c b s i k => hr c _
  refine ⟨fun c => (Gen.dats m 0 c).arrAt 3 cfg0.N, fun c => (Gen.dats m 0 c).arrAt 6 cfg0.N,
    (θ_run Cert.ReduceIdeal.defs _ _).mono (fun q h c => ⟨(h c).1, (h c).2.2.2.1, (h c).2.2.2.2.1, (h c).2.2.2.2.2.1, (h c).2.2.2.2.2.2⟩) (Cert.ReduceIdeal.Value.run_blocks (F := Ideal) m ρ),
    (θ_run Cert.ReduceReferenceIdeal.defs _ _).mono (fun q h c => ?_) (Cert.ReduceReferenceIdeal.Value.run (F := Ideal) m' ρ')⟩
  obtain ⟨e0, e1, e2⟩ := hm c
  refine ⟨(h c).1.trans ?_, (h c).2.1.trans ?_, (h c).2.2⟩
  · show _ = (Gen.dats m 0 c).arrAt 3 cfg0.N
    rw [features_result m c (fun b s k => hi c _), e0, e1, e2]
    exact refUpdate_value _ _ _ (hi c)
  · show _ = (Gen.dats m 0 c).arrAt 6 cfg0.N
    rw [total_result m c _ (hw c), refMargin_text, e2]
    exact refMargin_array _ _ (hw c)

end Cert.Proof.Reduce
-- ==== Proof.PrepareRun.lean ====
module
public import proofs.«01_k».proof.Proof.Gen.PrepareIdeal.Frame
/-!
# The run of the first two calls

The arrays that the second call leaves, and the arrays that it finds: the arguments, some of them reshaped, and the
totals that the first call leaves.
-/

@[expose] public section
set_option maxRecDepth 16384
noncomputable section
namespace Cert.Proof.Prepare
open Cert.PrepareIdeal Cert.PrepareIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every array ends at what the fold through the two calls says. -/
theorem ends : θ_run defs (onTc (τ := τ) (main (F := F))) ⟨m, fun _ => 0, ρ⟩
    (fun r => ∀ c : Dev nD, ∀ b ∈ Pipeline.ucRefs τ sig, r.2.mem ((c : Thread nD τ).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- The three results of the second call, and the arguments. -/
theorem run : θ_run defs (onTc (τ := τ) (main (F := F))) ⟨m, fun _ => 0, ρ⟩ (fun r => ∀ c : Dev nD,
      r.2.mem ((c.tc : Thread nD τ).loc main_v5_0) = (dat1 (V2 m ρ) c).arrAt 8 cfg1.N
      ∧ r.2.mem ((c.tc : Thread nD τ).loc main_v5_1) = (dat1 (V2 m ρ) c).arrAt 9 cfg1.N
      ∧ r.2.mem ((c.tc : Thread nD τ).loc main_v5_2) = (dat1 (V2 m ρ) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v5_0 (by decide))).trans (W3_arr m ρ c 8),
     (h c _ (mem_uc main_v5_1 (by decide))).trans (W3_arr m ρ c 9),
     (h c _ (mem_uc main_v5_2 (by decide))).trans (W3_arr m ρ c 10),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (ends m ρ)

/-! ## What the second call finds -/

theorem found_arg (c : Dev nD) (a : Ref sig .tc) (h : a ∈ argRefs) : V2 m ρ c a = m ((c.tc : Thread nD τ).loc a) := W2_args m ρ c a h

theorem found_totals (c : Dev nD) : V2 m ρ c main_v4 = (dat0 (V1 m ρ) c).arrAt 1 cfg0.N := W2_arr m ρ c 1

theorem found_host (c : Dev nD) (r : Ref sig .tc) (h : ∀ w : Fin cfg0.W, Pipeline.arrRef spec0 w = r → (cfg0.win w).isOut = false) :
    V2 m ρ c r = StableHlo.after hostOps0 (W0 m ρ c) (Proc.devRef .tc r) := W2_of m ρ c r h

theorem found_v0 (c : Dev nD) : V2 m ρ c main_v0 = shapeCast S64x1024x12 (m ((c.tc : Thread nD τ).loc main_arg1)) shapeCasts_S64x1x1024x12_S64x1024x12 :=
  (found_host m ρ c main_v0 (by decide +kernel)).trans rfl

theorem found_v1 (c : Dev nD) : V2 m ρ c main_v1 = shapeCast S96x12 (m ((c.tc : Thread nD τ).loc main_arg3)) shapeCasts_S8x12x12_S96x12 :=
  (found_host m ρ c main_v1 (by decide +kernel)).trans rfl

theorem found_v2 (c : Dev nD) : V2 m ρ c main_v2 = shapeCast S1024x1 (m ((c.tc : Thread nD τ).loc main_arg4)) shapeCasts_S1024_S1024x1 :=
  (found_host m ρ c main_v2 (by decide +kernel)).trans rfl

theorem found_v3 (c : Dev nD) : V2 m ρ c main_v3 = shapeCast S1024x1 (m ((c.tc : Thread nD τ).loc main_arg5)) shapeCasts_S1024_S1024x1 :=
  (found_host m ρ c main_v3 (by decide +kernel)).trans rfl

end Cert.Proof.Prepare
-- ==== Proof.PrepareNumbers.lean ====
module
public import proofs.«01_k».proof.Proof.FinalShares
public import proofs.«01_k».proof.Proof.ReduceMargin
/-!
# The numbers of the first two calls

For each sensor, the features of all samples have a mean and a variance. The normalized features are set against the
eight centroids, sample by sample, after the sample's mean over the sensors is taken away from both. The softmax of the
distances gives the eight shares of a sensor.
-/

@[expose] public section
noncomputable section
namespace Cert.Proof.Prepare
open Idealize.ShloMosaic Cert.Proof.Reduce

theorem word_count : Ideal.ofBits .f32 0x46800000#32 = ((16384 : ℝ) : EReal) := by
  simp [Ideal.ofBits, Ideal.ieee, -EReal.coe_mul]; norm_num

theorem word_part : Ideal.ofBits .f32 0x38800000#32 = ((1 / 16384 : ℝ) : EReal) := by
  simp [Ideal.ofBits, Ideal.ieee, -EReal.coe_mul]; norm_num

theorem word_sensor : Ideal.ofBits .f32 0x44800000#32 = ((1024 : ℝ) : EReal) := by
  simp [Ideal.ofBits, Ideal.ieee, -EReal.coe_mul]; norm_num

theorem word_small : Ideal.ofBits .f32 0x3727C5AC#32 = ((10995116 / 2 ^ 40 : ℝ) : EReal) := by
  simp [Ideal.ofBits, Ideal.ieee, -EReal.coe_mul]; norm_num

variable (x : Fin 64 → Fin 1024 → Fin 256 → ℝ)

/-- The sum of a sensor's features. -/
def sum (s : Fin 1024) : ℝ := ∑ b, ∑ d, x b s d

/-- The sum of their squares. -/
def squares (s : Fin 1024) : ℝ := ∑ b, ∑ d, x b s d * x b s d

def mean (s : Fin 1024) : ℝ := sum x s * (1 / 16384)

def variance (s : Fin 1024) : ℝ := squares x s * (1 / 16384) - mean x s * mean x s

/-- The variance is the mean of the squared differences from the mean. -/
theorem variance_eq (s : Fin 1024) : (∑ b, ∑ d, (x b s d - mean x s) * (x b s d - mean x s)) * (1 / 16384) = variance x s := by
  have e : ∀ b : Fin 64, (∑ d, (x b s d - mean x s) * (x b s d - mean x s))
      = (∑ d, x b s d * x b s d) - (2 * mean x s) * (∑ d, x b s d) + 256 * (mean x s * mean x s) := fun b => by
    rw [Finset.mul_sum, ← Finset.sum_sub_distrib]
    have c : (256 : ℝ) * (mean x s * mean x s) = ∑ _d : Fin 256, mean x s * mean x s := by
      rw [Finset.sum_const, Finset.card_univ, Fintype.card_fin, nsmul_eq_mul]; norm_num
    rw [c, ← Finset.sum_add_distrib]
    exact Finset.sum_congr rfl fun d _ => by ring
  rw [Finset.sum_congr rfl fun b _ => e b, Finset.sum_add_distrib, Finset.sum_sub_distrib, ← Finset.mul_sum,
    Finset.sum_const, Finset.card_univ, Fintype.card_fin, nsmul_eq_mul]
  rw [variance, show (∑ b, ∑ d, x b s d * x b s d) = squares x s from rfl, show (∑ b, ∑ d, x b s d) = sum x s from rfl]
  rw [mean]
  push_cast
  ring

theorem variance_nonneg (s : Fin 1024) : 0 ≤ variance x s := by
  rw [← variance_eq]
  exact mul_nonneg (Finset.sum_nonneg fun b _ => Finset.sum_nonneg fun d _ => mul_self_nonneg _) (by norm_num)

/-- The variance, kept away from zero. -/
def spread (s : Fin 1024) : ℝ := variance x s + 10995116 / 2 ^ 40

theorem spread_pos (s : Fin 1024) : 0 < spread x s := add_pos_of_nonneg_of_pos (variance_nonneg x s) (by positivity)

/-! ## Sums with an infinite term -/

theorem sum_bot {n : ℕ} (f : Fin n → EReal) (i : Fin n) (h : f i = ⊥) : ∑ k, f k = ⊥ := by
  rw [← Finset.add_sum_erase _ _ (Finset.mem_univ i), h, EReal.bot_add]

theorem sum_ne_bot {ι : Type} (s : Finset ι) (f : ι → EReal) (h : ∀ k, f k ≠ ⊥) : ∑ k ∈ s, f k ≠ ⊥ := by
  classical
  induction s using Finset.induction_on with
  | empty => simp
  | insert a s ha ih => rw [Finset.sum_insert ha]; exact EReal.add_ne_bot_iff.2 ⟨h a, ih⟩

theorem sum_top {n : ℕ} (f : Fin n → EReal) (i : Fin n) (h : f i = ⊤) (h' : ∀ k, f k ≠ ⊥) : ∑ k, f k = ⊤ := by
  rw [← Finset.add_sum_erase _ _ (Finset.mem_univ i), h]
  exact EReal.top_add_of_ne_bot (sum_ne_bot _ f h')

theorem sum_tops {n : ℕ} (i : Fin n) : ∑ _k : Fin n, (⊤ : EReal) = ⊤ := sum_top _ i rfl fun _ => by decide

theorem sum_bots {n : ℕ} (i : Fin n) : ∑ _k : Fin n, (⊥ : EReal) = ⊥ := sum_bot _ i rfl

/-! ## The shares -/

variable (g : Fin 1024 → ℝ) (h : Fin 1024 → EReal) (e : Fin 8 → Fin 256 → ℝ)

/-- The scaled features. -/
def scaled (b : Fin 64) (s : Fin 1024) (d : Fin 256) : ℝ := (x b s d - mean x s) * (1 / Real.sqrt (spread x s)) * g s

/-- The normalized features: the scaled ones and a sensor's shift, which needs not be finite. -/
def normed (b : Fin 64) (s : Fin 1024) (d : Fin 256) : EReal := (scaled x g b s d : EReal) + h s

/-- A sample's mean over the sensors. -/
def centre (b : Fin 64) (d : Fin 256) : EReal := Ideal.div (∑ s, normed x g h b s d) ((1024 : ℝ) : EReal)

def left (b : Fin 64) (s : Fin 1024) (d : Fin 256) : EReal := normed x g h b s d - centre x g h b d

def right (b : Fin 64) (c : Fin 8) (d : Fin 256) : EReal := (e c d : EReal) - centre x g h b d

/-- The squared distance of a sensor from a centroid. -/
def far (b : Fin 64) (s : Fin 1024) (c : Fin 8) : EReal :=
  (∑ d, left x g h b s d * left x g h b s d) + (∑ d, right x g h e b c d * right x g h e b c d) - ((2 : ℝ) : EReal) * ∑ d, left x g h b s d * right x g h e b c d

/-- The softmax of eight numbers. -/
def soft (f : Fin 8 → EReal) (c : Fin 8) : EReal :=
  Ideal.div (Ideal.exp (f c - Finset.fold max ⊥ (fun x => f x) Finset.univ)) (∑ x, Ideal.exp (f x - Finset.fold max ⊥ (fun x => f x) Finset.univ))

/-- A sensor's share of a centroid. -/
def share (b : Fin 64) (s : Fin 1024) (c : Fin 8) : EReal :=
  soft (fun c => Ideal.sqrt (max (Ideal.ofBits FTy.f32 0x0DA24260#32) (far x g h e b s c))) c

/-- The squared distance as the reference adds it up. -/
def far' (u v : Fin 256 → EReal) : EReal :=
  (∑ d, ((-2 : ℝ) : EReal) * u d * v d) + (∑ d, u d * u d) + (∑ d, v d * v d)

/-- Two numbers that are infinite. -/
theorem far_wild (u v : EReal) (hu : u = ⊤ ∨ u = ⊥) (hv : v = ⊤ ∨ v = ⊥) :
    far' (fun _ => u) (fun _ => v) = (∑ _d : Fin 256, u * u) + (∑ _d : Fin 256, v * v) - ((2 : ℝ) : EReal) * ∑ _d : Fin 256, u * v := by
  have p : (0 : ℝ) < 2 := by norm_num
  have q : (-2 : ℝ) < 0 := by norm_num
  rcases hu with rfl | rfl <;> rcases hv with rfl | rfl <;>
    simp only [far', EReal.coe_mul_top_of_neg q, EReal.coe_mul_bot_of_neg q, EReal.top_mul_top, EReal.top_mul_bot, EReal.bot_mul_top, EReal.bot_mul_bot,
      sum_tops (0 : Fin 256), sum_bots (0 : Fin 256), EReal.coe_mul_top_of_pos p, EReal.coe_mul_bot_of_pos p, EReal.bot_add, EReal.top_add_top,
      EReal.top_sub_bot, sub_eq_add_neg, EReal.neg_top, EReal.neg_bot, EReal.add_bot]

/-- Finite numbers. -/
theorem far_tame (u v : Fin 256 → ℝ) :
    far' (fun d => (u d : EReal)) (fun d => (v d : EReal))
      = (∑ d, (u d : EReal) * (u d : EReal)) + (∑ d, (v d : EReal) * (v d : EReal)) - ((2 : ℝ) : EReal) * ∑ d, (u d : EReal) * (v d : EReal) := by
  simp only [far', ← EReal.coe_mul, sum_coe, ← EReal.coe_add, ← EReal.coe_sub]
  congr 1
  simp only [Finset.mul_sum]
  rw [show (∑ k, -2 * u k * v k) = - ∑ k, 2 * (u k * v k) by rw [← Finset.sum_neg_distrib]; exact Finset.sum_congr rfl fun k _ => by ring]
  ring

/-- With an infinite shift the mean over the sensors is infinite, the same in every column. -/
theorem centre_wild (hh : ∃ s, h s = ⊤ ∨ h s = ⊥) : ∃ m : EReal, (m = ⊤ ∨ m = ⊥) ∧ ∀ b d, centre x g h b d = m := by
  have k : (0 : ℝ) < 1 / 1024 := by norm_num
  by_cases hb : ∃ s, h s = ⊥
  · obtain ⟨s, hs⟩ := hb
    refine ⟨⊥, .inr rfl, fun b d => ?_⟩
    rw [centre, sum_bot _ s (by rw [normed, hs, EReal.add_bot]), Ideal.div_coe (by norm_num), EReal.bot_mul_coe_of_pos k]
  · have hb' : ∀ s, h s ≠ ⊥ := fun s e => hb ⟨s, e⟩
    obtain ⟨s, hs⟩ := hh
    have hs : h s = ⊤ := hs.resolve_right (hb' s)
    refine ⟨⊤, .inl rfl, fun b d => ?_⟩
    have ht : ∑ s, normed x g h b s d = ⊤ := sum_top _ s (by rw [normed, hs]; exact EReal.add_top_of_ne_bot (EReal.coe_ne_bot _))
      (fun s => EReal.add_ne_bot_iff.2 ⟨EReal.coe_ne_bot _, hb' s⟩)
    rw [centre, ht, Ideal.div_coe (by norm_num), EReal.top_mul_coe_of_pos k]

/-- The reference's sum is the squared distance, whatever the shifts are. -/
theorem far_same (b : Fin 64) (s : Fin 1024) (c : Fin 8) : far' (left x g h b s) (right x g h e b c) = far x g h e b s c := by
  by_cases hh : ∃ s, h s = ⊤ ∨ h s = ⊥
  · obtain ⟨m, hm, hc⟩ := centre_wild x g h hh
    obtain ⟨u, hu, eu⟩ : ∃ u : EReal, (u = ⊤ ∨ u = ⊥) ∧ left x g h b s = fun _ => u := by
      simp only [funext_iff, left, normed, hc]
      generalize h s = z
      induction z with
      | bot => exact ⟨⊥, .inr rfl, fun d => by rw [EReal.add_bot, EReal.bot_sub]⟩
      | top =>
        rcases hm with rfl | rfl
        · exact ⟨⊥, .inr rfl, fun d => by rw [sub_eq_add_neg, EReal.neg_top, EReal.add_bot]⟩
        · exact ⟨⊤, .inl rfl, fun d => by rw [EReal.add_top_of_ne_bot (EReal.coe_ne_bot _), EReal.top_sub_bot]⟩
      | coe r =>
        rcases hm with rfl | rfl
        · exact ⟨⊥, .inr rfl, fun d => by rw [sub_eq_add_neg, EReal.neg_top, EReal.add_bot]⟩
        · exact ⟨⊤, .inl rfl, fun d => by rw [← EReal.coe_add, sub_eq_add_neg, EReal.neg_bot]; exact EReal.coe_add_top _⟩
    obtain ⟨v, hv, ev⟩ : ∃ v : EReal, (v = ⊤ ∨ v = ⊥) ∧ right x g h e b c = fun _ => v := by
      simp only [funext_iff, right, hc]
      rcases hm with rfl | rfl
      · exact ⟨⊥, .inr rfl, fun d => by rw [sub_eq_add_neg, EReal.neg_top, EReal.add_bot]⟩
      · exact ⟨⊤, .inl rfl, fun d => by rw [sub_eq_add_neg, EReal.neg_bot]; exact EReal.coe_add_top _⟩
    rw [far, eu, ev]
    exact far_wild u v hu hv
  · have hr : ∀ s, ∃ r : ℝ, h s = (r : EReal) := fun s => ⟨(h s).toReal, (EReal.coe_toReal (fun e => hh ⟨s, .inl e⟩) fun e => hh ⟨s, .inr e⟩).symm⟩
    choose r hr using hr
    have hn : ∀ b s d, normed x g h b s d = ((scaled x g b s d + r s : ℝ) : EReal) := fun b s d => by rw [normed, hr, EReal.coe_add]
    have hc : ∀ b d, centre x g h b d = (((∑ s, (scaled x g b s d + r s)) * (1 / 1024) : ℝ) : EReal) := fun b d => by
      rw [centre]
      simp only [hn, sum_coe]
      rw [Ideal.div_coe (by norm_num), EReal.coe_mul]
    have hl : left x g h b s = fun d => ((scaled x g b s d + r s - (∑ s, (scaled x g b s d + r s)) * (1 / 1024) : ℝ) : EReal) := funext fun d => by
      rw [left, hn, hc, EReal.coe_sub]
    have hg : right x g h e b c = fun d => ((e c d - (∑ s, (scaled x g b s d + r s)) * (1 / 1024) : ℝ) : EReal) := funext fun d => by
      rw [right, hc, EReal.coe_sub]
    rw [far, hl, hg]
    exact far_tame _ _

/-- A shift that is added last may be added first. -/
theorem shift_last (u v : ℝ) (z : EReal) : (u : EReal) + (z - (v : EReal)) = ((u - v : ℝ) : EReal) + z := by
  induction z with
  | bot => rw [EReal.bot_sub, EReal.add_bot, EReal.add_bot]
  | top => rw [EReal.top_sub_coe, EReal.coe_add_top, EReal.coe_add_top]
  | coe r => rw [← EReal.coe_sub, ← EReal.coe_add, ← EReal.coe_add]; congr 1; ring

end Cert.Proof.Prepare
-- ==== Proof.PrepareStats.lean ====
module
public import proofs.«01_k».proof.Proof.PrepareRun
public import proofs.«01_k».proof.Proof.PrepareNumbers
public import Idealize.ShloMosaic.Lib.Pipeline.ReadBack
public import Idealize.ShloMosaic.Lib.WholeRead
public import Idealize.ShloMosaic.Lib.Pipeline.ValueKit
/-!
# What the first call leaves

The first call goes through the 64 samples and adds up, for each sensor, the features and their squares.
-/

@[expose] public section
set_option maxRecDepth 16384
noncomputable section
namespace Cert.Proof.Prepare
open Idealize.ShloMosaic Idealize.ShloMosaic.TcCoe Idealize.ShloMosaic.Tactic
open Cert.PrepareIdeal Cert.PrepareIdeal.Gen Cert.Proof.Reduce

section
variable {F : FTy → Type} [FloatOps F]

theorem origin : (![0, 0] : Fin 2 → ℕ) = fun _ => 0 := by decide
theorem origin' : (![0, 0, 0] : Fin 3 → ℕ) = fun _ => 0 := by decide

theorem totals_A (c : Dev nD) (i : grid0.Coords) (arg1 : Memref sig .tc .vmem S1x1024x256 .f32) (harg1 : arg1.IsWhole) (arg2 : Memref sig .tc .vmem S1024x2 .f32) (harg2 : arg2.IsWhole) (hc0 : cond0_0 i)
    (x0 : Vec F S1x1024x256 .f32) : out0_A_1 c i arg1 harg1 arg2 harg2 hc0 x0 = k0_pay2 x0 k0_pay1 := by
  unfold out0_A_1
  rw [View.read_writes_eq_canon _ _ _ (cover0_A_1 c i arg1 harg1 arg2 harg2 hc0 x0)]
  unfold kernelRun0_A
  dsimp only
  refine (View.canon_cons_unit_zero origin _ _ _).trans ?_
  sl_unfold_words
  rw [View.readCov_unit_zero _ origin]
  have e : View.readAt (Elt F) arg1.view (Rect.unit ![0, 0, 0] S1x1024x256.size inb_S1x1024x256_S1x1024x256_0_0_0 : Rect S1x1024x256).toLoadRect (harg1.unread x0) = x0 := by
    rw [View.readAt_eq_ld, Memref.IsWhole.read_unread]
    exact View.ld_unit_zero origin' _ _
  rw [e]

theorem totals_B (c : Dev nD) (i : grid0.Coords) (arg1 : Memref sig .tc .vmem S1x1024x256 .f32) (harg1 : arg1.IsWhole) (arg2 : Memref sig .tc .vmem S1024x2 .f32) (harg2 : arg2.IsWhole) (hc0 : ¬cond0_0 i)
    (x0 : Vec F S1x1024x256 .f32) (xo1 : Vec F S1024x2 .f32) : out0_B_1 c i arg1 harg1 arg2 harg2 hc0 x0 xo1 = k0_pay2 x0 xo1 := by
  unfold out0_B_1
  rw [View.read_writes_eq_canon _ _ _ (cover0_B_1 c i arg1 harg1 arg2 harg2 hc0 x0 xo1)]
  unfold kernelRun0_B
  dsimp only
  refine (View.canon_cons_unit_zero origin _ _ _).trans ?_
  have e : View.readAt (Elt F) arg1.view (Rect.unit ![0, 0, 0] S1x1024x256.size inb_S1x1024x256_S1x1024x256_0_0_0 : Rect S1x1024x256).toLoadRect (harg1.unread x0) = x0 := by
    rw [View.readAt_eq_ld, Memref.IsWhole.read_unread]
    exact View.ld_unit_zero origin' _ _
  have e' : View.readAt (Elt F) arg2.view (Rect.unit ![0, 0] S1024x2.size inb_S1024x2_S1024x2_0_0 : Rect S1024x2).toLoadRect (harg2.unread xo1) = xo1 := by
    rw [View.readAt_eq_ld, Memref.IsWhole.read_unread]
    exact View.ld_unit_zero origin _ _
  rw [e, e']
end

/-! ## The running totals at an index -/

/-- What a sample adds to the total in column `k`. -/
def part (x : Fin 256 → ℝ) (k : Fin 2) : ℝ := if k = 0 then ∑ d, x d else ∑ d, x d * x d

theorem grow_apply (v : Vec Ideal S1x1024x256 .f32) (a : Vec Ideal S1024x2 .f32) (s : Fin 1024) (k : Fin 2) (x : Fin 256 → ℝ) (r : ℝ)
    (hx : ∀ d, v (ix3 0 s d) = (x d : EReal)) (ha : a (ix2 s k) = (r : EReal)) :
    k0_pay2 v a (ix2 s k) = ((r + part x k : ℝ) : EReal) := by
  fin_cases k <;> pointwise [k0_pay2] <;> simp only [hx, ← EReal.coe_mul, sum_coe] <;> refine (congrArg (· + _) ha).trans ?_ <;> rw [← EReal.coe_add] <;> rfl

variable (V : (c : Dev nD) → (b : Ref sig .tc) → Buf (Elt Ideal) ((c.tc : Thread nD τ).loc b)) (c : Dev nD)

theorem spot0_0 : ∀ t : Fin cfg0.N, win0_0.index t = ![t.val, 0, 0] := (by decide +kernel : ∀ t : Fin grid0.N, win0_0.index t = ![t.val, 0, 0])
theorem spot0_1 : ∀ t : Fin cfg0.N, win0_1.index t = ![0, 0] := (by decide +kernel : ∀ t : Fin grid0.N, win0_1.index t = ![0, 0])

theorem sample_apply (t : Fin cfg0.N) (s : Fin 1024) (d : Fin 256) : iblk0 V c 0 t (ix3 0 s d) = V c main_arg0 (ix3 (⟨t.val, t.isLt⟩ : Fin 64) s d) := by
  blk_simp [iblk0]
  exact congrArg (V c main_arg0) (by blk_ext [spot0_0])

/-- Place `n` among the 64 samples. -/
def sampleAt (n : ℕ) : Fin 64 := ⟨n % 64, Nat.mod_lt _ (by decide)⟩

/-- The totals after sample `n`. -/
theorem totals_at (x : Fin 64 → Fin 1024 → Fin 256 → ℝ) (h : ∀ (b : Fin 64) (s : Fin 1024) (d : Fin 256), V c main_arg0 (ix3 b s d) = (x b s d : EReal))
    (s : Fin 1024) (k : Fin 2) : ∀ (n : ℕ) (hn : n < cfg0.N),
      outsAt0 V c n hn (ix2 s k) = ((∑ b ∈ Finset.range (n + 1), part (x (sampleAt b) s) k : ℝ) : EReal)
  | 0, hn => by
    have e := congrFun ((outsAt0_A V c ⟨0, hn⟩ rfl).trans (totals_A c (grid0.coords ⟨0, hn⟩) (ms0_0 ⟨0, hn⟩) (hs0_0 ⟨0, hn⟩) (ms0_1 ⟨0, hn⟩) (hs0_1 ⟨0, hn⟩) ((hcond0_0 ⟨0, hn⟩).mpr rfl) (iblk0 V c 0 ⟨0, hn⟩))) (ix2 s k)
    refine e.trans ((grow_apply _ _ s k (x (sampleAt 0) s) 0 (fun d => (sample_apply V c ⟨0, hn⟩ s d).trans (h (sampleAt 0) s d)) ?_).trans ?_)
    · pointwise [k0_pay1]
      simp
    · rw [Finset.sum_range_one, zero_add]
  | n + 1, hn => by
    have hN : n + 1 < 64 := hn
    have h0 : ¬ (n + 1) % 64 = 0 := by omega
    have e := congrFun ((outsAt0_B V c ⟨n + 1, hn⟩ h0).trans (totals_B c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk0 V c 0 ⟨n + 1, hn⟩) (outsAt0 V c n (Nat.lt_of_succ_lt hn)))) (ix2 s k)
    refine e.trans ((grow_apply _ _ s k (x (sampleAt (n + 1)) s) _ (fun d => (sample_apply V c ⟨n + 1, hn⟩ s d).trans ?_) (totals_at x h s k n (Nat.lt_of_succ_lt hn))).trans ?_)
    · have e : (⟨n + 1, hn⟩ : Fin 64) = sampleAt (n + 1) := Fin.ext (Nat.mod_eq_of_lt hN).symm
      refine Eq.trans ?_ (h (sampleAt (n + 1)) s d)
      rw [← e]
    · rw [Finset.sum_range_succ _ (n + 1)]

/-- The totals that the first call leaves. -/
theorem totals_result (x : Fin 64 → Fin 1024 → Fin 256 → ℝ) (h : ∀ (b : Fin 64) (s : Fin 1024) (d : Fin 256), V c main_arg0 (ix3 b s d) = (x b s d : EReal)) :
    (dat0 V c).arrAt 1 cfg0.N = fun y : S1024x2.Idx => ((∑ b, part (x b (y 0)) (y 1) : ℝ) : EReal) := by
  obtain ⟨t, ht, hw⟩ : ∃ t : Fin cfg0.N, t.val = 63 ∧ (cfg0.win 1).WholeAt t := ⟨⟨63, by decide⟩, rfl, by decide +kernel⟩
  refine (dat0 V c).arrAt_eq_of_after_last 1 t hw _ fun y => ?_
  have e := after0_1 V c t
  blk_simp
  rw [e]
  have ey : y = ix2 (y 0 : Fin 1024) (y 1 : Fin 2) := by funext a; fin_cases a <;> rfl
  refine (congrArg (outsAt0 V c t.val t.isLt) ey).trans ((totals_at V c x h _ _ t.val t.isLt).trans (congrArg _ ?_))
  rw [ht, Finset.sum_range]
  exact Finset.sum_congr rfl fun b _ => by rw [show sampleAt b.val = b from Fin.ext (Nat.mod_eq_of_lt b.isLt)]

end Cert.Proof.Prepare
-- ==== Proof.PrepareKernel.lean ====
module
public import proofs.«01_k».proof.Proof.PrepareRun
public import proofs.«01_k».proof.Proof.PrepareNumbers
/-!
# What the body of the second call computes

The steps at an index, at real numbers.
-/

@[expose] public section
set_option maxRecDepth 16384
noncomputable section
namespace Cert.Proof.Prepare
open Idealize.ShloMosaic Idealize.ShloMosaic.TcCoe Idealize.ShloMosaic.Tactic
open Cert.PrepareIdeal Cert.PrepareIdeal.Gen Cert.Proof.Reduce

/-- The reciprocal square root of a positive number. -/
theorem rsqrt_pos {r : ℝ} (h : 0 < r) : Ideal.rsqrt (r : EReal) = ((1 / Real.sqrt r : ℝ) : EReal) := by
  show (if r < 0 then (⊥ : EReal) else if r = 0 then ⊤ else (((Real.sqrt r)⁻¹ : ℝ) : EReal)) = _
  rw [if_neg (not_lt.2 h.le), if_neg h.ne', one_div]

section
variable (v0 : Vec Ideal S1024x2 .f32) (v10 v16 : Vec Ideal S1024x1 .f32) (v20 : Vec Ideal S1x1024x256 .f32) (v32 : Vec Ideal S8x256 .f32)
  (x : Fin 64 → Fin 1024 → Fin 256 → ℝ) (g : Fin 1024 → ℝ) (h : Fin 1024 → EReal) (e : Fin 8 → Fin 256 → ℝ) (b : Fin 64)
  (h0 : ∀ s, v0 (ix2 s 0) = (sum x s : EReal)) (h1 : ∀ s, v0 (ix2 s 1) = (squares x s : EReal))
  (hg : ∀ s, v10 (ix2 s 0) = (g s : EReal)) (hh : ∀ s, v16 (ix2 s 0) = h s)
  (hx : ∀ s d, v20 (ix3 0 s d) = (x b s d : EReal)) (he : ∀ c d, v32 (ix2 c d) = (e c d : EReal))

include h0 h1 hg hh hx in
theorem normed_apply (s : Fin 1024) (d : Fin 256) : k1_pay4 v0 v10 v16 v20 (ix2 s d) = normed x g h b s d := by
  pointwise [k1_pay4]
  simp only [h0, h1, hg, hh, hx, word_part, word_small, ← EReal.coe_mul, ← EReal.coe_sub, ← EReal.coe_add]
  have q := rsqrt_pos (spread_pos x s)
  rw [spread, variance, mean] at q
  rw [q, ← EReal.coe_mul, ← EReal.coe_mul, ← EReal.coe_mul, shift_last, normed]
  refine congrArg (fun r : ℝ => (r : EReal) + h s) ?_
  rw [scaled, spread, variance, mean]
  ring

include h0 h1 hg hh hx in
theorem centre_apply (d : Fin 256) : k1_pay5 v0 v10 v16 v20 (ix2 0 d) = centre x g h b d := by
  pointwise [k1_pay5]
  simp only [normed_apply v0 v10 v16 v20 x g h b h0 h1 hg hh hx, word_sensor]
  rfl

include h0 h1 hg hh hx in
theorem left_apply (s : Fin 1024) (d : Fin 256) : k1_pay6 v0 v10 v16 v20 (ix2 s d) = left x g h b s d := by
  pointwise [k1_pay6]
  rw [normed_apply v0 v10 v16 v20 x g h b h0 h1 hg hh hx, centre_apply v0 v10 v16 v20 x g h b h0 h1 hg hh hx]
  rfl

include h0 h1 hg hh hx he in
theorem right_apply (c : Fin 8) (d : Fin 256) : k1_pay7 v0 v10 v16 v20 v32 (ix2 c d) = right x g h e b c d := by
  pointwise [k1_pay7]
  rw [he, centre_apply v0 v10 v16 v20 x g h b h0 h1 hg hh hx]
  rfl

include h0 h1 hg hh hx in
theorem left_length (s : Fin 1024) : k1_pay8 v0 v10 v16 v20 (ix2 s 0) = ∑ d, left x g h b s d * left x g h b s d := by
  pointwise [k1_pay8]
  simp only [left_apply v0 v10 v16 v20 x g h b h0 h1 hg hh hx]

include h0 h1 hg hh hx he in
theorem right_length (c : Fin 8) : k1_pay9 v0 v10 v16 v20 v32 (ix2 0 c) = ∑ d, right x g h e b c d * right x g h e b c d := by
  pointwise [k1_pay9]
  simp only [right_apply v0 v10 v16 v20 v32 x g h e b h0 h1 hg hh hx he]

/-- The shares, from what the body loads. -/
def shares : FVec Ideal S1024x8 .f32 :=
  k1_pay10 (k1_pay6 v0 v10 v16 v20) (k1_pay7 v0 v10 v16 v20 v32) (k1_pay8 v0 v10 v16 v20) (k1_pay9 v0 v10 v16 v20 v32)

include h0 h1 hg hh hx he in
theorem shares_apply (s : Fin 1024) (c : Fin 8) : shares v0 v10 v16 v20 v32 (ix2 s c) = share x g h e b s c := by
  pointwise [shares, k1_pay10]
  simp only [left_apply v0 v10 v16 v20 x g h b h0 h1 hg hh hx, right_apply v0 v10 v16 v20 v32 x g h e b h0 h1 hg hh hx he,
    left_length v0 v10 v16 v20 x g h b h0 h1 hg hh hx, right_length v0 v10 v16 v20 v32 x g h e b h0 h1 hg hh hx he, word_two, Final.bits_bot]
  rfl

end

/-! ## What the body stores -/

variable (p : FVec Ideal S1024x256 .f32) (q : FVec Ideal S8x256 .f32) (r : FVec Ideal S1024x1 .f32) (w : FVec Ideal S1x8 .f32)

/-- A sensor's weighted feature `j`. -/
theorem weighted_apply (a : FVec Ideal S1024x96 .f32) (s : Fin 1024) (j : Fin 96) :
    k1_pay1 a (k1_pay12 p q r w) (k1_pay13 p q r w) (k1_pay14 p q r w) (k1_pay15 p q r w) (k1_pay16 p q r w) (k1_pay17 p q r w) (k1_pay18 p q r w) (k1_pay19 p q r w) (ix3 0 s j)
      = a (ix2 s j) * k1_pay10 p q r w (ix2 s ⟨j.val / 12, by omega⟩) := by
  pointwise [k1_pay1, k1_pay12, k1_pay13, k1_pay14, k1_pay15, k1_pay16, k1_pay17, k1_pay18, k1_pay19]
  refine congrArg (a (ix2 s j) * ·) ?_
  split_ifs <;> refine congrArg (fun k : Fin 8 => k1_pay10 p q r w (ix2 s k)) (Fin.ext ?_)
  · show (0 : ℕ) = j.val / 12; omega
  · show (1 : ℕ) = j.val / 12; omega
  · show (2 : ℕ) = j.val / 12; omega
  · show (3 : ℕ) = j.val / 12; omega
  · show (4 : ℕ) = j.val / 12; omega
  · show (5 : ℕ) = j.val / 12; omega
  · show (6 : ℕ) = j.val / 12; omega
  · show (7 : ℕ) = j.val / 12; omega

theorem lifted_apply (v : Vec Ideal S1x1024x12 .f32) (u : Vec Ideal S96x12 .f32) (s : Fin 1024) (j : Fin 96) :
    k1_pay11 v u (ix2 s j) = max (∑ k : Fin 12, v (ix3 0 s k) * u (ix2 j k)) 0 := by
  pointwise [k1_pay11]

/-- A row of the table: the eight shares, then eight times a large negative number. -/
def entry (f : Fin 8 → EReal) (k : Fin 16) : EReal := if h : k.val < 8 then f ⟨k.val, h⟩ else Ideal.ofBits .f32 0xF149F2CA#32

theorem table_apply (a : FVec Ideal S1024x8 .f32) (s : Fin 1024) (k : Fin 16) : k1_pay2 a (ix3 0 s k) = entry (fun c => a (ix2 s c)) k := by
  pointwise [k1_pay2]
  rfl

theorem rows_apply (i : BitVec 32) (v : Vec Ideal S1x1024x16 .i32) (s : Fin 1024) (k : Fin 16) : k1_pay3 i v (ix3 0 s k) = (v (ix3 0 s k) : BitVec 32) + i * 1024#32 := by
  pointwise [k1_pay3]
  rfl

end Cert.Proof.Prepare
-- ==== Proof.PrepareDense.lean ====
module
public import proofs.«01_k».proof.Proof.PrepareStats
public import proofs.«01_k».proof.Proof.PrepareKernel
/-!
# The results of the second call

A grid point takes one sample and leaves one block of each result, so that an entry of a result is read off at the point
of its sample.
-/

@[expose] public section
set_option maxRecDepth 16384
noncomputable section
namespace Cert.Proof.Prepare
open Idealize.ShloMosaic Idealize.ShloMosaic.TcCoe Idealize.ShloMosaic.Tactic
open Cert.PrepareIdeal Cert.PrepareIdeal.Gen Cert.Proof.Reduce

/-! ## A point's blocks -/

section
variable (i : grid1.Coords) (x0 : Vec Ideal S1x1024x256 .f32) (x1 : Vec Ideal S1x1024x12 .f32) (x2 : Vec Ideal S1024x2 .f32) (x3 x4 : Vec Ideal S1024x1 .f32)
  (x5 : Vec Ideal S8x256 .f32) (x6 : Vec Ideal S96x12 .f32) (x7 : Vec Ideal S1x1024x16 .i32)

theorem point_shares : k1_pay10 (k1_pay20 i x0 x1 x2 x3 x4 x5 x6 x7) (k1_pay21 i x0 x1 x2 x3 x4 x5 x6 x7) (k1_pay22 i x0 x1 x2 x3 x4 x5 x6 x7) (k1_pay23 i x0 x1 x2 x3 x4 x5 x6 x7)
    = shares x2 x3 x4 x0 x5 := by
  have l0 : View.ld x0 r1_2 = x0 := View.ld_unit_zero origin' _ _
  have l2 : View.ld x2 r1_0 = x2 := View.ld_unit_zero origin _ _
  have l3 : View.ld x3 r1_1 = x3 := View.ld_unit_zero origin _ _
  have l4 : View.ld x4 r1_1 = x4 := View.ld_unit_zero origin _ _
  have l5 : View.ld x5 r1_3 = x5 := View.ld_unit_zero origin _ _
  unfold k1_pay20 k1_pay21 k1_pay22 k1_pay23 shares
  rw [l0, l2, l3, l4, l5]

theorem point_features (s : Fin 1024) (j : Fin 96) : out1_8 i x0 x1 x2 x3 x4 x5 x6 x7 (ix3 0 s j)
    = max (∑ k : Fin 12, x1 (ix3 0 s k) * x6 (ix2 j k)) 0 * shares x2 x3 x4 x0 x5 (ix2 s ⟨j.val / 12, by omega⟩) := by
  have l1 : View.ld x1 r1_4 = x1 := View.ld_unit_zero origin' _ _
  have l6 : View.ld x6 r1_5 = x6 := View.ld_unit_zero origin _ _
  unfold out1_8
  refine (congrFun (View.canon_cons_unit_zero origin' _ _ _) _).trans ?_
  rw [weighted_apply, lifted_apply, point_shares, l1, l6]

theorem point_table (s : Fin 1024) (k : Fin 16) : out1_9 i x0 x1 x2 x3 x4 x5 x6 x7 (ix3 0 s k) = entry (fun c => shares x2 x3 x4 x0 x5 (ix2 s c)) k := by
  unfold out1_9
  refine (congrFun (View.canon_cons_unit_zero origin' _ _ _) _).trans ?_
  rw [table_apply, point_shares]

theorem point_rows (s : Fin 1024) (k : Fin 16) : out1_10 i x0 x1 x2 x3 x4 x5 x6 x7 (ix3 0 s k) = IntOp.addi (x7 (ix3 0 s k)) (BitVec.ofNat 32 (i 0).val * 1024#32) := by
  have l7 : View.ld x7 r1_7 = x7 := View.ld_unit_zero origin' _ _
  unfold out1_10
  refine (congrFun (View.canon_cons_unit_zero origin' _ _ _) _).trans ?_
  rw [rows_apply, l7]
  rfl
end

/-! ## The arrays a point reads -/

variable (V : (c : Dev nD) → (b : Ref sig .tc) → Buf (Elt Ideal) ((c.tc : Thread nD τ).loc b)) (c : Dev nD)

theorem place0 : ∀ t : Fin cfg1.N, win1_0.index t = ![t.val, 0, 0] := (by decide +kernel : ∀ t : Fin grid1.N, win1_0.index t = ![t.val, 0, 0])
theorem place1 : ∀ t : Fin cfg1.N, win1_1.index t = ![t.val, 0, 0] := (by decide +kernel : ∀ t : Fin grid1.N, win1_1.index t = ![t.val, 0, 0])
theorem place2 : ∀ t : Fin cfg1.N, win1_2.index t = ![0, 0] := (by decide +kernel : ∀ t : Fin grid1.N, win1_2.index t = ![0, 0])
theorem place3 : ∀ t : Fin cfg1.N, win1_3.index t = ![0, 0] := (by decide +kernel : ∀ t : Fin grid1.N, win1_3.index t = ![0, 0])
theorem place4 : ∀ t : Fin cfg1.N, win1_4.index t = ![0, 0] := (by decide +kernel : ∀ t : Fin grid1.N, win1_4.index t = ![0, 0])
theorem place5 : ∀ t : Fin cfg1.N, win1_5.index t = ![0, 0] := (by decide +kernel : ∀ t : Fin grid1.N, win1_5.index t = ![0, 0])
theorem place6 : ∀ t : Fin cfg1.N, win1_6.index t = ![0, 0] := (by decide +kernel : ∀ t : Fin grid1.N, win1_6.index t = ![0, 0])
theorem place7 : ∀ t : Fin cfg1.N, win1_7.index t = ![t.val, 0, 0] := (by decide +kernel : ∀ t : Fin grid1.N, win1_7.index t = ![t.val, 0, 0])
theorem place8 : ∀ t : Fin cfg1.N, win1_8.index t = ![t.val, 0, 0] := (by decide +kernel : ∀ t : Fin grid1.N, win1_8.index t = ![t.val, 0, 0])
theorem place9 : ∀ t : Fin cfg1.N, win1_9.index t = ![t.val, 0, 0] := (by decide +kernel : ∀ t : Fin grid1.N, win1_9.index t = ![t.val, 0, 0])
theorem place10 : ∀ t : Fin cfg1.N, win1_10.index t = ![t.val, 0, 0] := (by decide +kernel : ∀ t : Fin grid1.N, win1_10.index t = ![t.val, 0, 0])
theorem point_number : ∀ t : Fin cfg1.N, (grid1.coords t 0).val = t.val := (by decide +kernel : ∀ t : Fin grid1.N, (grid1.coords t 0).val = t.val)

theorem read0 (t : Fin cfg1.N) (s : Fin 1024) (d : Fin 256) : iblk1 V c 0 t (ix3 0 s d) = V c main_arg0 (ix3 (⟨t.val, t.isLt⟩ : Fin 64) s d) := by
  blk_simp [iblk1]
  exact congrArg (V c main_arg0) (by blk_ext [place0])

theorem read1 (t : Fin cfg1.N) (s : Fin 1024) (k : Fin 12) : iblk1 V c 1 t (ix3 0 s k) = V c main_v0 (ix3 (⟨t.val, t.isLt⟩ : Fin 64) s k) := by
  blk_simp [iblk1]
  exact congrArg (V c main_v0) (by blk_ext [place1])

theorem read2 (t : Fin cfg1.N) (s : Fin 1024) (k : Fin 2) : iblk1 V c 2 t (ix2 s k) = V c main_v4 (ix2 s k) := by
  blk_simp [iblk1]
  exact congrArg (V c main_v4) (by blk_ext [place2])

theorem read3 (t : Fin cfg1.N) (s : Fin 1024) : iblk1 V c 3 t (ix2 s 0) = V c main_v2 (ix2 s 0) := by
  blk_simp [iblk1]
  exact congrArg (V c main_v2) (by blk_ext [place3])

theorem read4 (t : Fin cfg1.N) (s : Fin 1024) : iblk1 V c 4 t (ix2 s 0) = V c main_v3 (ix2 s 0) := by
  blk_simp [iblk1]
  exact congrArg (V c main_v3) (by blk_ext [place4])

theorem read5 (t : Fin cfg1.N) (k : Fin 8) (d : Fin 256) : iblk1 V c 5 t (ix2 k d) = V c main_arg2 (ix2 k d) := by
  blk_simp [iblk1]
  exact congrArg (V c main_arg2) (by blk_ext [place5])

theorem read6 (t : Fin cfg1.N) (j : Fin 96) (k : Fin 12) : iblk1 V c 6 t (ix2 j k) = V c main_v1 (ix2 j k) := by
  blk_simp [iblk1]
  exact congrArg (V c main_v1) (by blk_ext [place6])

theorem read7 (t : Fin cfg1.N) (s : Fin 1024) (k : Fin 16) : iblk1 V c 7 t (ix3 0 s k) = V c main_arg6 (ix3 (⟨t.val, t.isLt⟩ : Fin 64) s k) := by
  blk_simp [iblk1]
  exact congrArg (V c main_arg6) (by blk_ext [place7])

/-! ## The results -/

/-- A sample's series times the weights of one output, below cut off at zero. -/
def lifted (v : Vec Ideal S64x1024x12 .f32) (u : Vec Ideal S96x12 .f32) (b : Fin 64) (s : Fin 1024) (j : Fin 96) : EReal :=
  max (∑ k : Fin 12, v (ix3 b s k) * u (ix2 j k)) 0

/-- The same, weighted with the share of the output's centroid. -/
def weighted (v : Vec Ideal S64x1024x12 .f32) (u : Vec Ideal S96x12 .f32) (f : Fin 64 → Fin 1024 → Fin 8 → EReal) (b : Fin 64) (s : Fin 1024) (j : Fin 96) : EReal :=
  lifted v u b s j * f b s ⟨j.val / 12, by omega⟩

/-- A neighbour's row in the table of all samples. -/
def rowOf (v : Vec Ideal S64x1024x16 .i32) (b : Fin 64) (s : Fin 1024) (k : Fin 16) : BitVec 32 := IntOp.addi (v (ix3 b s k)) (BitVec.ofNat 32 b.val * 1024#32)

theorem lifted_congr (v : Vec Ideal S1x1024x12 .f32) (u : Vec Ideal S96x12 .f32) (v' : Vec Ideal S64x1024x12 .f32) (u' : Vec Ideal S96x12 .f32)
    (b : Fin 64) (s : Fin 1024) (j : Fin 96) (hv : ∀ k, v (ix3 0 s k) = v' (ix3 b s k)) (hu : ∀ k, u (ix2 j k) = u' (ix2 j k)) :
    max (∑ k : Fin 12, v (ix3 0 s k) * u (ix2 j k)) 0 = lifted v' u' b s j := by
  simp only [hv, hu, lifted]

section
variable (x : Fin 64 → Fin 1024 → Fin 256 → ℝ) (g : Fin 1024 → ℝ) (h : Fin 1024 → EReal) (e : Fin 8 → Fin 256 → ℝ)
  (hx : ∀ (b : Fin 64) (s : Fin 1024) (d : Fin 256), V c main_arg0 (ix3 b s d) = (x b s d : EReal))
  (h0 : ∀ s : Fin 1024, V c main_v4 (ix2 s (0 : Fin 2)) = (sum x s : EReal)) (h1 : ∀ s : Fin 1024, V c main_v4 (ix2 s (1 : Fin 2)) = (squares x s : EReal))
  (hg : ∀ s : Fin 1024, V c main_v2 (ix2 s (0 : Fin 1)) = (g s : EReal)) (hh : ∀ s : Fin 1024, V c main_v3 (ix2 s (0 : Fin 1)) = h s)
  (he : ∀ (k : Fin 8) (d : Fin 256), V c main_arg2 (ix2 k d) = (e k d : EReal))

include hx h0 h1 hg hh he in
theorem shares_at (t : Fin cfg1.N) (s : Fin 1024) (k : Fin 8) :
    shares (iblk1 V c 2 t) (iblk1 V c 3 t) (iblk1 V c 4 t) (iblk1 V c 0 t) (iblk1 V c 5 t) (ix2 s k) = share x g h e (⟨t.val, t.isLt⟩ : Fin 64) s k :=
  shares_apply _ _ _ _ _ x g h e _ (fun s => (read2 V c t s 0).trans (h0 s)) (fun s => (read2 V c t s 1).trans (h1 s)) (fun s => (read3 V c t s).trans (hg s))
    (fun s => (read4 V c t s).trans (hh s)) (fun s d => (read0 V c t s d).trans (hx _ s d)) (fun k d => (read5 V c t k d).trans (he k d)) s k

include hx h0 h1 hg hh he in
/-- The weighted features. -/
theorem features_result : (dat1 V c).arrAt 8 cfg1.N = fun y : S64x1024x96.Idx =>
    weighted (V c main_v0) (V c main_v1) (share x g h e) (y 0) (y 1) (y 2) := by
  refine (dat1 V c).arrAt_eq_of_covers 8 _ (by decide +kernel) fun t hf y => ?_
  blk_simp
  rw [after1_8]
  have ey : y = ix3 (0 : Fin 1) (y 1 : Fin 1024) (y 2 : Fin 96) := by
    funext a; fin_cases a
    · exact Subsingleton.elim (α := Fin 1) _ _
    · rfl
    · rfl
  refine (congrArg (out1_8 _ _ _ _ _ _ _ _ _) ey).trans ((point_features _ _ _ _ _ _ _ _ _ _ _).trans ?_)
  have y0 : (win1_8.blk t).view.emb y 0 = (⟨t.val, t.isLt⟩ : Fin 64) := Fin.ext (by blk_simp [place8])
  have y1 : (win1_8.blk t).view.emb y 1 = (y 1 : Fin 1024) := Fin.ext (by blk_simp [place8])
  have y2 : (win1_8.blk t).view.emb y 2 = (y 2 : Fin 96) := Fin.ext (by blk_simp [place8])
  rw [y0, y1, y2]
  exact congrArg₂ (fun a b : EReal => a * b) (lifted_congr _ _ (V c main_v0) (V c main_v1) (⟨t.val, t.isLt⟩ : Fin 64) (y 1) (y 2) (read1 V c t _) (read6 V c t _))
    (shares_at V c x g h e hx h0 h1 hg hh he t (y 1) _)

include hx h0 h1 hg hh he in
/-- The table. -/
theorem table_result : (dat1 V c).arrAt 9 cfg1.N = fun y : S64x1024x16.Idx => entry (share x g h e (y 0) (y 1)) (y 2) := by
  refine (dat1 V c).arrAt_eq_of_covers 9 _ (by decide +kernel) fun t hf y => ?_
  blk_simp
  rw [after1_9]
  have ey : y = ix3 (0 : Fin 1) (y 1 : Fin 1024) (y 2 : Fin 16) := by
    funext a; fin_cases a
    · exact Subsingleton.elim (α := Fin 1) _ _
    · rfl
    · rfl
  refine (congrArg (out1_9 _ _ _ _ _ _ _ _ _) ey).trans ((point_table _ _ _ _ _ _ _ _ _ _ _).trans ?_)
  have y0 : (win1_9.blk t).view.emb y 0 = (⟨t.val, t.isLt⟩ : Fin 64) := Fin.ext (by blk_simp [place9])
  have y1 : (win1_9.blk t).view.emb y 1 = (y 1 : Fin 1024) := Fin.ext (by blk_simp [place9])
  have y2 : (win1_9.blk t).view.emb y 2 = (y 2 : Fin 16) := Fin.ext (by blk_simp [place9])
  rw [y0, y1, y2]
  exact congrArg (fun f => entry f (y 2)) (funext fun k => shares_at V c x g h e hx h0 h1 hg hh he t (y 1) k)
end

/-- The row numbers. -/
theorem rows_result : (dat1 V c).arrAt 10 cfg1.N = fun y : S64x1024x16.Idx => rowOf (V c main_arg6) (y 0) (y 1) (y 2) := by
  refine (dat1 V c).arrAt_eq_of_covers 10 _ (by decide +kernel) fun t hf y => ?_
  blk_simp
  rw [after1_10]
  have ey : y = ix3 (0 : Fin 1) (y 1 : Fin 1024) (y 2 : Fin 16) := by
    funext a; fin_cases a
    · exact Subsingleton.elim (α := Fin 1) _ _
    · rfl
    · rfl
  refine (congrArg (out1_10 _ _ _ _ _ _ _ _ _) ey).trans ((point_rows _ _ _ _ _ _ _ _ _ _ _).trans ?_)
  have y0 : (win1_10.blk t).view.emb y 0 = (⟨t.val, t.isLt⟩ : Fin 64) := Fin.ext (by blk_simp [place10])
  have y1 : (win1_10.blk t).view.emb y 1 = (y 1 : Fin 1024) := Fin.ext (by blk_simp [place10])
  have y2 : (win1_10.blk t).view.emb y 2 = (y 2 : Fin 16) := Fin.ext (by blk_simp [place10])
  rw [point_number, y0, y1, y2]
  exact congrArg (fun w => IntOp.addi w (BitVec.ofNat 32 t.val * 1024#32)) (read7 V c t (y 1) (y 2))

end Cert.Proof.Prepare
-- ==== Proof.PrepareReference.lean ====
module
public import proofs.«01_k».proof.Proof.Gen.PrepareReferenceIdeal.Run
public import proofs.«01_k».proof.Proof.PrepareNumbers
/-!
# What the reference of the first two calls computes

The reference takes the variance from the differences to the mean, and the squared distances from the products of two
padded arrays.
-/

@[expose] public section
set_option maxRecDepth 16384
noncomputable section
namespace Cert.Proof.Prepare
open Idealize.ShloMosaic Idealize.ShloMosaic.TcCoe Idealize.ShloMosaic.Tactic
open Cert.PrepareReferenceIdeal Cert.PrepareReferenceIdeal.Gen Cert.Proof.Reduce

/-- A sum over the samples and the features of a sensor. -/
theorem sum_both (a : FVec Ideal S64x1024x256 .f32) (y : Fin 64 → Fin 1024 → Fin 256 → ℝ) (h : ∀ b s d, a (ix3 b s d) = (y b s d : EReal)) (s : Fin 1024) :
    Ideal.hostReduceAdd reducesTo_S64x1024x256_S1024_d0_2 a 0 (ix1 s) = ((∑ b, ∑ d, y b s d : ℝ) : EReal) := by
  unfold Ideal.hostReduceAdd
  rw [zero_add]
  have e : ∀ i : S64x1024x256.Idx, reducesTo_S64x1024x256_S1024_d0_2.drop i = ix1 s ↔ i 1 = s := fun i => by
    constructor
    · intro h
      exact Fin.ext (congrArg Fin.val (congrFun h 0))
    · intro h
      funext b
      obtain rfl : b = 0 := Subsingleton.elim _ _
      exact Fin.ext (congrArg Fin.val h)
  refine Eq.trans (Finset.sum_bij' (t := (Finset.univ : Finset (Fin 64 × Fin 256))) (g := fun p => ((y p.1 s p.2 : ℝ) : EReal))
    (fun i _ => (i 0, i 2)) (fun p _ => ix3 p.1 s p.2) (fun _ _ => Finset.mem_univ _) (fun p _ => Finset.mem_filter.2 ⟨Finset.mem_univ _, (e _).2 rfl⟩) ?_ (fun _ _ => rfl) ?_) ?_
  · intro i hi
    have hs : i 1 = s := (e i).1 (Finset.mem_filter.1 hi).2
    funext k
    fin_cases k
    · rfl
    · exact hs.symm
    · rfl
  · intro i hi
    have hs : i 1 = s := (e i).1 (Finset.mem_filter.1 hi).2
    rw [← hs]
    refine Eq.trans (congrArg a ?_) (h (i 0) (i 1) (i 2))
    funext k
    fin_cases k <;> rfl
  · rw [sum_coe, Fintype.sum_prod_type]

/-- The mean of each sensor. -/
def refMean (a0 : FVec Ideal S64x1024x256 .f32) : FVec Ideal S1x1024x1 .f32 :=
  Host.divf (broadcastInDim S1x1024x1 ![1] bcast_S1024_S1x1024x1_1 (Host.reduceAdd a0 (constant S_ .f32 0x00000000#32) reducesTo_S64x1024x256_S1024_d0_2 h_S_)) (broadcastInDim S1x1024x1 ![] bcast_S_S1x1024x1 (constant S_ .f32 0x46800000#32))

/-- The differences from the mean. -/
def refOff (a0 : FVec Ideal S64x1024x256 .f32) : FVec Ideal S64x1024x256 .f32 :=
  subf a0 (broadcastInDim S64x1024x256 ![0, 1, 2] bcast_S1x1024x1_S64x1024x256_0_1_2 (refMean a0))

/-- The number of features of a sensor. -/
def refCount : FVec Ideal S_ .f32 := subf (constant S_ .f32 0x46800000#32) (sitofp .f32 (constantI S_ 32 0#32))

/-- The variance of each sensor. -/
def refVariance (a0 : FVec Ideal S64x1024x256 .f32) : FVec Ideal S1x1024x1 .f32 :=
  select (broadcastInDim S1x1024x1 ![] bcast_S_S1x1024x1 (cmpf .ogt refCount (constant S_ .f32 0x00000000#32))) (Host.divf (broadcastInDim S1x1024x1 ![1] bcast_S1024_S1x1024x1_1 (Host.reduceAdd (mulf (refOff a0) (refOff a0)) (constant S_ .f32 0x00000000#32) reducesTo_S64x1024x256_S1024_d0_2 h_S_)) (broadcastInDim S1x1024x1 ![] bcast_S_S1x1024x1 refCount)) (broadcastInDim S1x1024x1 ![] bcast_S_S1x1024x1 (id (constant S_ .f32 0x7FC00000#32)))

/-- The normalized features. -/
def refNormed (a0 : FVec Ideal S64x1024x256 .f32) (a4 a5 : FVec Ideal S1024 .f32) : FVec Ideal S64x1024x256 .f32 :=
  addf (mulf (Host.divf (refOff a0) (broadcastInDim S64x1024x256 ![0, 1, 2] bcast_S1x1024x1_S64x1024x256_0_1_2 (Host.sqrt (addf (refVariance a0) (broadcastInDim S1x1024x1 ![] bcast_S_S1x1024x1 (constant S_ .f32 0x3727C5AC#32)))))) (broadcastInDim S64x1024x256 ![0, 1, 2] bcast_S1x1024x1_S64x1024x256_0_1_2 (broadcastInDim S1x1024x1 ![1] bcast_S1024_S1x1024x1_1 a4))) (broadcastInDim S64x1024x256 ![0, 1, 2] bcast_S1x1024x1_S64x1024x256_0_1_2 (broadcastInDim S1x1024x1 ![1] bcast_S1024_S1x1024x1_1 a5))

/-- The mean of each sample over the sensors. -/
def refCentre (y : FVec Ideal S64x1024x256 .f32) : FVec Ideal S64x1x256 .f32 :=
  Host.divf (broadcastInDim S64x1x256 ![0, 2] bcast_S64x256_S64x1x256_0_2 (Host.reduceAdd y (constant S_ .f32 0x00000000#32) reducesTo_S64x1024x256_S64x256_d1 h_S_)) (broadcastInDim S64x1x256 ![] bcast_S_S64x1x256 (constant S_ .f32 0x44800000#32))

def refLeft (y : FVec Ideal S64x1024x256 .f32) : FVec Ideal S64x1024x256 .f32 :=
  subf y (broadcastInDim S64x1024x256 ![0, 1, 2] bcast_S64x1x256_S64x1024x256_0_1_2 (refCentre y))

def refRight (y : FVec Ideal S64x1024x256 .f32) (a2 : FVec Ideal S8x256 .f32) : FVec Ideal S64x8x256 .f32 :=
  subf (broadcastInDim S64x8x256 ![0, 1, 2] bcast_S1x8x256_S64x8x256_0_1_2 (broadcastInDim S1x8x256 ![1, 2] bcast_S8x256_S1x8x256_1_2 a2)) (broadcastInDim S64x8x256 ![0, 1, 2] bcast_S64x1x256_S64x8x256_0_1_2 (refCentre y))

/-- The squared distances, as the products of two padded arrays. -/
def refFar (u : FVec Ideal S64x1024x256 .f32) (v : FVec Ideal S64x8x256 .f32) : FVec Ideal S64x1024x8 .f32 :=
  Host.dotGeneral dot_S64x1024x258_S64x258x8_S64x1024x8_2_1_1_2_0_0 none
    (concatenate S64x1024x258 2 [⟨S64x1024x256, mulf (broadcastInDim S64x1024x256 ![] bcast_S_S64x1024x256 (constant S_ .f32 0xC0000000#32)) u⟩, ⟨S64x1024x1, broadcastInDim S64x1024x1 ![0, 1] bcast_S64x1024_S64x1024x1_0_1 (Host.reduceAdd (mulf u u) (constant S_ .f32 0x00000000#32) reducesTo_S64x1024x256_S64x1024_d2 h_S_)⟩, ⟨S64x1024x1, broadcastInDim S64x1024x1 ![] bcast_S_S64x1024x1 (constant S_ .f32 0x3F800000#32)⟩] concatenates_S64x1024x256_S64x1024x1_S64x1024x1_S64x1024x258_d2 : FVec Ideal S64x1024x258 .f32)
    (transpose S64x258x8 [0, 2, 1] (concatenate S64x8x258 2 [⟨S64x8x256, v⟩, ⟨S64x8x1, broadcastInDim S64x8x1 ![] bcast_S_S64x8x1 (constant S_ .f32 0x3F800000#32)⟩, ⟨S64x8x1, broadcastInDim S64x8x1 ![0, 1] bcast_S64x8_S64x8x1_0_1 (Host.reduceAdd (mulf v v) (constant S_ .f32 0x00000000#32) reducesTo_S64x8x256_S64x8_d2 h_S_)⟩] concatenates_S64x8x256_S64x8x1_S64x8x1_S64x8x258_d2 : FVec Ideal S64x8x258 .f32) transposes_S64x8x258_S64x258x8_0_2_1 : FVec Ideal S64x258x8 .f32)

/-- The distances. -/
def refApart (q : FVec Ideal S64x1024x8 .f32) : FVec Ideal S64x1024x8 .f32 :=
  Host.sqrt (maximumf (broadcastInDim S64x1024x8 ![] bcast_S_S64x1024x8 (id (constant S_ .f32 0x0DA24260#32))) q)

/-- The exponentials of the distances with their maximum taken away. -/
def refRaised (y : FVec Ideal S64x1024x8 .f32) : FVec Ideal S64x1024x8 .f32 :=
  Host.exp (subf y (broadcastInDim S64x1024x8 ![0, 1, 2] bcast_S64x1024x1_S64x1024x8_0_1_2 (broadcastInDim S64x1024x1 ![0, 1] bcast_S64x1024_S64x1024x1_0_1 (maximumf (broadcastInDim S64x1024 ![] bcast_S_S64x1024 (constant S_ .f32 0xFF800000#32)) (Host.reduce FloatOps.maximumf y (constant S_ .f32 0xFF800000#32) reducesTo_S64x1024x8_S64x1024_d2 h_S_)))))

/-- The softmax. -/
def refShares (y : FVec Ideal S64x1024x8 .f32) : FVec Ideal S64x1024x8 .f32 :=
  Host.divf (refRaised y) (broadcastInDim S64x1024x8 ![0, 1, 2] bcast_S64x1024x1_S64x1024x8_0_1_2 (broadcastInDim S64x1024x1 ![0, 1] bcast_S64x1024_S64x1024x1_0_1 (Host.reduceAdd (refRaised y) (constant S_ .f32 0x00000000#32) reducesTo_S64x1024x8_S64x1024_d2 h_S_)))

/-- The shares from the arguments. -/
def refAll (a0 : FVec Ideal S64x1024x256 .f32) (a2 : FVec Ideal S8x256 .f32) (a4 a5 : FVec Ideal S1024 .f32) : FVec Ideal S64x1024x8 .f32 :=
  refShares (refApart (refFar (refLeft (refNormed a0 a4 a5)) (refRight (refNormed a0 a4 a5) a2)))

section
variable (V0 : Valuation τ sig (Elt Ideal))

theorem text_normed : Value.res_main_v17 V0 = refNormed (V0 (Proc.devRef .tc main_arg0)) (V0 (Proc.devRef .tc main_arg4)) (V0 (Proc.devRef .tc main_arg5)) := rfl

theorem text_left : Value.res_main_v23 V0 = refLeft (Value.res_main_v17 V0) := rfl

theorem text_right : Value.res_main_v27 V0 = refRight (Value.res_main_v17 V0) (V0 (Proc.devRef .tc main_arg2)) := rfl

theorem text_apart : Value.res_main_v43 V0 = refApart (refFar (Value.res_main_v23 V0) (Value.res_main_v27 V0)) := rfl

theorem text_shares : Value.res_main_v54 V0 = refShares (Value.res_main_v43 V0) := rfl

theorem text_all : Value.res_main_v54 V0 = refAll (V0 (Proc.devRef .tc main_arg0)) (V0 (Proc.devRef .tc main_arg2)) (V0 (Proc.devRef .tc main_arg4)) (V0 (Proc.devRef .tc main_arg5)) := by
  rw [text_shares, text_apart, text_left, text_right, text_normed, refAll]
end

section
variable (a0 : FVec Ideal S64x1024x256 .f32) (a2 : FVec Ideal S8x256 .f32) (a4 a5 : FVec Ideal S1024 .f32)
  (x : Fin 64 → Fin 1024 → Fin 256 → ℝ) (g : Fin 1024 → ℝ) (h : Fin 1024 → EReal) (e : Fin 8 → Fin 256 → ℝ)
  (hx : ∀ b s d, a0 (ix3 b s d) = (x b s d : EReal)) (hg : ∀ s, a4 (ix1 s) = (g s : EReal)) (hh : ∀ s, a5 (ix1 s) = h s)
  (he : ∀ c d, a2 (ix2 c d) = (e c d : EReal))

include hx in
theorem refMean_apply (s : Fin 1024) : refMean a0 (ix3 0 s 0) = (mean x s : EReal) := by
  pointwise [refMean]
  rw [sum_both a0 x hx, word_count, Ideal.div_coe (by norm_num), ← EReal.coe_mul]
  rfl

include hx in
theorem refOff_apply (b : Fin 64) (s : Fin 1024) (d : Fin 256) : refOff a0 (ix3 b s d) = ((x b s d - mean x s : ℝ) : EReal) := by
  pointwise [refOff]
  rw [refMean_apply a0 x hx, hx, ← EReal.coe_sub]

theorem refCount_value (z) : refCount z = ((16384 : ℝ) : EReal) := by
  pointwise [refCount]
  rw [word_count]
  show _ - (((0 : ℤ) : ℝ) : EReal) = _
  simp

include hx in
theorem refVariance_apply (s : Fin 1024) : refVariance a0 (ix3 0 s 0) = (variance x s : EReal) := by
  pointwise [refVariance]
  rw [refCount_value, if_pos (by rw [← EReal.coe_zero, EReal.coe_lt_coe_iff]; norm_num),
    sum_both _ (fun b s d => (x b s d - mean x s) * (x b s d - mean x s)) (fun b s d => by
      pointwise []
      rw [refOff_apply a0 x hx, ← EReal.coe_mul]) s,
    Ideal.div_coe (by norm_num), ← EReal.coe_mul, variance_eq]

theorem sqrt_pos_coe {r : ℝ} (h : 0 < r) : Ideal.sqrt (r : EReal) = ((Real.sqrt r : ℝ) : EReal) := by
  show (if r < 0 then (⊥ : EReal) else ((Real.sqrt r : ℝ) : EReal)) = _
  rw [if_neg (not_lt.2 h.le)]

include hx hg hh in
theorem refNormed_apply (b : Fin 64) (s : Fin 1024) (d : Fin 256) : refNormed a0 a4 a5 (ix3 b s d) = normed x g h b s d := by
  pointwise [refNormed]
  rw [refOff_apply a0 x hx, refVariance_apply a0 x hx, hg, hh, word_small, ← EReal.coe_add]
  have q := sqrt_pos_coe (spread_pos x s)
  have n := (Real.sqrt_pos.2 (spread_pos x s)).ne'
  rw [spread] at q n
  rw [q, Ideal.div_coe n, ← EReal.coe_mul, ← EReal.coe_mul]
  rfl
end

section
variable (y : FVec Ideal S64x1024x256 .f32) (a2 : FVec Ideal S8x256 .f32) (x : Fin 64 → Fin 1024 → Fin 256 → ℝ) (g : Fin 1024 → ℝ) (h : Fin 1024 → EReal) (e : Fin 8 → Fin 256 → ℝ)
  (hy : ∀ b s d, y (ix3 b s d) = normed x g h b s d) (he : ∀ c d, a2 (ix2 c d) = (e c d : EReal))

include hy in
theorem refCentre_apply (b : Fin 64) (d : Fin 256) : refCentre y (ix3 b 0 d) = centre x g h b d := by
  pointwise [refCentre]
  simp only [hy, word_sensor]
  rfl

include hy in
theorem refLeft_apply (b : Fin 64) (s : Fin 1024) (d : Fin 256) : refLeft y (ix3 b s d) = left x g h b s d := by
  pointwise [refLeft]
  rw [refCentre_apply y x g h hy, hy]
  rfl

include hy he in
theorem refRight_apply (b : Fin 64) (c : Fin 8) (d : Fin 256) : refRight y a2 (ix3 b c d) = right x g h e b c d := by
  pointwise [refRight]
  rw [refCentre_apply y x g h hy, he]
  rfl
end

theorem refFar_apply (p : FVec Ideal S64x1024x256 .f32) (q : FVec Ideal S64x8x256 .f32) (u v : Fin 256 → EReal) (b : Fin 64) (s : Fin 1024) (c : Fin 8)
    (hu : ∀ d, p (ix3 b s d) = u d) (hv : ∀ d, q (ix3 b c d) = v d) : refFar p q (ix3 b s c) = far' u v := by
  pointwise [refFar]
  simp only [hu, hv, word_neg_two]
  rw [Fin.sum_univ_castSucc, Fin.sum_univ_castSucc]
  have h1 : ∀ k : Fin 256, ((Fin.castSucc (Fin.castSucc k) : Fin 258) : ℕ) = k.val := fun _ => rfl
  have h2 : ((Fin.castSucc (Fin.last 256) : Fin 258) : ℕ) = 256 := rfl
  have h3 : ((Fin.last 257 : Fin 258) : ℕ) = 257 := rfl
  simp only [h1, h2, h3, Fin.is_lt, dif_pos, Nat.lt_irrefl, dif_neg, not_false_eq_true, Nat.sub_self, Nat.zero_lt_one, Fin.eta,
    show ¬ (257 < 256) by decide, show ¬ (257 - 256 < 1) by decide, one_mul, mul_one]
  rfl

theorem refShares_apply (q : FVec Ideal S64x1024x8 .f32) (b : Fin 64) (s : Fin 1024) (f : Fin 8 → EReal) (h : ∀ c, q (ix3 b s c) = f c) (c : Fin 8) :
    refShares (refApart q) (ix3 b s c) = soft (fun c => Ideal.sqrt (max (Ideal.ofBits FTy.f32 0x0DA24260#32) (f c))) c := by
  pointwise [refShares, refRaised, refApart]
  simp only [h, Final.bits_bot, max_bot_left]
  rfl

theorem refAll_apply (a0 : FVec Ideal S64x1024x256 .f32) (a2 : FVec Ideal S8x256 .f32) (a4 a5 : FVec Ideal S1024 .f32)
    (x : Fin 64 → Fin 1024 → Fin 256 → ℝ) (g : Fin 1024 → ℝ) (h : Fin 1024 → EReal) (e : Fin 8 → Fin 256 → ℝ)
    (hx : ∀ b s d, a0 (ix3 b s d) = (x b s d : EReal)) (hg : ∀ s, a4 (ix1 s) = (g s : EReal)) (hh : ∀ s, a5 (ix1 s) = h s)
    (he : ∀ c d, a2 (ix2 c d) = (e c d : EReal)) (b : Fin 64) (s : Fin 1024) (c : Fin 8) : refAll a0 a2 a4 a5 (ix3 b s c) = share x g h e b s c :=
  have hy := refNormed_apply a0 a4 a5 x g h hx hg hh
  refShares_apply _ b s (far x g h e b s) (fun c => (refFar_apply _ _ (left x g h b s) (right x g h e b c) b s c (refLeft_apply _ x g h hy b s)
    (refRight_apply _ a2 x g h e hy he b c)).trans (far_same x g h e b s c)) c

end Cert.Proof.Prepare
-- ==== Proof.PrepareOutputs.lean ====
module
public import proofs.«01_k».proof.Proof.PrepareDense
public import proofs.«01_k».proof.Proof.PrepareReference
/-!
# The three results of the reference of the first two calls

From the shares, the reference's results at an index are the kernel's.
-/

@[expose] public section
set_option maxRecDepth 16384
noncomputable section
namespace Cert.Proof.Prepare
open Idealize.ShloMosaic Idealize.ShloMosaic.TcCoe Idealize.ShloMosaic.Tactic
open Cert.PrepareReferenceIdeal Cert.PrepareReferenceIdeal.Gen Cert.Proof.Reduce

/-- The weighted features. -/
def refWeighted (a1 : FVec Ideal S64x1x1024x12 .f32) (a3 : FVec Ideal S8x12x12 .f32) (f : FVec Ideal S64x1024x8 .f32) : FVec Ideal S64x1024x96 .f32 :=
  shapeCast S64x1024x96 (mulf (maximumf (Host.dotGeneral dot_S64x1024x12_S8x12x12_S64x1024x8x12_2_2_01_01_n_n none (shapeCast S64x1024x12 a1 shapeCasts_S64x1x1024x12_S64x1024x12) a3) (broadcastInDim S64x1024x8x12 ![] bcast_S_S64x1024x8x12 (constant S_ .f32 0x00000000#32))) (broadcastInDim S64x1024x8x12 ![0, 1, 2, 3] bcast_S64x1024x8x1_S64x1024x8x12_0_1_2_3 (broadcastInDim S64x1024x8x1 ![0, 1, 2] bcast_S64x1024x8_S64x1024x8x1_0_1_2 f))) shapeCasts_S64x1024x8x12_S64x1024x96

/-- The table. -/
def refTable (f : FVec Ideal S64x1024x8 .f32) : FVec Ideal S64x1024x16 .f32 :=
  concatenate S64x1024x16 2 [⟨S64x1024x8, f⟩, ⟨S64x1024x8, (broadcastInDim S64x1024x8 ![] bcast_S_S64x1024x8 (constant S_ .f32 0xF149F2CA#32))⟩] concatenates_S64x1024x8_S64x1024x8_S64x1024x16_d2

/-- The row numbers. -/
def refRows (a6 : IVec S64x1024x16 32) : IVec S64x1024x16 32 :=
  addi a6 (broadcastInDim S64x1024x16 ![0, 1, 2] bcast_S64x1x1_S64x1024x16_0_1_2 (muli (broadcastInDim S64x1x1 ![0] bcast_S64_S64x1x1_0 (iotaInDim S64 32 0)) (broadcastInDim S64x1x1 ![] bcast_S_S64x1x1 (constantI S_ 32 1024#32))))

theorem refWeighted_apply (a1 : FVec Ideal S64x1x1024x12 .f32) (a3 : FVec Ideal S8x12x12 .f32) (f : FVec Ideal S64x1024x8 .f32) (b : Fin 64) (s : Fin 1024) (j : Fin 96) :
    refWeighted a1 a3 f (ix3 b s j) = weighted (shapeCast S64x1024x12 a1 shapeCasts_S64x1x1024x12_S64x1024x12)
      (shapeCast Cert.PrepareIdeal.S96x12 a3 Cert.PrepareIdeal.Gen.shapeCasts_S8x12x12_S96x12) (fun b s c => f (ix3 b s c)) b s j := by
  pointwise [refWeighted, weighted, lifted]

theorem refTable_apply (f : FVec Ideal S64x1024x8 .f32) (b : Fin 64) (s : Fin 1024) (k : Fin 16) : refTable f (ix3 b s k) = entry (fun c => f (ix3 b s c)) k := by
  pointwise [refTable]
  rfl

theorem refRows_apply (a6 : IVec S64x1024x16 32) (b : Fin 64) (s : Fin 1024) (k : Fin 16) : refRows a6 (ix3 b s k) = rowOf a6 b s k := by
  pointwise [refRows]
  rfl

end Cert.Proof.Prepare
-- ==== Proof.PrepareResults.lean ====
module
public import proofs.«01_k».proof.Defs
public import proofs.«01_k».proof.Proof.FinalValue
public import proofs.«01_k».proof.Proof.PrepareOutputs
public import proofs.«01_k».proof.Proof.Gen.Pre_measured
/-!
# The first two calls: the kernel's results are the reference's

The precondition says that the features, the centroids and the scales are real numbers. The shifts may be infinite.
-/

@[expose] public section
noncomputable section
namespace Cert.Proof.Prepare
open Idealize.ShloMosaic Cert.Proof.Reduce
set_option maxRecDepth 16384

instance : Subsingleton (Cert.Pre_measured.S_ : Shape).Idx := ⟨fun a b => funext fun k => k.elim0⟩

/-- The precondition, entry by entry. -/
theorem of_pre [Cert.Pre_measured.Facts] (a0 : FVec Ideal Cert.Pre_measured.S64x1024x256 .f32) (a1 : FVec Ideal Cert.Pre_measured.S64x1x1024x12 .f32)
    (a2 : FVec Ideal Cert.Pre_measured.S8x256 .f32) (a3 : FVec Ideal Cert.Pre_measured.S8x12x12 .f32) (a4 a5 : FVec Ideal Cert.Pre_measured.S1024 .f32)
    (a6 : IVec Cert.Pre_measured.S64x1024x16 32) (h : Cert.Pre_measured.fn (F := Ideal) a0 a1 a2 a3 a4 a5 a6 = fun _ => 1#1) :
    (∀ j, ∃ r : ℝ, a0 j = (r : EReal)) ∧ (∀ j, ∃ r : ℝ, a2 j = (r : EReal)) ∧ ∀ j, ∃ r : ℝ, a4 j = (r : EReal) := by
  obtain ⟨h, h4⟩ := IntOp.andi_eq_one.1 (congrFun h (fun k => k.elim0))
  obtain ⟨h, h2⟩ := IntOp.andi_eq_one.1 h
  obtain ⟨_, h0⟩ := IntOp.andi_eq_one.1 h
  exact ⟨fun j => Final.real_of_cmp _ (Host.reduce_andi_all _ _ _ _ (fun k => k.elim0) h0 j),
    fun j => Final.real_of_cmp _ (Host.reduce_andi_all _ _ _ _ (fun k => k.elim0) h2 j),
    fun j => Final.real_of_cmp _ (Host.reduce_andi_all _ _ _ _ (fun k => k.elim0) h4 j)⟩

/-! ## The reference's results as arrays -/

section
variable (a0 : FVec Ideal Cert.PrepareReferenceIdeal.S64x1024x256 .f32) (a1 : FVec Ideal Cert.PrepareReferenceIdeal.S64x1x1024x12 .f32)
  (a2 : FVec Ideal Cert.PrepareReferenceIdeal.S8x256 .f32) (a3 : FVec Ideal Cert.PrepareReferenceIdeal.S8x12x12 .f32)
  (a4 a5 : FVec Ideal Cert.PrepareReferenceIdeal.S1024 .f32)
  (x : Fin 64 → Fin 1024 → Fin 256 → ℝ) (g : Fin 1024 → ℝ) (h : Fin 1024 → EReal) (e : Fin 8 → Fin 256 → ℝ)
  (hx : ∀ b s d, a0 (ix3 b s d) = (x b s d : EReal)) (hg : ∀ s, a4 (ix1 s) = (g s : EReal)) (hh : ∀ s, a5 (ix1 s) = h s)
  (he : ∀ c d, a2 (ix2 c d) = (e c d : EReal))

include hx hg hh he in
theorem refWeighted_value : refWeighted a1 a3 (refAll a0 a2 a4 a5) = fun y : Cert.PrepareIdeal.S64x1024x96.Idx =>
    weighted (shapeCast Cert.PrepareIdeal.S64x1024x12 a1 Cert.PrepareIdeal.Gen.shapeCasts_S64x1x1024x12_S64x1024x12)
      (shapeCast Cert.PrepareIdeal.S96x12 a3 Cert.PrepareIdeal.Gen.shapeCasts_S8x12x12_S96x12) (share x g h e) (y 0) (y 1) (y 2) := by
  funext y
  obtain ⟨b, s, j, rfl⟩ : ∃ (b : Fin 64) (s : Fin 1024) (j : Fin 96), y = ix3 b s j := ⟨y 0, y 1, y 2, by
    funext a; fin_cases a <;> rfl⟩
  rw [refWeighted_apply]
  simp only [refAll_apply a0 a2 a4 a5 x g h e hx hg hh he]
  rfl

include hx hg hh he in
theorem refTable_value : refTable (refAll a0 a2 a4 a5) = fun y : Cert.PrepareIdeal.S64x1024x16.Idx => entry (share x g h e (y 0) (y 1)) (y 2) := by
  funext y
  obtain ⟨b, s, k, rfl⟩ : ∃ (b : Fin 64) (s : Fin 1024) (k : Fin 16), y = ix3 b s k := ⟨y 0, y 1, y 2, by
    funext a; fin_cases a <;> rfl⟩
  rw [refTable_apply]
  simp only [refAll_apply a0 a2 a4 a5 x g h e hx hg hh he]
  rfl
end

theorem refRows_value (a6 : IVec Cert.PrepareReferenceIdeal.S64x1024x16 32) :
    refRows a6 = fun y : Cert.PrepareIdeal.S64x1024x16.Idx => rowOf a6 (y 0) (y 1) (y 2) := by
  funext y
  obtain ⟨b, s, k, rfl⟩ : ∃ (b : Fin 64) (s : Fin 1024) (k : Fin 16), y = ix3 b s k := ⟨y 0, y 1, y 2, by
    funext a; fin_cases a <;> rfl⟩
  exact refRows_apply a6 b s k

/-! ## The results of the kernel -/

open Cert.PrepareIdeal Cert.PrepareIdeal.Gen in
section
variable (m : (ℓ : Loc nD τ sig) → Buf (Elt Ideal) ℓ) (ρ : Dev nD → PrngReg) (c : Dev nD)
  (x : Fin 64 → Fin 1024 → Fin 256 → ℝ) (g : Fin 1024 → ℝ) (h : Fin 1024 → EReal) (e : Fin 8 → Fin 256 → ℝ)
  (hx : ∀ (b : Fin 64) (s : Fin 1024) (d : Fin 256), m ((c.tc : Thread nD τ).loc main_arg0) (ix3 b s d) = (x b s d : EReal))
  (hg : ∀ s : Fin 1024, m ((c.tc : Thread nD τ).loc main_arg4) (ix1 s) = (g s : EReal))
  (hh : ∀ s : Fin 1024, m ((c.tc : Thread nD τ).loc main_arg5) (ix1 s) = h s)
  (he : ∀ (k : Fin 8) (d : Fin 256), m ((c.tc : Thread nD τ).loc main_arg2) (ix2 k d) = (e k d : EReal))

include hx in
theorem found_sum (s : Fin 1024) (k : Fin 2) : V2 m ρ c main_v4 (ix2 s k) = ((∑ b, part (x b s) k : ℝ) : EReal) := by
  rw [found_totals, totals_result (V1 m ρ) c x fun b s d => ?_]
  · rfl
  · exact (congrFun (W1_args m ρ c main_arg0 (by decide)) _).trans (hx b s d)

/-- A column of one entry per sensor, from the array of the same entries. -/
theorem column_apply (a : FVec Ideal S1024 .f32) (s : Fin 1024) : shapeCast S1024x1 a shapeCasts_S1024_S1024x1 (ix2 s (0 : Fin 1)) = a (ix1 s) := by
  pointwise []

include hg in
theorem found_scale (s : Fin 1024) : V2 m ρ c main_v2 (ix2 s (0 : Fin 1)) = (g s : EReal) := by
  rw [found_v2]
  exact (column_apply _ s).trans (hg s)

include hh in
theorem found_shift (s : Fin 1024) : V2 m ρ c main_v3 (ix2 s (0 : Fin 1)) = h s := by
  rw [found_v3]
  exact (column_apply _ s).trans (hh s)

include hx in
theorem found_feature (b : Fin 64) (s : Fin 1024) (d : Fin 256) : V2 m ρ c main_arg0 (ix3 b s d) = (x b s d : EReal) :=
  (congrFun (found_arg m ρ c main_arg0 (by decide)) _).trans (hx b s d)

include he in
theorem found_centroid (k : Fin 8) (d : Fin 256) : V2 m ρ c main_arg2 (ix2 k d) = (e k d : EReal) :=
  (congrFun (found_arg m ρ c main_arg2 (by decide)) _).trans (he k d)

include hx hg hh he in
theorem kernel_weighted : (dat1 (V2 m ρ) c).arrAt 8 cfg1.N = fun y : S64x1024x96.Idx =>
    weighted (shapeCast S64x1024x12 (m ((c.tc : Thread nD τ).loc main_arg1)) shapeCasts_S64x1x1024x12_S64x1024x12)
      (shapeCast S96x12 (m ((c.tc : Thread nD τ).loc main_arg3)) shapeCasts_S8x12x12_S96x12) (share x g h e) (y 0) (y 1) (y 2) := by
  rw [features_result (V2 m ρ) c x g h e (found_feature m ρ c x hx) (fun s => found_sum m ρ c x hx s 0) (fun s => found_sum m ρ c x hx s 1)
    (found_scale m ρ c g hg) (found_shift m ρ c h hh) (found_centroid m ρ c e he), found_v0, found_v1]

include hx hg hh he in
theorem kernel_table : (dat1 (V2 m ρ) c).arrAt 9 cfg1.N = fun y : S64x1024x16.Idx => entry (share x g h e (y 0) (y 1)) (y 2) :=
  table_result (V2 m ρ) c x g h e (found_feature m ρ c x hx) (fun s => found_sum m ρ c x hx s 0) (fun s => found_sum m ρ c x hx s 1)
    (found_scale m ρ c g hg) (found_shift m ρ c h hh) (found_centroid m ρ c e he)

theorem kernel_rows : (dat1 (V2 m ρ) c).arrAt 10 cfg1.N = fun y : S64x1024x16.Idx => rowOf (m ((c.tc : Thread nD τ).loc main_arg6)) (y 0) (y 1) (y 2) := by
  rw [rows_result, found_arg m ρ c main_arg6 (by decide)]
end

open Cert.PrepareIdeal Cert.PrepareIdeal.Gen in
theorem value : Cert.algebraic_PrepareIdeal_PrepareReferenceIdeal_pre_measured (hPrepareIdeal := Cert.PrepareIdeal.Gen.facts)
    (hPrepareReferenceIdeal := Cert.PrepareReferenceIdeal.Gen.facts) (hPre_measured := Cert.Pre_measured.Gen.facts) := fun m ρ m' ρ' hp hm => by
  have h0 : ∀ c : Dev nD, ∀ j, ∃ r : ℝ, m ((c.tc : Thread nD τ).loc main_arg0) j = (r : EReal) := fun c => (@of_pre Cert.Pre_measured.Gen.facts _ _ _ _ _ _ _ (hp c)).1
  have h2 : ∀ c : Dev nD, ∀ j, ∃ r : ℝ, m ((c.tc : Thread nD τ).loc main_arg2) j = (r : EReal) := fun c => (@of_pre Cert.Pre_measured.Gen.facts _ _ _ _ _ _ _ (hp c)).2.1
  have h4 : ∀ c : Dev nD, ∀ j, ∃ r : ℝ, m ((c.tc : Thread nD τ).loc main_arg4) j = (r : EReal) := fun c => (@of_pre Cert.Pre_measured.Gen.facts _ _ _ _ _ _ _ (hp c)).2.2
  choose x hx using h0
  choose e he using h2
  choose g hg using h4
  refine ⟨fun c => (dat1 (V2 m ρ) c).arrAt 8 cfg1.N, fun c => (dat1 (V2 m ρ) c).arrAt 9 cfg1.N, fun c => (dat1 (V2 m ρ) c).arrAt 10 cfg1.N,
    run m ρ, (θ_run Cert.PrepareReferenceIdeal.defs _ _).mono (fun q h c => ?_) (Cert.PrepareReferenceIdeal.Value.run (F := Ideal) m' ρ')⟩
  obtain ⟨e0, e1, e2, e3, e4, e5, e6⟩ := hm c
  refine ⟨(h c).1.trans ?_, (h c).2.1.trans ?_, (h c).2.2.1.trans ?_, (h c).2.2.2⟩
  · show _ = (dat1 (V2 m ρ) c).arrAt 8 cfg1.N
    rw [kernel_weighted m ρ c (fun b s d => x c (ix3 b s d)) (fun s => g c (ix1 s)) (fun s => m ((c.tc : Thread nD τ).loc main_arg5) (ix1 s)) (fun k d => e c (ix2 k d))
      (fun b s d => hx c _) (fun s => hg c _) (fun s => rfl) (fun k d => he c _), text_all]
    show refWeighted (m' ((c.tc : Thread Cert.PrepareReferenceIdeal.nD Cert.PrepareReferenceIdeal.τ).loc Cert.PrepareReferenceIdeal.main_arg1))
      (m' ((c.tc : Thread Cert.PrepareReferenceIdeal.nD Cert.PrepareReferenceIdeal.τ).loc Cert.PrepareReferenceIdeal.main_arg3))
      (refAll (m' ((c.tc : Thread Cert.PrepareReferenceIdeal.nD Cert.PrepareReferenceIdeal.τ).loc Cert.PrepareReferenceIdeal.main_arg0))
        (m' ((c.tc : Thread Cert.PrepareReferenceIdeal.nD Cert.PrepareReferenceIdeal.τ).loc Cert.PrepareReferenceIdeal.main_arg2))
        (m' ((c.tc : Thread Cert.PrepareReferenceIdeal.nD Cert.PrepareReferenceIdeal.τ).loc Cert.PrepareReferenceIdeal.main_arg4))
        (m' ((c.tc : Thread Cert.PrepareReferenceIdeal.nD Cert.PrepareReferenceIdeal.τ).loc Cert.PrepareReferenceIdeal.main_arg5))) = _
    rw [e0, e1, e2, e3, e4, e5]
    exact refWeighted_value _ _ _ _ _ _ _ _ _ _ (fun b s d => hx c _) (fun s => hg c _) (fun s => rfl) (fun k d => he c _)
  · show _ = (dat1 (V2 m ρ) c).arrAt 9 cfg1.N
    rw [kernel_table m ρ c (fun b s d => x c (ix3 b s d)) (fun s => g c (ix1 s)) (fun s => m ((c.tc : Thread nD τ).loc main_arg5) (ix1 s)) (fun k d => e c (ix2 k d))
      (fun b s d => hx c _) (fun s => hg c _) (fun s => rfl) (fun k d => he c _), text_all]
    show refTable (refAll (m' ((c.tc : Thread Cert.PrepareReferenceIdeal.nD Cert.PrepareReferenceIdeal.τ).loc Cert.PrepareReferenceIdeal.main_arg0))
        (m' ((c.tc : Thread Cert.PrepareReferenceIdeal.nD Cert.PrepareReferenceIdeal.τ).loc Cert.PrepareReferenceIdeal.main_arg2))
        (m' ((c.tc : Thread Cert.PrepareReferenceIdeal.nD Cert.PrepareReferenceIdeal.τ).loc Cert.PrepareReferenceIdeal.main_arg4))
        (m' ((c.tc : Thread Cert.PrepareReferenceIdeal.nD Cert.PrepareReferenceIdeal.τ).loc Cert.PrepareReferenceIdeal.main_arg5))) = _
    rw [e0, e2, e4, e5]
    exact refTable_value _ _ _ _ _ _ _ _ (fun b s d => hx c _) (fun s => hg c _) (fun s => rfl) (fun k d => he c _)
  · show _ = (dat1 (V2 m ρ) c).arrAt 10 cfg1.N
    rw [kernel_rows]
    show refRows (m' ((c.tc : Thread Cert.PrepareReferenceIdeal.nD Cert.PrepareReferenceIdeal.τ).loc Cert.PrepareReferenceIdeal.main_arg6)) = _
    rw [e6]
    exact refRows_value _

end Cert.Proof.Prepare
-- ==== Proof.lean ====
/-
  The proof of `Cert.Claim`: the row gather of the kernel's SparseCore call runs, ends quiescent, and leaves the rows that its
  reference gathers, bit for bit and over the extended reals. The run is proved once, for any float values, in `Proof.Launch`.
  The last TensorCore call is a program of its own: it runs, and over the extended reals its two numbers are its reference's.
  So is the reducing call, of which the updated features and the third number are claimed. The two calls before the gather are
  one program.
-/
module

public import proofs.«01_k».proof.Defs
public import proofs.«01_k».proof.Proof.Value
public import proofs.«01_k».proof.Proof.FinalValue
public import proofs.«01_k».proof.Proof.Gen.FinalReferenceIdeal.Run
public import proofs.«01_k».proof.Proof.Gen.FinalIdeal.Value
public import proofs.«01_k».proof.Proof.Gen.Final.Frame
public import proofs.«01_k».proof.Proof.Gen.FinalIdeal.Frame
public import proofs.«01_k».proof.Proof.Gen.Pre_finite
public import proofs.«01_k».proof.Proof.ReduceResults
public import proofs.«01_k».proof.Proof.Gen.ReduceReferenceIdeal.Run
public import proofs.«01_k».proof.Proof.Gen.ReduceIdeal.Value
public import proofs.«01_k».proof.Proof.Gen.Reduce.Frame
public import proofs.«01_k».proof.Proof.Gen.ReduceIdeal.Frame
public import proofs.«01_k».proof.Proof.Gen.Pre_listed
public import proofs.«01_k».proof.Proof.Gen.Pre_sensors
public import proofs.«01_k».proof.Proof.PrepareResults
public import proofs.«01_k».proof.Proof.Gen.Prepare.Frame
public import proofs.«01_k».proof.Proof.Gen.PrepareIdeal.Frame
public import proofs.«01_k».proof.Proof.Gen.PrepareReferenceIdeal.Run
public import proofs.«01_k».proof.Proof.Gen.Pre_drawn
public import proofs.«01_k».proof.Proof.Gen.Pre_measured
public import proofs.«01_k».proof.Proof.Gen.Kernel
public import proofs.«01_k».proof.Proof.Gen.Kernel.Skeleton
public import proofs.«01_k».proof.Proof.Gen.KernelIdeal
public import proofs.«01_k».proof.Proof.Gen.Reference.Run
public import proofs.«01_k».proof.Proof.Gen.ReferenceIdeal.Run
public import proofs.«01_k».proof.Proof.Gen.KernelIdeal.Skeleton
public import proofs.«01_k».proof.Proof.Gen.ReferenceIdeal
public import proofs.«01_k».proof.Proof.Gen.Reference
public import proofs.«01_k».proof.Proof.Gen.Pre_in_range
public import Idealize.ShloMosaic.Adequacy
public import Idealize.ShloMosaic.Init

@[expose] public section

noncomputable section

namespace Cert.Proof

open Idealize.ShloMosaic Idealize.SL.Sem
open Cert.Proof.Rows

theorem frame_kernel [Cert.Pre_in_range.Facts] : Cert.quiescent_Kernel := fun m ρ h =>
  (θ_run Cert.KernelIdeal.defs _ _).mono (fun _ h => ⟨fun c => ⟨(h.1 c).1, (h.1 c).2.1⟩, h.2⟩) (run_main (F := Bits) m ρ (preOK m h))

theorem frame_kernel_ideal : Cert.quiescent_KernelIdeal := fun m ρ h =>
  (θ_run Cert.KernelIdeal.defs _ _).mono (fun _ h => ⟨fun c => ⟨(h.1 c).1, (h.1 c).2.1⟩, h.2⟩) (run_main (F := Ideal) m ρ (preOK m h))

theorem frame_reference_ideal : Cert.quiescent_ReferenceIdeal := fun m ρ _ =>
  (θ_run Cert.ReferenceIdeal.defs _ _).mono (fun _ h => ⟨fun c => (h.1 c).2, h.2⟩) (refIdeal_run (F := Ideal) m ρ)

theorem frame_reference_ideal_pre : Cert.quiescent_ReferenceIdeal_pre_in_range := fun m ρ _ =>
  (θ_run Cert.ReferenceIdeal.defs _ _).mono (fun _ h => ⟨fun c => (h.1 c).2, h.2⟩) (refIdeal_run (F := Ideal) m ρ)

theorem frame_reference : Cert.quiescent_Reference := fun m ρ _ =>
  (θ_run Cert.Reference.defs _ _).mono (fun _ h => ⟨fun c => (h.1 c).2, h.2⟩) (ref_run (F := Bits) m ρ)

theorem value_ideal : Cert.algebraic_KernelIdeal_ReferenceIdeal := fun m ρ m' ρ' hp hm =>
  ⟨fun c => gathered (fx m c) (fi m c),
    (θ_run Cert.KernelIdeal.defs _ _).mono (fun _ h c => ⟨(h.1 c).2.2, (h.1 c).1, (h.1 c).2.1⟩) (run_main (F := Ideal) m ρ (preOK m hp)),
    (θ_run Cert.ReferenceIdeal.defs _ _).mono (fun _ h c => ⟨((h.1 c).1 (by rw [(hm c).2]; exact small_of_pre _ _ (hp c))).trans
      (by rw [(hm c).1, (hm c).2]; exact (congrArg₂ gathered (fx_eq m c) (fi_eq m c)).symm), (h.1 c).2⟩) (refIdeal_run (F := Ideal) m' ρ')⟩

theorem value_bits : Cert.bitexact_Kernel_Reference := fun m ρ m' ρ' hp hm =>
  ⟨fun c => gathered (fx m c) (fi m c),
    (θ_run Cert.KernelIdeal.defs _ _).mono (fun _ h c => ⟨(h.1 c).2.2, (h.1 c).1, (h.1 c).2.1⟩) (run_main (F := Bits) m ρ (preOK m hp)),
    (θ_run Cert.Reference.defs _ _).mono (fun _ h c => ⟨((h.1 c).1 (by rw [(hm c).2]; exact small_of_pre _ _ (hp c))).trans
      (by rw [(hm c).1, (hm c).2]; exact (congrArg₂ gathered (fx_eq m c) (fi_eq m c)).symm), (h.1 c).2⟩) (ref_run (F := Bits) m' ρ')⟩

theorem frame_final : Cert.quiescent_Final := fun m ρ _ => Cert.Final.Gen.frame (F := Bits) m ρ

theorem frame_final_ideal : Cert.quiescent_FinalIdeal := fun m ρ _ => Cert.FinalIdeal.Gen.frame (F := Ideal) m ρ

theorem frame_final_ideal_pre : Cert.quiescent_FinalIdeal_pre_finite (hPre_finite := Cert.Pre_finite.Gen.facts) :=
  fun m ρ _ => Cert.FinalIdeal.Gen.frame (F := Ideal) m ρ

theorem frame_final_reference : Cert.quiescent_FinalReferenceIdeal := fun m ρ _ =>
  (θ_run Cert.FinalReferenceIdeal.defs _ _).mono
    (fun r h => ⟨fun c => ⟨(h c).2.2.1, (h c).2.2.2.1, (h c).2.2.2.2⟩, sem_eq_zero_of_no_sems rfl r.2⟩)
    (Cert.FinalReferenceIdeal.Value.run (F := Ideal) m ρ)

theorem frame_final_reference_pre : Cert.quiescent_FinalReferenceIdeal_pre_finite (hPre_finite := Cert.Pre_finite.Gen.facts) := fun m ρ _ =>
  (θ_run Cert.FinalReferenceIdeal.defs _ _).mono
    (fun r h => ⟨fun c => ⟨(h c).2.2.1, (h c).2.2.2.1, (h c).2.2.2.2⟩, sem_eq_zero_of_no_sems rfl r.2⟩)
    (Cert.FinalReferenceIdeal.Value.run (F := Ideal) m ρ)

theorem frame_reduce : Cert.quiescent_Reduce (hPre_listed := Cert.Pre_listed.Gen.facts) := fun m ρ _ => Cert.Reduce.Gen.frame (F := Bits) m ρ

theorem frame_reduce_ideal : Cert.quiescent_ReduceIdeal (hPre_listed := Cert.Pre_listed.Gen.facts) :=
  fun m ρ _ => Cert.ReduceIdeal.Gen.frame (F := Ideal) m ρ

theorem frame_reduce_ideal_pre : Cert.quiescent_ReduceIdeal_pre_sensors (hPre_sensors := Cert.Pre_sensors.Gen.facts) :=
  fun m ρ _ => Cert.ReduceIdeal.Gen.frame (F := Ideal) m ρ

theorem frame_reduce_reference : Cert.quiescent_ReduceReferenceIdeal := fun m ρ _ =>
  (θ_run Cert.ReduceReferenceIdeal.defs _ _).mono
    (fun r h => ⟨fun c => ⟨(h c).2.2.1, (h c).2.2.2.1, (h c).2.2.2.2⟩, sem_eq_zero_of_no_sems rfl r.2⟩)
    (Cert.ReduceReferenceIdeal.Value.run (F := Ideal) m ρ)

theorem frame_reduce_reference_pre : Cert.quiescent_ReduceReferenceIdeal_pre_sensors (hPre_sensors := Cert.Pre_sensors.Gen.facts) := fun m ρ _ =>
  (θ_run Cert.ReduceReferenceIdeal.defs _ _).mono
    (fun r h => ⟨fun c => ⟨(h c).2.2.1, (h c).2.2.2.1, (h c).2.2.2.2⟩, sem_eq_zero_of_no_sems rfl r.2⟩)
    (Cert.ReduceReferenceIdeal.Value.run (F := Ideal) m ρ)

theorem frame_prepare : Cert.quiescent_Prepare (hPre_drawn := Cert.Pre_drawn.Gen.facts) := fun m ρ _ => Cert.Prepare.Gen.frame (F := Bits) m ρ

theorem frame_prepare_ideal : Cert.quiescent_PrepareIdeal (hPre_drawn := Cert.Pre_drawn.Gen.facts) :=
  fun m ρ _ => Cert.PrepareIdeal.Gen.frame (F := Ideal) m ρ

theorem frame_prepare_ideal_pre : Cert.quiescent_PrepareIdeal_pre_measured (hPre_measured := Cert.Pre_measured.Gen.facts) :=
  fun m ρ _ => Cert.PrepareIdeal.Gen.frame (F := Ideal) m ρ

theorem frame_prepare_reference : Cert.quiescent_PrepareReferenceIdeal := fun m ρ _ =>
  (θ_run Cert.PrepareReferenceIdeal.defs _ _).mono (fun r h => ⟨fun c => (h c).2.2.2, sem_eq_zero_of_no_sems rfl r.2⟩)
    (Cert.PrepareReferenceIdeal.Value.run (F := Ideal) m ρ)

theorem frame_prepare_reference_pre : Cert.quiescent_PrepareReferenceIdeal_pre_measured (hPre_measured := Cert.Pre_measured.Gen.facts) := fun m ρ _ =>
  (θ_run Cert.PrepareReferenceIdeal.defs _ _).mono (fun r h => ⟨fun c => (h c).2.2.2, sem_eq_zero_of_no_sems rfl r.2⟩)
    (Cert.PrepareReferenceIdeal.Value.run (F := Ideal) m ρ)

theorem claim : Cert.Claim := ⟨Cert.Kernel.Gen.facts, Cert.KernelIdeal.Gen.facts, Cert.ReferenceIdeal.Gen.facts, Cert.Reference.Gen.facts,
  Cert.Final.Gen.facts, Cert.FinalIdeal.Gen.facts, Cert.FinalReferenceIdeal.Gen.facts,
  Cert.Reduce.Gen.facts, Cert.ReduceIdeal.Gen.facts, Cert.ReduceReferenceIdeal.Gen.facts,
  Cert.Prepare.Gen.facts, Cert.PrepareIdeal.Gen.facts, Cert.PrepareReferenceIdeal.Gen.facts,
  Cert.Pre_in_range.Gen.facts, Cert.Pre_finite.Gen.facts, Cert.Pre_listed.Gen.facts, Cert.Pre_sensors.Gen.facts,
  Cert.Pre_drawn.Gen.facts, Cert.Pre_measured.Gen.facts,
  frame_kernel, frame_kernel_ideal, frame_reference_ideal, frame_reference_ideal_pre, frame_reference,
  frame_final, frame_final_ideal, frame_final_ideal_pre, frame_final_reference, frame_final_reference_pre,
  frame_reduce, frame_reduce_ideal, frame_reduce_ideal_pre, frame_reduce_reference, frame_reduce_reference_pre,
  frame_prepare, frame_prepare_ideal, frame_prepare_ideal_pre, frame_prepare_reference, frame_prepare_reference_pre,
  trivial, value_ideal, value_bits, trivial, Final.value, trivial, Reduce.value, trivial, Prepare.value⟩

end Cert.Proof

end
